-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite_rows [hPre_finite_rows : Cert.Pre_finite_rows.Facts] (m : (ℓ : Loc Cert.QkvIdeal.nD Cert.QkvIdeal.τ Cert.QkvIdeal.sig) → Buf (Elt Ideal) ℓ) : Prop :=
  ∀ c : Dev Cert.QkvIdeal.nD,
    (Cert.Pre_finite_rows.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))) = (fun _ => 1#1)

def Pre_RefQIdeal (m : (ℓ : Loc Cert.RefQIdeal.nD Cert.RefQIdeal.τ Cert.RefQIdeal.sig) → Buf (Elt Ideal) ℓ) : Prop :=
  True

def Pre_RefQIdeal_finite_rows [hPre_finite_rows : Cert.Pre_finite_rows.Facts] (m : (ℓ : Loc Cert.RefQIdeal.nD Cert.RefQIdeal.τ Cert.RefQIdeal.sig) → Buf (Elt Ideal) ℓ) : Prop :=
  ∀ c : Dev Cert.RefQIdeal.nD,
    (Cert.Pre_finite_rows.fn (F := Ideal) (m ((c.tc : Thread Cert.RefQIdeal.nD Cert.RefQIdeal.τ).loc Cert.RefQIdeal.main_arg0)) (m ((c.tc : Thread Cert.RefQIdeal.nD Cert.RefQIdeal.τ).loc Cert.RefQIdeal.main_arg1)) (m ((c.tc : Thread Cert.RefQIdeal.nD Cert.RefQIdeal.τ).loc Cert.RefQIdeal.main_arg2)) (m ((c.tc : Thread Cert.RefQIdeal.nD Cert.RefQIdeal.τ).loc Cert.RefQIdeal.main_arg3)) (m ((c.tc : Thread Cert.RefQIdeal.nD Cert.RefQIdeal.τ).loc Cert.RefQIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_RefAIdeal (m : (ℓ : Loc Cert.RefAIdeal.nD Cert.RefAIdeal.τ Cert.RefAIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojIdeal_finite_attn [hPre_finite_attn : Cert.Pre_finite_attn.Facts] (m : (ℓ : Loc Cert.OprojIdeal.nD Cert.OprojIdeal.τ Cert.OprojIdeal.sig) → Buf (Elt Ideal) ℓ) : Prop :=
  ∀ c : Dev Cert.OprojIdeal.nD,
    (Cert.Pre_finite_attn.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3))) = (fun _ => 1#1)

def Pre_RefOIdeal (m : (ℓ : Loc Cert.RefOIdeal.nD Cert.RefOIdeal.τ Cert.RefOIdeal.sig) → Buf (Elt Ideal) ℓ) : Prop :=
  True

def Pre_RefOIdeal_finite_attn [hPre_finite_attn : Cert.Pre_finite_attn.Facts] (m : (ℓ : Loc Cert.RefOIdeal.nD Cert.RefOIdeal.τ Cert.RefOIdeal.sig) → Buf (Elt Ideal) ℓ) : Prop :=
  ∀ c : Dev Cert.RefOIdeal.nD,
    (Cert.Pre_finite_attn.fn (F := Ideal) (m ((c.tc : Thread Cert.RefOIdeal.nD Cert.RefOIdeal.τ).loc Cert.RefOIdeal.main_arg0)) (m ((c.tc : Thread Cert.RefOIdeal.nD Cert.RefOIdeal.τ).loc Cert.RefOIdeal.main_arg1)) (m ((c.tc : Thread Cert.RefOIdeal.nD Cert.RefOIdeal.τ).loc Cert.RefOIdeal.main_arg2)) (m ((c.tc : Thread Cert.RefOIdeal.nD Cert.RefOIdeal.τ).loc Cert.RefOIdeal.main_arg3))) = (fun _ => 1#1)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvIdeal_pre_finite_rows [hQkvIdeal : Cert.QkvIdeal.Facts] [hPre_finite_rows : Cert.Pre_finite_rows.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite_rows m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_RefQIdeal [hRefQIdeal : Cert.RefQIdeal.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2)
      ∧ r.2.mem ((c.tc : Thread Cert.RefQIdeal.nD Cert.RefQIdeal.τ).loc Cert.RefQIdeal.main_arg3) = m ((c.tc : Thread Cert.RefQIdeal.nD Cert.RefQIdeal.τ).loc Cert.RefQIdeal.main_arg3)
      ∧ r.2.mem ((c.tc : Thread Cert.RefQIdeal.nD Cert.RefQIdeal.τ).loc Cert.RefQIdeal.main_arg4) = m ((c.tc : Thread Cert.RefQIdeal.nD Cert.RefQIdeal.τ).loc Cert.RefQIdeal.main_arg4))
      ∧ r.2.sem = fun _ => 0)

def quiescent_RefQIdeal_pre_finite_rows [hRefQIdeal : Cert.RefQIdeal.Facts] [hPre_finite_rows : Cert.Pre_finite_rows.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal_finite_rows m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2)
      ∧ r.2.mem ((c.tc : Thread Cert.RefQIdeal.nD Cert.RefQIdeal.τ).loc Cert.RefQIdeal.main_arg3) = m ((c.tc : Thread Cert.RefQIdeal.nD Cert.RefQIdeal.τ).loc Cert.RefQIdeal.main_arg3)
      ∧ r.2.mem ((c.tc : Thread Cert.RefQIdeal.nD Cert.RefQIdeal.τ).loc Cert.RefQIdeal.main_arg4) = m ((c.tc : Thread Cert.RefQIdeal.nD Cert.RefQIdeal.τ).loc Cert.RefQIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_RefAIdeal [hRefAIdeal : Cert.RefAIdeal.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1)
      ∧ r.2.mem ((c.tc : Thread Cert.RefAIdeal.nD Cert.RefAIdeal.τ).loc Cert.RefAIdeal.main_arg2) = m ((c.tc : Thread Cert.RefAIdeal.nD Cert.RefAIdeal.τ).loc Cert.RefAIdeal.main_arg2)
      ∧ r.2.mem ((c.tc : Thread Cert.RefAIdeal.nD Cert.RefAIdeal.τ).loc Cert.RefAIdeal.main_arg3) = m ((c.tc : Thread Cert.RefAIdeal.nD Cert.RefAIdeal.τ).loc Cert.RefAIdeal.main_arg3)
      ∧ r.2.mem ((c.tc : Thread Cert.RefAIdeal.nD Cert.RefAIdeal.τ).loc Cert.RefAIdeal.main_arg4) = m ((c.tc : Thread Cert.RefAIdeal.nD Cert.RefAIdeal.τ).loc Cert.RefAIdeal.main_arg4)
      ∧ r.2.mem ((c.tc : Thread Cert.RefAIdeal.nD Cert.RefAIdeal.τ).loc Cert.RefAIdeal.main_arg5) = m ((c.tc : Thread Cert.RefAIdeal.nD Cert.RefAIdeal.τ).loc Cert.RefAIdeal.main_arg5)
      ∧ r.2.mem ((c.tc : Thread Cert.RefAIdeal.nD Cert.RefAIdeal.τ).loc Cert.RefAIdeal.main_arg6) = m ((c.tc : Thread Cert.RefAIdeal.nD Cert.RefAIdeal.τ).loc Cert.RefAIdeal.main_arg6))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojIdeal_pre_finite_attn [hOprojIdeal : Cert.OprojIdeal.Facts] [hPre_finite_attn : Cert.Pre_finite_attn.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal_finite_attn m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_RefOIdeal [hRefOIdeal : Cert.RefOIdeal.Facts] : Prop :=
  ∀ (m : (ℓ : Loc Cert.RefOIdeal.nD Cert.RefOIdeal.τ Cert.RefOIdeal.sig) → Buf (Elt Ideal) ℓ) (g : Dev Cert.RefOIdeal.nD → PrngReg), Pre_RefOIdeal m →
    θ_run (Cert.RefOIdeal.defs (F := Ideal)) (onTc (τ := Cert.RefOIdeal.τ) (Cert.RefOIdeal.main (F := Ideal))) ⟨m, fun _ => 0, g⟩ (fun r => (∀ c : Dev Cert.RefOIdeal.nD,
      r.2.mem ((c.tc : Thread Cert.RefOIdeal.nD Cert.RefOIdeal.τ).loc Cert.RefOIdeal.main_arg0) = m ((c.tc : Thread Cert.RefOIdeal.nD Cert.RefOIdeal.τ).loc Cert.RefOIdeal.main_arg0)
      ∧ r.2.mem ((c.tc : Thread Cert.RefOIdeal.nD Cert.RefOIdeal.τ).loc Cert.RefOIdeal.main_arg1) = m ((c.tc : Thread Cert.RefOIdeal.nD Cert.RefOIdeal.τ).loc Cert.RefOIdeal.main_arg1)
      ∧ r.2.mem ((c.tc : Thread Cert.RefOIdeal.nD Cert.RefOIdeal.τ).loc Cert.RefOIdeal.main_arg2) = m ((c.tc : Thread Cert.RefOIdeal.nD Cert.RefOIdeal.τ).loc Cert.RefOIdeal.main_arg2)
      ∧ r.2.mem ((c.tc : Thread Cert.RefOIdeal.nD Cert.RefOIdeal.τ).loc Cert.RefOIdeal.main_arg3) = m ((c.tc : Thread Cert.RefOIdeal.nD Cert.RefOIdeal.τ).loc Cert.RefOIdeal.main_arg3))
      ∧ r.2.sem = fun _ => 0)

def quiescent_RefOIdeal_pre_finite_attn [hRefOIdeal : Cert.RefOIdeal.Facts] [hPre_finite_attn : Cert.Pre_finite_attn.Facts] : Prop :=
  ∀ (m : (ℓ : Loc Cert.RefOIdeal.nD Cert.RefOIdeal.τ Cert.RefOIdeal.sig) → Buf (Elt Ideal) ℓ) (g : Dev Cert.RefOIdeal.nD → PrngReg), Pre_RefOIdeal_finite_attn m →
    θ_run (Cert.RefOIdeal.defs (F := Ideal)) (onTc (τ := Cert.RefOIdeal.τ) (Cert.RefOIdeal.main (F := Ideal))) ⟨m, fun _ => 0, g⟩ (fun r => (∀ c : Dev Cert.RefOIdeal.nD,
      r.2.mem ((c.tc : Thread Cert.RefOIdeal.nD Cert.RefOIdeal.τ).loc Cert.RefOIdeal.main_arg0) = m ((c.tc : Thread Cert.RefOIdeal.nD Cert.RefOIdeal.τ).loc Cert.RefOIdeal.main_arg0)
      ∧ r.2.mem ((c.tc : Thread Cert.RefOIdeal.nD Cert.RefOIdeal.τ).loc Cert.RefOIdeal.main_arg1) = m ((c.tc : Thread Cert.RefOIdeal.nD Cert.RefOIdeal.τ).loc Cert.RefOIdeal.main_arg1)
      ∧ r.2.mem ((c.tc : Thread Cert.RefOIdeal.nD Cert.RefOIdeal.τ).loc Cert.RefOIdeal.main_arg2) = m ((c.tc : Thread Cert.RefOIdeal.nD Cert.RefOIdeal.τ).loc Cert.RefOIdeal.main_arg2)
      ∧ r.2.mem ((c.tc : Thread Cert.RefOIdeal.nD Cert.RefOIdeal.τ).loc Cert.RefOIdeal.main_arg3) = m ((c.tc : Thread Cert.RefOIdeal.nD Cert.RefOIdeal.τ).loc Cert.RefOIdeal.main_arg3))
      ∧ r.2.sem = fun _ => 0)

def preserves_Qkv_QkvIdeal : Prop :=
  True

def algebraic_QkvIdeal_RefQIdeal_pre_finite_rows [hQkvIdeal : Cert.QkvIdeal.Facts] [hRefQIdeal : Cert.RefQIdeal.Facts] [hPre_finite_rows : Cert.Pre_finite_rows.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.RefQIdeal.nD Cert.RefQIdeal.τ Cert.RefQIdeal.sig) → Buf (Elt Ideal) ℓ) (g' : Dev Cert.RefQIdeal.nD → PrngReg), Pre_QkvIdeal_finite_rows m →
    (∀ c : Dev Cert.QkvIdeal.nD,
      m' ((c.tc : Thread Cert.RefQIdeal.nD Cert.RefQIdeal.τ).loc Cert.RefQIdeal.main_arg0) = m ((c.tc : Thread Cert.QkvIdeal.nD Cert.QkvIdeal.τ).loc Cert.QkvIdeal.main_arg0)
      ∧ m' ((c.tc : Thread Cert.RefQIdeal.nD Cert.RefQIdeal.τ).loc Cert.RefQIdeal.main_arg1) = m ((c.tc : Thread Cert.QkvIdeal.nD Cert.QkvIdeal.τ).loc Cert.QkvIdeal.main_arg1)
      ∧ m' ((c.tc : Thread Cert.RefQIdeal.nD Cert.RefQIdeal.τ).loc Cert.RefQIdeal.main_arg2) = m ((c.tc : Thread Cert.QkvIdeal.nD Cert.QkvIdeal.τ).loc Cert.QkvIdeal.main_arg2)
      ∧ m' ((c.tc : Thread Cert.RefQIdeal.nD Cert.RefQIdeal.τ).loc Cert.RefQIdeal.main_arg3) = m ((c.tc : Thread Cert.QkvIdeal.nD Cert.QkvIdeal.τ).loc Cert.QkvIdeal.main_arg3)
      ∧ m' ((c.tc : Thread Cert.RefQIdeal.nD Cert.RefQIdeal.τ).loc Cert.RefQIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)) (v5 : (c : Dev Cert.QkvIdeal.nD) → Buf (Elt Ideal) ((c.tc : Thread Cert.QkvIdeal.nD Cert.QkvIdeal.τ).loc Cert.QkvIdeal.main_v0_5)) (v6 : (c : Dev Cert.QkvIdeal.nD) → Buf (Elt Ideal) ((c.tc : Thread Cert.QkvIdeal.nD Cert.QkvIdeal.τ).loc Cert.QkvIdeal.main_v0_6)) (v7 : (c : Dev Cert.QkvIdeal.nD) → Buf (Elt Ideal) ((c.tc : Thread Cert.QkvIdeal.nD Cert.QkvIdeal.τ).loc Cert.QkvIdeal.main_v0_7)) (v8 : (c : Dev Cert.QkvIdeal.nD) → Buf (Elt Ideal) ((c.tc : Thread Cert.QkvIdeal.nD Cert.QkvIdeal.τ).loc Cert.QkvIdeal.main_v0_8)) (v9 : (c : Dev Cert.QkvIdeal.nD) → Buf (Elt Ideal) ((c.tc : Thread Cert.QkvIdeal.nD Cert.QkvIdeal.τ).loc Cert.QkvIdeal.main_v0_9)) (v10 : (c : Dev Cert.QkvIdeal.nD) → Buf (Elt Ideal) ((c.tc : Thread Cert.QkvIdeal.nD Cert.QkvIdeal.τ).loc Cert.QkvIdeal.main_v0_10)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_v0_5) = v5 c
          ∧ r.2.mem ((c.tc : Thread Cert.QkvIdeal.nD Cert.QkvIdeal.τ).loc Cert.QkvIdeal.main_v0_6) = v6 c
          ∧ r.2.mem ((c.tc : Thread Cert.QkvIdeal.nD Cert.QkvIdeal.τ).loc Cert.QkvIdeal.main_v0_7) = v7 c
          ∧ r.2.mem ((c.tc : Thread Cert.QkvIdeal.nD Cert.QkvIdeal.τ).loc Cert.QkvIdeal.main_v0_8) = v8 c
          ∧ r.2.mem ((c.tc : Thread Cert.QkvIdeal.nD Cert.QkvIdeal.τ).loc Cert.QkvIdeal.main_v0_9) = v9 c
          ∧ r.2.mem ((c.tc : Thread Cert.QkvIdeal.nD Cert.QkvIdeal.τ).loc Cert.QkvIdeal.main_v0_10) = v10 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.RefQIdeal.defs (F := Ideal)) (onTc (τ := Cert.RefQIdeal.τ) (Cert.RefQIdeal.main (F := Ideal))) ⟨m', fun _ => 0, g'⟩ (fun r => ∀ c : Dev Cert.RefQIdeal.nD,
          r.2.mem ((c.tc : Thread Cert.RefQIdeal.nD Cert.RefQIdeal.τ).loc Cert.RefQIdeal.main_v30) = v0 c
          ∧ r.2.mem ((c.tc : Thread Cert.RefQIdeal.nD Cert.RefQIdeal.τ).loc Cert.RefQIdeal.main_v181) = v1 c
          ∧ r.2.mem ((c.tc : Thread Cert.RefQIdeal.nD Cert.RefQIdeal.τ).loc Cert.RefQIdeal.main_v183) = v2 c
          ∧ r.2.mem ((c.tc : Thread Cert.RefQIdeal.nD Cert.RefQIdeal.τ).loc Cert.RefQIdeal.main_v184) = v3 c
          ∧ r.2.mem ((c.tc : Thread Cert.RefQIdeal.nD Cert.RefQIdeal.τ).loc Cert.RefQIdeal.main_v185) = v4 c
          ∧ r.2.mem ((c.tc : Thread Cert.RefQIdeal.nD Cert.RefQIdeal.τ).loc Cert.RefQIdeal.main_v186) = v5 c
          ∧ r.2.mem ((c.tc : Thread Cert.RefQIdeal.nD Cert.RefQIdeal.τ).loc Cert.RefQIdeal.main_v187) = v6 c
          ∧ r.2.mem ((c.tc : Thread Cert.RefQIdeal.nD Cert.RefQIdeal.τ).loc Cert.RefQIdeal.main_v128) = v7 c
          ∧ r.2.mem ((c.tc : Thread Cert.RefQIdeal.nD Cert.RefQIdeal.τ).loc Cert.RefQIdeal.main_v119) = v8 c
          ∧ r.2.mem ((c.tc : Thread Cert.RefQIdeal.nD Cert.RefQIdeal.τ).loc Cert.RefQIdeal.main_v160) = v9 c
          ∧ r.2.mem ((c.tc : Thread Cert.RefQIdeal.nD Cert.RefQIdeal.τ).loc Cert.RefQIdeal.main_v151) = v10 c
          ∧ r.2.mem ((c.tc : Thread Cert.RefQIdeal.nD Cert.RefQIdeal.τ).loc Cert.RefQIdeal.main_arg0) = m' ((c.tc : Thread Cert.RefQIdeal.nD Cert.RefQIdeal.τ).loc Cert.RefQIdeal.main_arg0)
          ∧ r.2.mem ((c.tc : Thread Cert.RefQIdeal.nD Cert.RefQIdeal.τ).loc Cert.RefQIdeal.main_arg1) = m' ((c.tc : Thread Cert.RefQIdeal.nD Cert.RefQIdeal.τ).loc Cert.RefQIdeal.main_arg1)
          ∧ r.2.mem ((c.tc : Thread Cert.RefQIdeal.nD Cert.RefQIdeal.τ).loc Cert.RefQIdeal.main_arg2) = m' ((c.tc : Thread Cert.RefQIdeal.nD Cert.RefQIdeal.τ).loc Cert.RefQIdeal.main_arg2)
          ∧ r.2.mem ((c.tc : Thread Cert.RefQIdeal.nD Cert.RefQIdeal.τ).loc Cert.RefQIdeal.main_arg3) = m' ((c.tc : Thread Cert.RefQIdeal.nD Cert.RefQIdeal.τ).loc Cert.RefQIdeal.main_arg3)
          ∧ r.2.mem ((c.tc : Thread Cert.RefQIdeal.nD Cert.RefQIdeal.τ).loc Cert.RefQIdeal.main_arg4) = m' ((c.tc : Thread Cert.RefQIdeal.nD Cert.RefQIdeal.τ).loc Cert.RefQIdeal.main_arg4))

def preserves_Attn_AttnIdeal : Prop :=
  IdealRules.named_const.Statement Cert.AttnIdeal.κ "scale" .f32 0x3E0293EE#32 ((143571859112449 / 1125899906842624 : ℝ) : EReal)

def preserves_Oproj_OprojIdeal : Prop :=
  True

def algebraic_OprojIdeal_RefOIdeal_pre_finite_attn [hOprojIdeal : Cert.OprojIdeal.Facts] [hRefOIdeal : Cert.RefOIdeal.Facts] [hPre_finite_attn : Cert.Pre_finite_attn.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.RefOIdeal.nD Cert.RefOIdeal.τ Cert.RefOIdeal.sig) → Buf (Elt Ideal) ℓ) (g' : Dev Cert.RefOIdeal.nD → PrngReg), Pre_OprojIdeal_finite_attn m →
    (∀ c : Dev Cert.OprojIdeal.nD,
      m' ((c.tc : Thread Cert.RefOIdeal.nD Cert.RefOIdeal.τ).loc Cert.RefOIdeal.main_arg0) = m ((c.tc : Thread Cert.OprojIdeal.nD Cert.OprojIdeal.τ).loc Cert.OprojIdeal.main_arg0)
      ∧ m' ((c.tc : Thread Cert.RefOIdeal.nD Cert.RefOIdeal.τ).loc Cert.RefOIdeal.main_arg1) = m ((c.tc : Thread Cert.OprojIdeal.nD Cert.OprojIdeal.τ).loc Cert.OprojIdeal.main_arg1)
      ∧ m' ((c.tc : Thread Cert.RefOIdeal.nD Cert.RefOIdeal.τ).loc Cert.RefOIdeal.main_arg2) = m ((c.tc : Thread Cert.OprojIdeal.nD Cert.OprojIdeal.τ).loc Cert.OprojIdeal.main_arg2)
      ∧ m' ((c.tc : Thread Cert.RefOIdeal.nD Cert.RefOIdeal.τ).loc Cert.RefOIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)) (v2 : (c : Dev Cert.OprojIdeal.nD) → Buf (Elt Ideal) ((c.tc : Thread Cert.OprojIdeal.nD Cert.OprojIdeal.τ).loc Cert.OprojIdeal.main_v0_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_v0_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.RefOIdeal.defs (F := Ideal)) (onTc (τ := Cert.RefOIdeal.τ) (Cert.RefOIdeal.main (F := Ideal))) ⟨m', fun _ => 0, g'⟩ (fun r => ∀ c : Dev Cert.RefOIdeal.nD,
          r.2.mem ((c.tc : Thread Cert.RefOIdeal.nD Cert.RefOIdeal.τ).loc Cert.RefOIdeal.main_v74) = v0 c
          ∧ r.2.mem ((c.tc : Thread Cert.RefOIdeal.nD Cert.RefOIdeal.τ).loc Cert.RefOIdeal.main_v39) = v1 c
          ∧ r.2.mem ((c.tc : Thread Cert.RefOIdeal.nD Cert.RefOIdeal.τ).loc Cert.RefOIdeal.main_v75) = v2 c
          ∧ r.2.mem ((c.tc : Thread Cert.RefOIdeal.nD Cert.RefOIdeal.τ).loc Cert.RefOIdeal.main_arg0) = m' ((c.tc : Thread Cert.RefOIdeal.nD Cert.RefOIdeal.τ).loc Cert.RefOIdeal.main_arg0)
          ∧ r.2.mem ((c.tc : Thread Cert.RefOIdeal.nD Cert.RefOIdeal.τ).loc Cert.RefOIdeal.main_arg1) = m' ((c.tc : Thread Cert.RefOIdeal.nD Cert.RefOIdeal.τ).loc Cert.RefOIdeal.main_arg1)
          ∧ r.2.mem ((c.tc : Thread Cert.RefOIdeal.nD Cert.RefOIdeal.τ).loc Cert.RefOIdeal.main_arg2) = m' ((c.tc : Thread Cert.RefOIdeal.nD Cert.RefOIdeal.τ).loc Cert.RefOIdeal.main_arg2)
          ∧ r.2.mem ((c.tc : Thread Cert.RefOIdeal.nD Cert.RefOIdeal.τ).loc Cert.RefOIdeal.main_arg3) = m' ((c.tc : Thread Cert.RefOIdeal.nD Cert.RefOIdeal.τ).loc Cert.RefOIdeal.main_arg3))

def Claim : Prop :=
  ∃ (hQkv : Cert.Qkv.Facts) (hQkvIdeal : Cert.QkvIdeal.Facts) (hRefQIdeal : Cert.RefQIdeal.Facts) (hAttn : Cert.Attn.Facts) (hAttnIdeal : Cert.AttnIdeal.Facts) (hRefAIdeal : Cert.RefAIdeal.Facts) (hOproj : Cert.Oproj.Facts) (hOprojIdeal : Cert.OprojIdeal.Facts) (hRefOIdeal : Cert.RefOIdeal.Facts) (hPre_finite_rows : Cert.Pre_finite_rows.Facts) (hPre_finite_attn : Cert.Pre_finite_attn.Facts),
    quiescent_Qkv (hQkv := hQkv)
    ∧ quiescent_QkvIdeal (hQkvIdeal := hQkvIdeal)
    ∧ quiescent_QkvIdeal_pre_finite_rows (hQkvIdeal := hQkvIdeal) (hPre_finite_rows := hPre_finite_rows)
    ∧ quiescent_RefQIdeal (hRefQIdeal := hRefQIdeal)
    ∧ quiescent_RefQIdeal_pre_finite_rows (hRefQIdeal := hRefQIdeal) (hPre_finite_rows := hPre_finite_rows)
    ∧ quiescent_Attn (hAttn := hAttn)
    ∧ quiescent_AttnIdeal (hAttnIdeal := hAttnIdeal)
    ∧ quiescent_RefAIdeal (hRefAIdeal := hRefAIdeal)
    ∧ quiescent_Oproj (hOproj := hOproj)
    ∧ quiescent_OprojIdeal (hOprojIdeal := hOprojIdeal)
    ∧ quiescent_OprojIdeal_pre_finite_attn (hOprojIdeal := hOprojIdeal) (hPre_finite_attn := hPre_finite_attn)
    ∧ quiescent_RefOIdeal (hRefOIdeal := hRefOIdeal)
    ∧ quiescent_RefOIdeal_pre_finite_attn (hRefOIdeal := hRefOIdeal) (hPre_finite_attn := hPre_finite_attn)
    ∧ preserves_Qkv_QkvIdeal
    ∧ algebraic_QkvIdeal_RefQIdeal_pre_finite_rows (hQkvIdeal := hQkvIdeal) (hRefQIdeal := hRefQIdeal) (hPre_finite_rows := hPre_finite_rows)
    ∧ preserves_Attn_AttnIdeal
    ∧ preserves_Oproj_OprojIdeal
    ∧ algebraic_OprojIdeal_RefOIdeal_pre_finite_attn (hOprojIdeal := hOprojIdeal) (hRefOIdeal := hRefOIdeal) (hPre_finite_attn := hPre_finite_attn)
-- ==== Pre_finite_attn.lean ====
abbrev S6144x4096 : Shape := ⟨2, ![6144, 4096]⟩
abbrev S2048x4096 : Shape := ⟨2, ![2048, 4096]⟩
abbrev S1x4096 : Shape := ⟨2, ![1, 4096]⟩
abbrev S_ : Shape := ⟨0, ![]⟩

class Facts : Prop where
  bcast_S_S6144x4096 : S_.BroadcastsInDim S6144x4096 (![] : Fin 0 → Fin S6144x4096.rank)

variable [Facts]

def fn {F : FTy → Type} [FloatOps F] (main_arg0 : FVec F S6144x4096 .f32) (main_arg1 : FVec F S6144x4096 .bf16) (main_arg2 : IVec S2048x4096 8) (main_arg3 : FVec F S1x4096 .f32) : IVec S6144x4096 1 :=
  let main_v0 : FVec F S6144x4096 .f32 := Host.absf main_arg0
  let main_cst : FVec F S_ .f32 := constant S_ .f32 0x7F800000#32
  let main_v1 : FVec F S6144x4096 .f32 := broadcastInDim S6144x4096 ![] bcast_S_S6144x4096 main_cst
  let main_v2 : IVec S6144x4096 1 := cmpf .olt main_v0 main_v1
  main_v2
-- ==== Pre_finite_rows.lean ====
abbrev S6144x4096 : Shape := ⟨2, ![6144, 4096]⟩
abbrev S2048x6144 : Shape := ⟨2, ![2048, 6144]⟩
abbrev S1x6144 : Shape := ⟨2, ![1, 6144]⟩
abbrev S6144x64 : Shape := ⟨2, ![6144, 64]⟩
abbrev S1x5120 : Shape := ⟨2, ![1, 5120]⟩
abbrev S80x1x64 : Shape := ⟨3, ![80, 1, 64]⟩
abbrev S_ : Shape := ⟨0, ![]⟩
abbrev S1x6144x64 : Shape := ⟨3, ![1, 6144, 64]⟩
abbrev S80x6144x64 : Shape := ⟨3, ![80, 6144, 64]⟩

class Facts : Prop where
  slices_S1x6144_S1x5120_0_0 : S1x6144.Slices ![0, 0] S1x5120
  shapeCasts_S1x5120_S80x1x64 : S1x5120.ShapeCasts S80x1x64
  bcast_S_S80x1x64 : S_.BroadcastsInDim S80x1x64 (![] : Fin 0 → Fin S80x1x64.rank)
  bcast_S6144x64_S1x6144x64_1_2 : S6144x64.BroadcastsInDim S1x6144x64 (![1, 2] : Fin 2 → Fin S1x6144x64.rank)
  bcast_S_S1x6144x64 : S_.BroadcastsInDim S1x6144x64 (![] : Fin 0 → Fin S1x6144x64.rank)
  bcast_S80x1x64_S80x6144x64_0_1_2 : S80x1x64.BroadcastsInDim S80x6144x64 (![0, 1, 2] : Fin 3 → Fin S80x6144x64.rank)
  bcast_S1x6144x64_S80x6144x64_0_1_2 : S1x6144x64.BroadcastsInDim S80x6144x64 (![0, 1, 2] : Fin 3 → Fin S80x6144x64.rank)

variable [Facts]

def fn {F : FTy → Type} [FloatOps F] (main_arg0 : FVec F S6144x4096 .bf16) (main_arg1 : IVec S2048x6144 8) (main_arg2 : FVec F S1x6144 .f32) (main_arg3 : FVec F S6144x64 .f32) (main_arg4 : FVec F S6144x64 .f32) : IVec S80x6144x64 1 :=
  let main_v0 : FVec F S1x5120 .f32 := (extractStridedSlice S1x5120 ![0, 0] · slices_S1x6144_S1x5120_0_0) main_arg2
  let main_v1 : FVec F S80x1x64 .f32 := shapeCast S80x1x64 main_v0 shapeCasts_S1x5120_S80x1x64
  let main_v2 : FVec F S80x1x64 .f32 := Host.absf main_v1
  let main_cst : FVec F S_ .f32 := constant S_ .f32 0x7F800000#32
  let main_v3 : FVec F S80x1x64 .f32 := broadcastInDim S80x1x64 ![] bcast_S_S80x1x64 main_cst
  let main_v4 : IVec S80x1x64 1 := cmpf .olt main_v2 main_v3
  let main_v5 : FVec F S6144x64 .f32 := Host.absf main_arg3
  let main_v6 : FVec F S1x6144x64 .f32 := broadcastInDim S1x6144x64 ![1, 2] bcast_S6144x64_S1x6144x64_1_2 main_v5
  let main_cst_0 : FVec F S_ .f32 := constant S_ .f32 0x7F800000#32
  let main_v7 : FVec F S1x6144x64 .f32 := broadcastInDim S1x6144x64 ![] bcast_S_S1x6144x64 main_cst_0
  let main_v8 : IVec S1x6144x64 1 := cmpf .olt main_v6 main_v7
  let main_v9 : IVec S80x6144x64 1 := broadcastInDim S80x6144x64 ![0, 1, 2] bcast_S80x1x64_S80x6144x64_0_1_2 main_v4
  let main_v10 : IVec S80x6144x64 1 := broadcastInDim S80x6144x64 ![0, 1, 2] bcast_S1x6144x64_S80x6144x64_0_1_2 main_v8
  let main_v11 : IVec S80x6144x64 1 := andi main_v9 main_v10
  let main_v12 : FVec F S6144x64 .f32 := Host.absf main_arg4
  let main_v13 : FVec F S1x6144x64 .f32 := broadcastInDim S1x6144x64 ![1, 2] bcast_S6144x64_S1x6144x64_1_2 main_v12
  let main_cst_1 : FVec F S_ .f32 := constant S_ .f32 0x7F800000#32
  let main_v14 : FVec F S1x6144x64 .f32 := broadcastInDim S1x6144x64 ![] bcast_S_S1x6144x64 main_cst_1
  let main_v15 : IVec S1x6144x64 1 := cmpf .olt main_v13 main_v14
  let main_v16 : IVec S80x6144x64 1 := broadcastInDim S80x6144x64 ![0, 1, 2] bcast_S1x6144x64_S80x6144x64_0_1_2 main_v15
  let main_v17 : IVec S80x6144x64 1 := andi main_v11 main_v16
  main_v17
-- ==== Qkv.lean ====
abbrev S6144x4096 : Shape := ⟨2, ![6144, 4096]⟩
abbrev S2048x6144 : Shape := ⟨2, ![2048, 6144]⟩
abbrev S1x6144 : Shape := ⟨2, ![1, 6144]⟩
abbrev S6144x64 : Shape := ⟨2, ![6144, 64]⟩
abbrev S128x128 : Shape := ⟨2, ![128, 128]⟩
abbrev S128x64 : Shape := ⟨2, ![128, 64]⟩
abbrev S6144x1 : Shape := ⟨2, ![6144, 1]⟩
abbrev S6144x1024 : Shape := ⟨2, ![6144, 1024]⟩
abbrev S6144x512 : Shape := ⟨2, ![6144, 512]⟩
abbrev S6144x8 : Shape := ⟨2, ![6144, 8]⟩
abbrev S512x4096 : Shape := ⟨2, ![512, 4096]⟩
abbrev S2048x1024 : Shape := ⟨2, ![2048, 1024]⟩
abbrev S1x1024 : Shape := ⟨2, ![1, 1024]⟩
abbrev S512x64 : Shape := ⟨2, ![512, 64]⟩
abbrev S512x1 : Shape := ⟨2, ![512, 1]⟩
abbrev S512x1024 : Shape := ⟨2, ![512, 1024]⟩
abbrev S512x512 : Shape := ⟨2, ![512, 512]⟩
abbrev S512x8 : Shape := ⟨2, ![512, 8]⟩
abbrev S512 : Shape := ⟨1, ![512]⟩
abbrev S2048x1x1024 : Shape := ⟨3, ![2048, 1, 1024]⟩
abbrev S2048x2x1024 : Shape := ⟨3, ![2048, 2, 1024]⟩
abbrev S4096x1024 : Shape := ⟨2, ![4096, 1024]⟩
abbrev S512x128 : Shape := ⟨2, ![512, 128]⟩

abbrev nBuf : Space → Nat
  | .hbm => 18
  | .vmem => 35
  | .smem => 0
  | _ => 0

abbrev bufTy : (tb : Table) → Fin (tcTables nBuf tb) → BufTy
  | .hbm, ⟨0, _⟩ => ⟨S6144x4096, .bf16⟩
  | .hbm, ⟨1, _⟩ => ⟨S2048x6144, .i8⟩
  | .hbm, ⟨2, _⟩ => ⟨S1x6144, .f32⟩
  | .hbm, ⟨3, _⟩ => ⟨S6144x64, .f32⟩
  | .hbm, ⟨4, _⟩ => ⟨S6144x64, .f32⟩
  | .hbm, ⟨5, _⟩ => ⟨S128x128, .bf16⟩
  | .hbm, ⟨6, _⟩ => ⟨S128x64, .bf16⟩
  | .hbm, ⟨7, _⟩ => ⟨S6144x4096, .i8⟩
  | .hbm, ⟨8, _⟩ => ⟨S6144x1, .f32⟩
  | .hbm, ⟨9, _⟩ => ⟨S6144x4096, .bf16⟩
  | .hbm, ⟨10, _⟩ => ⟨S6144x1024, .bf16⟩
  | .hbm, ⟨11, _⟩ => ⟨S6144x1024, .bf16⟩
  | .hbm, ⟨12, _⟩ => ⟨S6144x512, .i8⟩
  | .hbm, ⟨13, _⟩ => ⟨S6144x512, .i8⟩
  | .hbm, ⟨14, _⟩ => ⟨S6144x8, .f32⟩
  | .hbm, ⟨15, _⟩ => ⟨S6144x8, .f32⟩
  | .hbm, ⟨16, _⟩ => ⟨S6144x8, .f32⟩
  | .hbm, ⟨17, _⟩ => ⟨S6144x8, .f32⟩
  | .local _ .vmem, ⟨0, _⟩ => ⟨S512x4096, .bf16⟩
  | .local _ .vmem, ⟨1, _⟩ => ⟨S512x4096, .bf16⟩
  | .local _ .vmem, ⟨2, _⟩ => ⟨S2048x1024, .i8⟩
  | .local _ .vmem, ⟨3, _⟩ => ⟨S2048x1024, .i8⟩
  | .local _ .vmem, ⟨4, _⟩ => ⟨S1x1024, .f32⟩
  | .local _ .vmem, ⟨5, _⟩ => ⟨S1x1024, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S128x128, .bf16⟩
  | .local _ .vmem, ⟨11, _⟩ => ⟨S128x64, .bf16⟩
  | .local _ .vmem, ⟨12, _⟩ => ⟨S512x4096, .i8⟩
  | .local _ .vmem, ⟨13, _⟩ => ⟨S512x4096, .i8⟩
  | .local _ .vmem, ⟨14, _⟩ => ⟨S512x1, .f32⟩
  | .local _ .vmem, ⟨15, _⟩ => ⟨S512x1, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x512, .i8⟩
  | .local _ .vmem, ⟨23, _⟩ => ⟨S512x512, .i8⟩
  | .local _ .vmem, ⟨24, _⟩ => ⟨S512x512, .i8⟩
  | .local _ .vmem, ⟨25, _⟩ => ⟨S512x512, .i8⟩
  | .local _ .vmem, ⟨26, _⟩ => ⟨S512x8, .f32⟩
  | .local _ .vmem, ⟨27, _⟩ => ⟨S512x8, .f32⟩
  | .local _ .vmem, ⟨28, _⟩ => ⟨S512x8, .f32⟩
  | .local _ .vmem, ⟨29, _⟩ => ⟨S512x8, .f32⟩
  | .local _ .vmem, ⟨30, _⟩ => ⟨S512x8, .f32⟩
  | .local _ .vmem, ⟨31, _⟩ => ⟨S512x8, .f32⟩
  | .local _ .vmem, ⟨32, _⟩ => ⟨S512x8, .f32⟩
  | .local _ .vmem, ⟨33, _⟩ => ⟨S512x8, .f32⟩
  | .local _ .vmem, ⟨34, _⟩ => ⟨S512x4096, .bf16⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev main_v0_9 : Ref sig .tc := ⟨.hbm, 16, rfl⟩
abbrev main_v0_10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![12, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c4_i32 : BitVec 32 := 4#32
  let v36 : BitVec 1 := Scalar.cmpi .slt arg1 c4_i32
  let v37 : BitVec 32 := Scalar.extui v36
  let c0_i32_10 : BitVec 32 := 0#32
  let v38 : BitVec 1 := Scalar.cmpi .ne v37 c0_i32_10
  v38

def k0_cond3 (i : grid0.Coords) : BitVec 1 :=
  let arg1 : BitVec 32 := BitVec.ofNat 32 (i 1).val
  let c4_i32_11 : BitVec 32 := 4#32
  let v39 : BitVec 1 := Scalar.cmpi .eq arg1 c4_i32_11
  let v40 : BitVec 32 := Scalar.extui v39
  let c0_i32_12 : BitVec 32 := 0#32
  let v41 : BitVec 1 := Scalar.cmpi .ne v40 c0_i32_12
  v41

def k0_cond4 (i : grid0.Coords) : BitVec 1 :=
  let arg1 : BitVec 32 := BitVec.ofNat 32 (i 1).val
  let c5_i32 : BitVec 32 := 5#32
  let v42 : BitVec 1 := Scalar.cmpi .eq arg1 c5_i32
  let v43 : BitVec 32 := Scalar.extui v42
  let c0_i32_13 : BitVec 32 := 0#32
  let v44 : BitVec 1 := Scalar.cmpi .ne v43 c0_i32_13
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x512 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== RefQIdeal.lean ====
abbrev S6144x4096 : Shape := ⟨2, ![6144, 4096]⟩
abbrev S2048x6144 : Shape := ⟨2, ![2048, 6144]⟩
abbrev S1x6144 : Shape := ⟨2, ![1, 6144]⟩
abbrev S6144x64 : Shape := ⟨2, ![6144, 64]⟩
abbrev S_ : Shape := ⟨0, ![]⟩
abbrev S6144 : Shape := ⟨1, ![6144]⟩
abbrev S6144x1 : Shape := ⟨2, ![6144, 1]⟩
abbrev S6144x2048 : Shape := ⟨2, ![6144, 2048]⟩
abbrev S6144x6144 : Shape := ⟨2, ![6144, 6144]⟩
abbrev S6144x1024 : Shape := ⟨2, ![6144, 1024]⟩
abbrev S6144x32x128 : Shape := ⟨3, ![6144, 32, 128]⟩
abbrev S6144x8x128 : Shape := ⟨3, ![6144, 8, 128]⟩
abbrev S6144x1x64 : Shape := ⟨3, ![6144, 1, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S6144x32x64 : Shape := ⟨3, ![6144, 32, 64]⟩
abbrev S6144x8x64 : Shape := ⟨3, ![6144, 8, 64]⟩
abbrev S6144x8 : Shape := ⟨2, ![6144, 8]⟩
abbrev S6144x8x1 : Shape := ⟨3, ![6144, 8, 1]⟩
abbrev S6144x512 : Shape := ⟨2, ![6144, 512]⟩

abbrev nBuf : Space → Nat
  | .hbm => 232
  | .vmem => 0
  | .smem => 0
  | _ => 0

abbrev hbmTy0_0 (i : Nat) : BufTy := match i % 128 with
  | 0 => ⟨S6144x4096, .bf16⟩
  | 1 => ⟨S2048x6144, .i8⟩
  | 2 => ⟨S1x6144, .f32⟩
  | 3 => ⟨S6144x64, .f32⟩
  | 4 => ⟨S6144x64, .f32⟩
  | 5 => ⟨S6144x4096, .f32⟩
  | 6 => ⟨S6144x4096, .f32⟩
  | 7 => ⟨S_, .f32⟩
  | 8 => ⟨S6144, .f32⟩
  | 9 => ⟨S6144x1, .f32⟩
  | 10 => ⟨S_, .f32⟩
  | 11 => ⟨S6144x1, .f32⟩
  | 12 => ⟨S6144x1, .f32⟩
  | 13 => ⟨S_, .f32⟩
  | 14 => ⟨S6144x1, .f32⟩
  | 15 => ⟨S6144x1, .f32⟩
  | 16 => ⟨S6144x1, .f32⟩
  | 17 => ⟨S6144x4096, .f32⟩
  | 18 => ⟨S6144x4096, .f32⟩
  | 19 => ⟨S6144x4096, .f32⟩
  | 20 => ⟨S_, .f32⟩
  | 21 => ⟨S6144, .f32⟩
  | 22 => ⟨S_, .f32⟩
  | 23 => ⟨S6144, .f32⟩
  | 24 => ⟨S6144, .i1⟩
  | 25 => ⟨S_, .f32⟩
  | 26 => ⟨S6144, .f32⟩
  | 27 => ⟨S_, .f32⟩
  | 28 => ⟨S6144, .f32⟩
  | 29 => ⟨S6144, .f32⟩
  | 30 => ⟨S_, .f32⟩
  | 31 => ⟨S6144, .f32⟩
  | 32 => ⟨S6144, .f32⟩
  | 33 => ⟨S6144, .f32⟩
  | 34 => ⟨S6144x1, .f32⟩
  | 35 => ⟨S6144x4096, .f32⟩
  | 36 => ⟨S6144x4096, .f32⟩
  | 37 => ⟨S6144x4096, .f32⟩
  | 38 => ⟨S_, .f32⟩
  | 39 => ⟨S6144x4096, .f32⟩
  | 40 => ⟨S6144x4096, .f32⟩
  | 41 => ⟨S_, .f32⟩
  | 42 => ⟨S6144x4096, .f32⟩
  | 43 => ⟨S6144x4096, .f32⟩
  | 44 => ⟨S6144x4096, .i32⟩
  | 45 => ⟨S6144x4096, .i8⟩
  | 46 => ⟨S6144x4096, .i32⟩
  | 47 => ⟨S6144x4096, .f32⟩
  | 48 => ⟨S6144x4096, .bf16⟩
  | 49 => ⟨S2048x6144, .i32⟩
  | 50 => ⟨S6144x2048, .bf16⟩
  | 51 => ⟨S_, .i32⟩
  | 52 => ⟨S2048x6144, .i32⟩
  | 53 => ⟨S2048x6144, .i32⟩
  | 54 => ⟨S_, .i32⟩
  | 55 => ⟨S2048x6144, .i32⟩
  | 56 => ⟨S2048x6144, .i1⟩
  | 57 => ⟨S_, .i32⟩
  | 58 => ⟨S2048x6144, .i32⟩
  | 59 => ⟨S2048x6144, .i32⟩
  | 60 => ⟨S2048x6144, .i32⟩
  | 61 => ⟨S2048x6144, .f32⟩
  | 62 => ⟨S2048x6144, .bf16⟩
  | 63 => ⟨S6144x6144, .f32⟩
  | 64 => ⟨S6144x2048, .bf16⟩
  | 65 => ⟨S_, .i32⟩
  | 66 => ⟨S2048x6144, .i32⟩
  | 67 => ⟨S2048x6144, .i32⟩
  | 68 => ⟨S_, .i32⟩
  | 69 => ⟨S2048x6144, .i32⟩
  | 70 => ⟨S2048x6144, .i1⟩
  | 71 => ⟨S_, .i32⟩
  | 72 => ⟨S2048x6144, .i32⟩
  | 73 => ⟨S2048x6144, .i32⟩
  | 74 => ⟨S2048x6144, .i32⟩
  | 75 => ⟨S2048x6144, .f32⟩
  | 76 => ⟨S2048x6144, .bf16⟩
  | 77 => ⟨S6144x6144, .f32⟩
  | 78 => ⟨S6144x6144, .f32⟩
  | 79 => ⟨S6144x1, .f32⟩
  | 80 => ⟨S6144x6144, .f32⟩
  | 81 => ⟨S6144x6144, .f32⟩
  | 82 => ⟨S6144x6144, .f32⟩
  | 83 => ⟨S6144x6144, .f32⟩
  | 84 => ⟨S6144x4096, .f32⟩
  | 85 => ⟨S6144x1024, .f32⟩
  | 86 => ⟨S6144x1024, .f32⟩
  | 87 => ⟨S6144x32x128, .f32⟩
  | 88 => ⟨S6144x8x128, .f32⟩
  | 89 => ⟨S6144x8x128, .f32⟩
  | 90 => ⟨S6144x1x64, .f32⟩
  | 91 => ⟨S6144x1x64, .f32⟩
  | 92 => ⟨S128, .i32⟩
  | 93 => ⟨S128x1, .i32⟩
  | 94 => ⟨S1x128, .i32⟩
  | 95 => ⟨S128x128, .i32⟩
  | 96 => ⟨S128x128, .i32⟩
  | 97 => ⟨S128x128, .i32⟩
  | 98 => ⟨S128x128, .i32⟩
  | 99 => ⟨S_, .i32⟩
  | 100 => ⟨S128x128, .i32⟩
  | 101 => ⟨S128x128, .i32⟩
  | 102 => ⟨S_, .i32⟩
  | 103 => ⟨S128x128, .i32⟩
  | 104 => ⟨S128x128, .i32⟩
  | 105 => ⟨S_, .i32⟩
  | 106 => ⟨S128x128, .i32⟩
  | 107 => ⟨S128x128, .i32⟩
  | 108 => ⟨S128x128, .f32⟩
  | 109 => ⟨S6144x32x64, .f32⟩
  | 110 => ⟨S6144x32x64, .f32⟩
  | 111 => ⟨S6144x32x64, .f32⟩
  | 112 => ⟨S6144x32x64, .f32⟩
  | 113 => ⟨S6144x32x64, .f32⟩
  | 114 => ⟨S6144x32x64, .f32⟩
  | 115 => ⟨S6144x32x64, .f32⟩
  | 116 => ⟨S6144x32x64, .f32⟩
  | 117 => ⟨S6144x32x64, .f32⟩
  | 118 => ⟨S6144x32x64, .f32⟩
  | 119 => ⟨S6144x32x64, .f32⟩
  | 120 => ⟨S6144x32x64, .f32⟩
  | 121 => ⟨S6144x32x128, .f32⟩
  | 122 => ⟨S6144x32x128, .f32⟩
  | 123 => ⟨S_, .f32⟩
  | 124 => ⟨S6144x32x128, .f32⟩
  | 125 => ⟨S6144x32x128, .f32⟩
  | 126 => ⟨S6144x8x64, .f32⟩
  | 127 => ⟨S6144x8x64, .f32⟩
  | _ => ⟨S6144x4096, .bf16⟩

abbrev hbmTy0_1 (i : Nat) : BufTy := match i % 128 with
  | 0 => ⟨S6144x8x64, .f32⟩
  | 1 => ⟨S6144x8x64, .f32⟩
  | 2 => ⟨S6144x8x64, .f32⟩
  | 3 => ⟨S6144x8x64, .f32⟩
  | 4 => ⟨S6144x8x64, .f32⟩
  | 5 => ⟨S6144x8x64, .f32⟩
  | 6 => ⟨S6144x8x64, .f32⟩
  | 7 => ⟨S6144x8x64, .f32⟩
  | 8 => ⟨S6144x8x64, .f32⟩
  | 9 => ⟨S6144x8x64, .f32⟩
  | 10 => ⟨S6144x8x128, .f32⟩
  | 11 => ⟨S6144x8x128, .f32⟩
  | 12 => ⟨S_, .f32⟩
  | 13 => ⟨S6144x8x128, .f32⟩
  | 14 => ⟨S6144x8x128, .f32⟩
  | 15 => ⟨S_, .f32⟩
  | 16 => ⟨S6144x8, .f32⟩
  | 17 => ⟨S_, .f32⟩
  | 18 => ⟨S6144x8, .f32⟩
  | 19 => ⟨S6144x8, .f32⟩
  | 20 => ⟨S_, .f32⟩
  | 21 => ⟨S6144x8, .f32⟩
  | 22 => ⟨S_, .f32⟩
  | 23 => ⟨S6144x8, .f32⟩
  | 24 => ⟨S6144x8, .f32⟩
  | 25 => ⟨S6144x8, .i1⟩
  | 26 => ⟨S_, .f32⟩
  | 27 => ⟨S6144x8, .f32⟩
  | 28 => ⟨S6144x8, .f32⟩
  | 29 => ⟨S_, .f32⟩
  | 30 => ⟨S6144x8, .f32⟩
  | 31 => ⟨S6144x8, .f32⟩
  | 32 => ⟨S6144x8, .f32⟩
  | 33 => ⟨S6144x8x1, .f32⟩
  | 34 => ⟨S6144x8x128, .f32⟩
  | 35 => ⟨S6144x8x128, .f32⟩
  | 36 => ⟨S6144x8x1, .f32⟩
  | 37 => ⟨S6144x8x128, .f32⟩
  | 38 => ⟨S6144x8x128, .f32⟩
  | 39 => ⟨S6144x8x128, .f32⟩
  | 40 => ⟨S_, .f32⟩
  | 41 => ⟨S6144x8x128, .f32⟩
  | 42 => ⟨S6144x8x128, .f32⟩
  | 43 => ⟨S_, .f32⟩
  | 44 => ⟨S6144x8x128, .f32⟩
  | 45 => ⟨S6144x8x128, .f32⟩
  | 46 => ⟨S6144x8x128, .i32⟩
  | 47 => ⟨S6144x8x64, .i32⟩
  | 48 => ⟨S6144x8x64, .i32⟩
  | 49 => ⟨S_, .i32⟩
  | 50 => ⟨S6144x8x64, .i32⟩
  | 51 => ⟨S6144x8x64, .i32⟩
  | 52 => ⟨S6144x8x64, .i32⟩
  | 53 => ⟨S6144x8x64, .i8⟩
  | 54 => ⟨S6144x8x128, .f32⟩
  | 55 => ⟨S6144x8x128, .bf16⟩
  | 56 => ⟨S_, .f32⟩
  | 57 => ⟨S6144x8, .f32⟩
  | 58 => ⟨S_, .f32⟩
  | 59 => ⟨S6144x8, .f32⟩
  | 60 => ⟨S6144x8, .f32⟩
  | 61 => ⟨S_, .f32⟩
  | 62 => ⟨S6144x8, .f32⟩
  | 63 => ⟨S_, .f32⟩
  | 64 => ⟨S6144x8, .f32⟩
  | 65 => ⟨S6144x8, .f32⟩
  | 66 => ⟨S6144x8, .i1⟩
  | 67 => ⟨S_, .f32⟩
  | 68 => ⟨S6144x8, .f32⟩
  | 69 => ⟨S6144x8, .f32⟩
  | 70 => ⟨S_, .f32⟩
  | 71 => ⟨S6144x8, .f32⟩
  | 72 => ⟨S6144x8, .f32⟩
  | 73 => ⟨S6144x8, .f32⟩
  | 74 => ⟨S6144x8x1, .f32⟩
  | 75 => ⟨S6144x8x128, .f32⟩
  | 76 => ⟨S6144x8x128, .f32⟩
  | 77 => ⟨S6144x8x1, .f32⟩
  | 78 => ⟨S6144x8x128, .f32⟩
  | 79 => ⟨S6144x8x128, .f32⟩
  | 80 => ⟨S6144x8x128, .f32⟩
  | 81 => ⟨S_, .f32⟩
  | 82 => ⟨S6144x8x128, .f32⟩
  | 83 => ⟨S6144x8x128, .f32⟩
  | 84 => ⟨S_, .f32⟩
  | 85 => ⟨S6144x8x128, .f32⟩
  | 86 => ⟨S6144x8x128, .f32⟩
  | 87 => ⟨S6144x8x128, .i32⟩
  | 88 => ⟨S6144x8x64, .i32⟩
  | 89 => ⟨S6144x8x64, .i32⟩
  | 90 => ⟨S_, .i32⟩
  | 91 => ⟨S6144x8x64, .i32⟩
  | 92 => ⟨S6144x8x64, .i32⟩
  | 93 => ⟨S6144x8x64, .i32⟩
  | 94 => ⟨S6144x8x64, .i8⟩
  | 95 => ⟨S6144x8x128, .f32⟩
  | 96 => ⟨S6144x8x128, .bf16⟩
  | 97 => ⟨S6144x1, .f32⟩
  | 98 => ⟨S6144x4096, .f32⟩
  | 99 => ⟨S6144x4096, .bf16⟩
  | 100 => ⟨S6144x1024, .bf16⟩
  | 101 => ⟨S6144x1024, .bf16⟩
  | 102 => ⟨S6144x512, .i8⟩
  | 103 => ⟨S6144x512, .i8⟩
  | _ => ⟨S6144x4096, .bf16⟩

abbrev hbmTy (i : Nat) : BufTy := match i / 128 with
  | 0 => hbmTy0_0 i
  | 1 => hbmTy0_1 i
  | _ => ⟨S6144x4096, .bf16⟩

abbrev bufTy : (tb : Table) → Fin (tcTables nBuf tb) → BufTy
  | .hbm, ⟨i, _⟩ => hbmTy i
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_c_12 : Ref sig .tc := ⟨.hbm, 68, rfl⟩
abbrev main_v49 : Ref sig .tc := ⟨.hbm, 69, rfl⟩
abbrev main_v50 : Ref sig .tc := ⟨.hbm, 70, rfl⟩
abbrev main_c_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_14 : Ref sig .tc := ⟨.hbm, 99, rfl⟩
abbrev main_v78 : Ref sig .tc := ⟨.hbm, 100, rfl⟩
abbrev main_v79 : Ref sig .tc := ⟨.hbm, 101, rfl⟩
abbrev main_c_15 : Ref sig .tc := ⟨.hbm, 102, rfl⟩
abbrev main_v80 : Ref sig .tc := ⟨.hbm, 103, rfl⟩
abbrev main_v81 : Ref sig .tc := ⟨.hbm, 104, rfl⟩
abbrev main_c_16 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_18 : Ref sig .tc := ⟨.hbm, 140, rfl⟩
abbrev main_v115 : Ref sig .tc := ⟨.hbm, 141, rfl⟩
abbrev main_v116 : Ref sig .tc := ⟨.hbm, 142, rfl⟩
abbrev main_cst_19 : Ref sig .tc := ⟨.hbm, 143, rfl⟩
abbrev main_v117 : Ref sig .tc := ⟨.hbm, 144, rfl⟩
abbrev main_cst_20 : Ref sig .tc := ⟨.hbm, 145, rfl⟩
abbrev main_v118 : Ref sig .tc := ⟨.hbm, 146, rfl⟩
abbrev main_v119 : Ref sig .tc := ⟨.hbm, 147, rfl⟩
abbrev main_cst_21 : Ref sig .tc := ⟨.hbm, 148, rfl⟩
abbrev main_v120 : Ref sig .tc := ⟨.hbm, 149, rfl⟩
abbrev main_cst_22 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_23 : Ref sig .tc := ⟨.hbm, 154, rfl⟩
abbrev main_v124 : Ref sig .tc := ⟨.hbm, 155, rfl⟩
abbrev main_v125 : Ref sig .tc := ⟨.hbm, 156, rfl⟩
abbrev main_cst_24 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_cst_25 : Ref sig .tc := ⟨.hbm, 168, rfl⟩
abbrev main_v136 : Ref sig .tc := ⟨.hbm, 169, rfl⟩
abbrev main_v137 : Ref sig .tc := ⟨.hbm, 170, rfl⟩
abbrev main_cst_26 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_c_27 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_28 : Ref sig .tc := ⟨.hbm, 184, rfl⟩
abbrev main_v149 : Ref sig .tc := ⟨.hbm, 185, rfl⟩
abbrev main_cst_29 : Ref sig .tc := ⟨.hbm, 186, rfl⟩
abbrev main_v150 : Ref sig .tc := ⟨.hbm, 187, rfl⟩
abbrev main_v151 : Ref sig .tc := ⟨.hbm, 188, rfl⟩
abbrev main_cst_30 : Ref sig .tc := ⟨.hbm, 189, rfl⟩
abbrev main_v152 : Ref sig .tc := ⟨.hbm, 190, rfl⟩
abbrev main_cst_31 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_32 : Ref sig .tc := ⟨.hbm, 195, rfl⟩
abbrev main_v156 : Ref sig .tc := ⟨.hbm, 196, rfl⟩
abbrev main_v157 : Ref sig .tc := ⟨.hbm, 197, rfl⟩
abbrev main_cst_33 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_34 : Ref sig .tc := ⟨.hbm, 209, rfl⟩
abbrev main_v168 : Ref sig .tc := ⟨.hbm, 210, rfl⟩
abbrev main_v169 : Ref sig .tc := ⟨.hbm, 211, rfl⟩
abbrev main_cst_35 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_c_36 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩

abbrev nD : Nat := 1
abbrev τ : Topo := Topo.v7x

variable {F : FTy → Type} [FloatOps F]
-- ==== Attn.lean ====
abbrev S6144x4096 : Shape := ⟨2, ![6144, 4096]⟩
abbrev S6144x1024 : Shape := ⟨2, ![6144, 1024]⟩
abbrev S6144x8 : Shape := ⟨2, ![6144, 8]⟩
abbrev S256x512 : Shape := ⟨2, ![256, 512]⟩
abbrev S3072x128 : Shape := ⟨2, ![3072, 128]⟩
abbrev S3072x8 : Shape := ⟨2, ![3072, 8]⟩
abbrev S128x3072 : Shape := ⟨2, ![128, 3072]⟩
abbrev S4x3072x128 : Shape := ⟨3, ![4, 3072, 128]⟩
abbrev S1x1024 : Shape := ⟨2, ![1, 1024]⟩
abbrev S128x1024 : Shape := ⟨2, ![128, 1024]⟩
abbrev S512x128 : Shape := ⟨2, ![512, 128]⟩
abbrev S128x512 : Shape := ⟨2, ![128, 512]⟩
abbrev S512x8 : Shape := ⟨2, ![512, 8]⟩
abbrev S512 : Shape := ⟨1, ![512]⟩
abbrev S512x1 : Shape := ⟨2, ![512, 1]⟩
abbrev S1x512x128 : Shape := ⟨3, ![1, 512, 128]⟩
abbrev S256x128 : Shape := ⟨2, ![256, 128]⟩
abbrev S1024x128 : Shape := ⟨2, ![1024, 128]⟩
abbrev S8x128 : Shape := ⟨2, ![8, 128]⟩
abbrev S8x1024 : Shape := ⟨2, ![8, 1024]⟩
abbrev S1x256x128 : Shape := ⟨3, ![1, 256, 128]⟩
abbrev S256x1024 : Shape := ⟨2, ![256, 1024]⟩
abbrev S1024 : Shape := ⟨1, ![1024]⟩
abbrev S128x256 : Shape := ⟨2, ![128, 256]⟩

abbrev nBuf : Space → Nat
  | .hbm => 8
  | .vmem => 22
  | .smem => 0
  | _ => 0

abbrev bufTy : (tb : Table) → Fin (tcTables nBuf tb) → BufTy
  | .hbm, ⟨0, _⟩ => ⟨S6144x4096, .bf16⟩
  | .hbm, ⟨1, _⟩ => ⟨S6144x1024, .bf16⟩
  | .hbm, ⟨2, _⟩ => ⟨S6144x1024, .bf16⟩
  | .hbm, ⟨3, _⟩ => ⟨S6144x8, .f32⟩
  | .hbm, ⟨4, _⟩ => ⟨S6144x8, .f32⟩
  | .hbm, ⟨5, _⟩ => ⟨S6144x8, .f32⟩
  | .hbm, ⟨6, _⟩ => ⟨S6144x8, .f32⟩
  | .hbm, ⟨7, _⟩ => ⟨S6144x4096, .f32⟩
  | .local _ .vmem, ⟨0, _⟩ => ⟨S256x512, .bf16⟩
  | .local _ .vmem, ⟨1, _⟩ => ⟨S256x512, .bf16⟩
  | .local _ .vmem, ⟨2, _⟩ => ⟨S3072x128, .bf16⟩
  | .local _ .vmem, ⟨3, _⟩ => ⟨S3072x128, .bf16⟩
  | .local _ .vmem, ⟨4, _⟩ => ⟨S3072x128, .bf16⟩
  | .local _ .vmem, ⟨5, _⟩ => ⟨S3072x128, .bf16⟩
  | .local _ .vmem, ⟨6, _⟩ => ⟨S3072x8, .f32⟩
  | .local _ .vmem, ⟨7, _⟩ => ⟨S3072x8, .f32⟩
  | .local _ .vmem, ⟨8, _⟩ => ⟨S3072x8, .f32⟩
  | .local _ .vmem, ⟨9, _⟩ => ⟨S3072x8, .f32⟩
  | .local _ .vmem, ⟨10, _⟩ => ⟨S3072x8, .f32⟩
  | .local _ .vmem, ⟨11, _⟩ => ⟨S3072x8, .f32⟩
  | .local _ .vmem, ⟨12, _⟩ => ⟨S3072x8, .f32⟩
  | .local _ .vmem, ⟨13, _⟩ => ⟨S3072x8, .f32⟩
  | .local _ .vmem, ⟨14, _⟩ => ⟨S256x512, .f32⟩
  | .local _ .vmem, ⟨15, _⟩ => ⟨S256x512, .f32⟩
  | .local _ .vmem, ⟨16, _⟩ => ⟨S128x3072, .bf16⟩
  | .local _ .vmem, ⟨17, _⟩ => ⟨S4x3072x128, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S128x1024, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 12], ![false, false, false]⟩

def k0_off1 (i : grid0.Coords) : Fin 3 → Nat :=
  let c0_18 : Index := 0#32
  let arg2 : BitVec 32 := BitVec.ofNat 32 (i 2).val
  let c256_i32 : BitVec 32 := 256#32
  let v27 : BitVec 32 := Scalar.muli arg2 c256_i32
  let v28 : Index := Scalar.indexCast v27
  let c0_19 : Index := 0#32
  ![0, v28.toNat, 0]
def k0_off2 (i : grid0.Coords) : Fin 2 → Nat :=
  let arg2 : BitVec 32 := BitVec.ofNat 32 (i 2).val
  let c256_i32 : BitVec 32 := 256#32
  let v27 : BitVec 32 := Scalar.muli arg2 c256_i32
  let v32 : Index := Scalar.indexCast v27
  let c0_20 : Index := 0#32
  ![v32.toNat, 0]
def k0_off3 (i : grid0.Coords) : Fin 3 → Nat :=
  let c1 : Index := 1#32
  let arg2 : BitVec 32 := BitVec.ofNat 32 (i 2).val
  let c256_i32 : BitVec 32 := 256#32
  let v27 : BitVec 32 := Scalar.muli arg2 c256_i32
  let v36 : Index := Scalar.indexCast v27
  let c0_22 : Index := 0#32
  ![1, v36.toNat, 0]
def k0_off4 (i : grid0.Coords) : Fin 3 → Nat :=
  let c3 : Index := 3#32
  let arg2 : BitVec 32 := BitVec.ofNat 32 (i 2).val
  let c256_i32 : BitVec 32 := 256#32
  let v27 : BitVec 32 := Scalar.muli arg2 c256_i32
  let v87 : Index := Scalar.indexCast v27
  let c0_41 : Index := 0#32
  ![3, v87.toNat, 0]
def k0_off5 (i : grid0.Coords) : Fin 3 → Nat :=
  let c2 : Index := 2#32
  let arg2 : BitVec 32 := BitVec.ofNat 32 (i 2).val
  let c256_i32 : BitVec 32 := 256#32
  let v27 : BitVec 32 := Scalar.muli arg2 c256_i32
  let v98 : Index := Scalar.indexCast v27
  let c0_45 : Index := 0#32
  ![2, v98.toNat, 0]
def k0_off6 (i : grid0.Coords) : Fin 2 → Nat :=
  let c0_48 : Index := 0#32
  let arg2 : BitVec 32 := BitVec.ofNat 32 (i 2).val
  let c256_i32 : BitVec 32 := 256#32
  let v27 : BitVec 32 := Scalar.muli arg2 c256_i32
  let v107 : Index := Scalar.indexCast v27
  ![0, v107.toNat]
@[reducible] def k0_t1_loop (i : grid0.Coords) : Scf.Loop 32 :=
  let c0_i32_53 : BitVec 32 := 0#32
  let arg2 : BitVec 32 := BitVec.ofNat 32 (i 2).val
  let v114 : BitVec 32 := Scalar.subi arg2 c0_i32_53
  let c1_i32_54 : BitVec 32 := 1#32
  let v116 : BitVec 32 := Scalar.divsi v114 c1_i32_54
  let v117 : BitVec 32 := Scalar.muli v116 c1_i32_54
  let v118 : BitVec 32 := Scalar.addi c0_i32_53 v117
  let c1_i32_55 : BitVec 32 := 1#32
  ⟨c0_i32_53, v118, c1_i32_55⟩
def k0_off7 (i : grid0.Coords) (k0_t1 : Fin (k0_t1_loop i).trips) : Fin 3 → Nat :=
  let c0_72 : Index := 0#32
  let c0_i32_53 : BitVec 32 := 0#32
  let c1_i32_55 : BitVec 32 := 1#32
  let arg17 : BitVec 32 := Scf.iv c0_i32_53 c1_i32_55 k0_t1
  let c256_i32_71 : BitVec 32 := 256#32
  let v135 : BitVec 32 := Scalar.muli arg17 c256_i32_71
  let v136 : Index := Scalar.indexCast v135
  let c0_73 : Index := 0#32
  ![0, v136.toNat, 0]
def k0_off8 (i : grid0.Coords) (k0_t1 : Fin (k0_t1_loop i).trips) : Fin 2 → Nat :=
  let c0_i32_53 : BitVec 32 := 0#32
  let c1_i32_55 : BitVec 32 := 1#32
  let arg17 : BitVec 32 := Scf.iv c0_i32_53 c1_i32_55 k0_t1
  let c256_i32_71 : BitVec 32 := 256#32
  let v135 : BitVec 32 := Scalar.muli arg17 c256_i32_71
  let v140 : Index := Scalar.indexCast v135
  let c0_74 : Index := 0#32
  ![v140.toNat, 0]
def k0_off9 (i : grid0.Coords) (k0_t1 : Fin (k0_t1_loop i).trips) : Fin 3 → Nat :=
  let c1_76 : Index := 1#32
  let c0_i32_53 : BitVec 32 := 0#32
  let c1_i32_55 : BitVec 32 := 1#32
  let arg17 : BitVec 32 := Scf.iv c0_i32_53 c1_i32_55 k0_t1
  let c256_i32_71 : BitVec 32 := 256#32
  let v135 : BitVec 32 := Scalar.muli arg17 c256_i32_71
  let v144 : Index := Scalar.indexCast v135
  let c0_77 : Index := 0#32
  ![1, v144.toNat, 0]
def k0_off10 (i : grid0.Coords) (k0_t1 : Fin (k0_t1_loop i).trips) : Fin 3 → Nat :=
  let c3_90 : Index := 3#32
  let c0_i32_53 : BitVec 32 := 0#32
  let c1_i32_55 : BitVec 32 := 1#32
  let arg17 : BitVec 32 := Scf.iv c0_i32_53 c1_i32_55 k0_t1
  let c256_i32_71 : BitVec 32 := 256#32
  let v135 : BitVec 32 := Scalar.muli arg17 c256_i32_71
  let v174 : Index := Scalar.indexCast v135
  let c0_91 : Index := 0#32
  ![3, v174.toNat, 0]
def k0_off11 (i : grid0.Coords) (k0_t1 : Fin (k0_t1_loop i).trips) : Fin 3 → Nat :=
  let c2_95 : Index := 2#32
  let c0_i32_53 : BitVec 32 := 0#32
  let c1_i32_55 : BitVec 32 := 1#32
  let arg17 : BitVec 32 := Scf.iv c0_i32_53 c1_i32_55 k0_t1
  let c256_i32_71 : BitVec 32 := 256#32
  let v135 : BitVec 32 := Scalar.muli arg17 c256_i32_71
  let v185 : Index := Scalar.indexCast v135
  let c0_96 : Index := 0#32
  ![2, v185.toNat, 0]
def k0_off12 (i : grid0.Coords) (k0_t1 : Fin (k0_t1_loop i).trips) : Fin 2 → Nat :=
  let c0_99 : Index := 0#32
  let c0_i32_53 : BitVec 32 := 0#32
  let c1_i32_55 : BitVec 32 := 1#32
  let arg17 : BitVec 32 := Scf.iv c0_i32_53 c1_i32_55 k0_t1
  let c256_i32_71 : BitVec 32 := 256#32
  let v135 : BitVec 32 := Scalar.muli arg17 c256_i32_71
  let v194 : Index := Scalar.indexCast v135
  ![0, v194.toNat]
@[reducible] def k0_t2_loop (i : grid0.Coords) : Scf.Loop 32 :=
  let c0_i32_53 : BitVec 32 := 0#32
  let arg2 : BitVec 32 := BitVec.ofNat 32 (i 2).val
  let v114 : BitVec 32 := Scalar.subi arg2 c0_i32_53
  let c1_i32_54 : BitVec 32 := 1#32
  let v116 : BitVec 32 := Scalar.divsi v114 c1_i32_54
  let v117 : BitVec 32 := Scalar.muli v116 c1_i32_54
  let v118 : BitVec 32 := Scalar.addi c0_i32_53 v117
  let v115 : BitVec 32 := Scalar.addi c0_i32_53 v114
  let c1_i32_56 : BitVec 32 := 1#32
  ⟨v118, v115, c1_i32_56⟩
def k0_off13 (i : grid0.Coords) (k0_t2 : Fin (k0_t2_loop i).trips) : Fin 3 → Nat :=
  let c0_72 : Index := 0#32
  let c0_i32_53 : BitVec 32 := 0#32
  let arg2 : BitVec 32 := BitVec.ofNat 32 (i 2).val
  let v114 : BitVec 32 := Scalar.subi arg2 c0_i32_53
  let c1_i32_54 : BitVec 32 := 1#32
  let v116 : BitVec 32 := Scalar.divsi v114 c1_i32_54
  let v117 : BitVec 32 := Scalar.muli v116 c1_i32_54
  let v118 : BitVec 32 := Scalar.addi c0_i32_53 v117
  let c1_i32_56 : BitVec 32 := 1#32
  let arg17 : BitVec 32 := Scf.iv v118 c1_i32_56 k0_t2
  let c256_i32_71 : BitVec 32 := 256#32
  let v135 : BitVec 32 := Scalar.muli arg17 c256_i32_71
  let v136 : Index := Scalar.indexCast v135
  let c0_73 : Index := 0#32
  ![0, v136.toNat, 0]
def k0_off14 (i : grid0.Coords) (k0_t2 : Fin (k0_t2_loop i).trips) : Fin 2 → Nat :=
  let c0_i32_53 : BitVec 32 := 0#32
  let arg2 : BitVec 32 := BitVec.ofNat 32 (i 2).val
  let v114 : BitVec 32 := Scalar.subi arg2 c0_i32_53
  let c1_i32_54 : BitVec 32 := 1#32
  let v116 : BitVec 32 := Scalar.divsi v114 c1_i32_54
  let v117 : BitVec 32 := Scalar.muli v116 c1_i32_54
  let v118 : BitVec 32 := Scalar.addi c0_i32_53 v117
  let c1_i32_56 : BitVec 32 := 1#32
  let arg17 : BitVec 32 := Scf.iv v118 c1_i32_56 k0_t2
  let c256_i32_71 : BitVec 32 := 256#32
  let v135 : BitVec 32 := Scalar.muli arg17 c256_i32_71
  let v140 : Index := Scalar.indexCast v135
  let c0_74 : Index := 0#32
  ![v140.toNat, 0]
def k0_off15 (i : grid0.Coords) (k0_t2 : Fin (k0_t2_loop i).trips) : Fin 3 → Nat :=
  let c1_76 : Index := 1#32
  let c0_i32_53 : BitVec 32 := 0#32
  let arg2 : BitVec 32 := BitVec.ofNat 32 (i 2).val
  let v114 : BitVec 32 := Scalar.subi arg2 c0_i32_53
  let c1_i32_54 : BitVec 32 := 1#32
  let v116 : BitVec 32 := Scalar.divsi v114 c1_i32_54
  let v117 : BitVec 32 := Scalar.muli v116 c1_i32_54
  let v118 : BitVec 32 := Scalar.addi c0_i32_53 v117
  let c1_i32_56 : BitVec 32 := 1#32
  let arg17 : BitVec 32 := Scf.iv v118 c1_i32_56 k0_t2
  let c256_i32_71 : BitVec 32 := 256#32
  let v135 : BitVec 32 := Scalar.muli arg17 c256_i32_71
  let v144 : Index := Scalar.indexCast v135
  let c0_77 : Index := 0#32
  ![1, v144.toNat, 0]
def k0_off16 (i : grid0.Coords) (k0_t2 : Fin (k0_t2_loop i).trips) : Fin 3 → Nat :=
  let c3_90 : Index := 3#32
  let c0_i32_53 : BitVec 32 := 0#32
  let arg2 : BitVec 32 := BitVec.ofNat 32 (i 2).val
  let v114 : BitVec 32 := Scalar.subi arg2 c0_i32_53
  let c1_i32_54 : BitVec 32 := 1#32
  let v116 : BitVec 32 := Scalar.divsi v114 c1_i32_54
  let v117 : BitVec 32 := Scalar.muli v116 c1_i32_54
  let v118 : BitVec 32 := Scalar.addi c0_i32_53 v117
  let c1_i32_56 : BitVec 32 := 1#32
  let arg17 : BitVec 32 := Scf.iv v118 c1_i32_56 k0_t2
  let c256_i32_71 : BitVec 32 := 256#32
  let v135 : BitVec 32 := Scalar.muli arg17 c256_i32_71
  let v174 : Index := Scalar.indexCast v135
  let c0_91 : Index := 0#32
  ![3, v174.toNat, 0]
def k0_off17 (i : grid0.Coords) (k0_t2 : Fin (k0_t2_loop i).trips) : Fin 3 → Nat :=
  let c2_95 : Index := 2#32
  let c0_i32_53 : BitVec 32 := 0#32
  let arg2 : BitVec 32 := BitVec.ofNat 32 (i 2).val
  let v114 : BitVec 32 := Scalar.subi arg2 c0_i32_53
  let c1_i32_54 : BitVec 32 := 1#32
  let v116 : BitVec 32 := Scalar.divsi v114 c1_i32_54
  let v117 : BitVec 32 := Scalar.muli v116 c1_i32_54
  let v118 : BitVec 32 := Scalar.addi c0_i32_53 v117
  let c1_i32_56 : BitVec 32 := 1#32
  let arg17 : BitVec 32 := Scf.iv v118 c1_i32_56 k0_t2
  let c256_i32_71 : BitVec 32 := 256#32
  let v135 : BitVec 32 := Scalar.muli arg17 c256_i32_71
  let v185 : Index := Scalar.indexCast v135
  let c0_96 : Index := 0#32
  ![2, v185.toNat, 0]
def k0_off18 (i : grid0.Coords) (k0_t2 : Fin (k0_t2_loop i).trips) : Fin 2 → Nat :=
  let c0_99 : Index := 0#32
  let c0_i32_53 : BitVec 32 := 0#32
  let arg2 : BitVec 32 := BitVec.ofNat 32 (i 2).val
  let v114 : BitVec 32 := Scalar.subi arg2 c0_i32_53
  let c1_i32_54 : BitVec 32 := 1#32
  let v116 : BitVec 32 := Scalar.divsi v114 c1_i32_54
  let v117 : BitVec 32 := Scalar.muli v116 c1_i32_54
  let v118 : BitVec 32 := Scalar.addi c0_i32_53 v117
  let c1_i32_56 : BitVec 32 := 1#32
  let arg17 : BitVec 32 := Scf.iv v118 c1_i32_56 k0_t2
  let c256_i32_71 : BitVec 32 := 256#32
  let v135 : BitVec 32 := Scalar.muli arg17 c256_i32_71
  let v194 : Index := Scalar.indexCast v135
  ![0, v194.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S3072x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S3072x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3072x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S3072x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S3072x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S3072x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnIdeal.lean ====
variable {F : FTy → Type} [FloatOps F] [Named F]
def κ : String → Option EReal := fun
  | "scale" => some ((143571859112449 / 1125899906842624 : ℝ) : EReal)
  | _ => none
-- ==== RefAIdeal.lean ====
abbrev S6144x4096 : Shape := ⟨2, ![6144, 4096]⟩
abbrev S6144x1024 : Shape := ⟨2, ![6144, 1024]⟩
abbrev S6144x8 : Shape := ⟨2, ![6144, 8]⟩
abbrev S2x3072x8x4x128 : Shape := ⟨5, ![2, 3072, 8, 4, 128]⟩
abbrev S2x3072x8x128 : Shape := ⟨4, ![2, 3072, 8, 128]⟩
abbrev S_ : Shape := ⟨0, ![]⟩
abbrev S2x3072x8x4 : Shape := ⟨4, ![2, 3072, 8, 4]⟩
abbrev S2x8x4x3072 : Shape := ⟨4, ![2, 8, 4, 3072]⟩
abbrev S2x8x4x3072x1 : Shape := ⟨5, ![2, 8, 4, 3072, 1]⟩
abbrev S2x8x3072x3072x4 : Shape := ⟨5, ![2, 8, 3072, 3072, 4]⟩
abbrev S2x8x4x3072x3072 : Shape := ⟨5, ![2, 8, 4, 3072, 3072]⟩
abbrev S2x3072x8 : Shape := ⟨3, ![2, 3072, 8]⟩
abbrev S2x8x3072 : Shape := ⟨3, ![2, 8, 3072]⟩
abbrev S2x8x1x1x3072 : Shape := ⟨5, ![2, 8, 1, 1, 3072]⟩
abbrev S3072 : Shape := ⟨1, ![3072]⟩
abbrev S1x3072 : Shape := ⟨2, ![1, 3072]⟩
abbrev S3072x1 : Shape := ⟨2, ![3072, 1]⟩
abbrev S3072x3072 : Shape := ⟨2, ![3072, 3072]⟩
abbrev S2x8x4x3072x128 : Shape := ⟨5, ![2, 8, 4, 3072, 128]⟩

abbrev nBuf : Space → Nat
  | .hbm => 74
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S6144x1024, .bf16⟩
  | .hbm, ⟨2, _⟩ => ⟨S6144x1024, .bf16⟩
  | .hbm, ⟨3, _⟩ => ⟨S6144x8, .f32⟩
  | .hbm, ⟨4, _⟩ => ⟨S6144x8, .f32⟩
  | .hbm, ⟨5, _⟩ => ⟨S6144x8, .f32⟩
  | .hbm, ⟨6, _⟩ => ⟨S6144x8, .f32⟩
  | .hbm, ⟨7, _⟩ => ⟨S2x3072x8x4x128, .bf16⟩
  | .hbm, ⟨8, _⟩ => ⟨S2x3072x8x128, .bf16⟩
  | .hbm, ⟨9, _⟩ => ⟨S2x3072x8x128, .bf16⟩
  | .hbm, ⟨10, _⟩ => ⟨S2x3072x8x4x128, .f32⟩
  | .hbm, ⟨11, _⟩ => ⟨S_, .f32⟩
  | .hbm, ⟨12, _⟩ => ⟨S2x3072x8x4, .f32⟩
  | .hbm, ⟨13, _⟩ => ⟨S2x8x4x3072, .f32⟩
  | .hbm, ⟨14, _⟩ => ⟨S2x8x4x3072x1, .f32⟩
  | .hbm, ⟨15, _⟩ => ⟨S2x8x3072x3072x4, .f32⟩
  | .hbm, ⟨16, _⟩ => ⟨S2x8x4x3072x3072, .f32⟩
  | .hbm, ⟨17, _⟩ => ⟨S2x3072x8, .f32⟩
  | .hbm, ⟨18, _⟩ => ⟨S2x8x3072, .f32⟩
  | .hbm, ⟨19, _⟩ => ⟨S2x8x1x1x3072, .f32⟩
  | .hbm, ⟨20, _⟩ => ⟨S2x8x4x3072x3072, .f32⟩
  | .hbm, ⟨21, _⟩ => ⟨S2x8x4x3072x3072, .f32⟩
  | .hbm, ⟨22, _⟩ => ⟨S2x3072x8, .f32⟩
  | .hbm, ⟨23, _⟩ => ⟨S2x8x3072, .f32⟩
  | .hbm, ⟨24, _⟩ => ⟨S2x8x1x1x3072, .f32⟩
  | .hbm, ⟨25, _⟩ => ⟨S2x8x4x3072x3072, .f32⟩
  | .hbm, ⟨26, _⟩ => ⟨S2x8x4x3072x3072, .f32⟩
  | .hbm, ⟨27, _⟩ => ⟨S2x8x4x3072x3072, .f32⟩
  | .hbm, ⟨28, _⟩ => ⟨S2x8x4x3072x3072, .f32⟩
  | .hbm, ⟨29, _⟩ => ⟨S_, .f32⟩
  | .hbm, ⟨30, _⟩ => ⟨S2x8x4x3072x3072, .f32⟩
  | .hbm, ⟨31, _⟩ => ⟨S2x8x4x3072x3072, .f32⟩
  | .hbm, ⟨32, _⟩ => ⟨S3072, .i32⟩
  | .hbm, ⟨33, _⟩ => ⟨S1x3072, .i32⟩
  | .hbm, ⟨34, _⟩ => ⟨S3072x1, .i32⟩
  | .hbm, ⟨35, _⟩ => ⟨S3072x3072, .i32⟩
  | .hbm, ⟨36, _⟩ => ⟨S3072x3072, .i32⟩
  | .hbm, ⟨37, _⟩ => ⟨S3072x3072, .i1⟩
  | .hbm, ⟨38, _⟩ => ⟨S2x8x4x3072x3072, .i1⟩
  | .hbm, ⟨39, _⟩ => ⟨S_, .f32⟩
  | .hbm, ⟨40, _⟩ => ⟨S2x8x4x3072x3072, .f32⟩
  | .hbm, ⟨41, _⟩ => ⟨S2x8x4x3072x3072, .f32⟩
  | .hbm, ⟨42, _⟩ => ⟨S_, .f32⟩
  | .hbm, ⟨43, _⟩ => ⟨S2x8x4x3072x3072, .f32⟩
  | .hbm, ⟨44, _⟩ => ⟨S2x8x4x3072x3072, .f32⟩
  | .hbm, ⟨45, _⟩ => ⟨S_, .f32⟩
  | .hbm, ⟨46, _⟩ => ⟨S2x8x4x3072, .f32⟩
  | .hbm, ⟨47, _⟩ => ⟨S2x8x4x3072x1, .f32⟩
  | .hbm, ⟨48, _⟩ => ⟨S2x8x4x3072x1, .f32⟩
  | .hbm, ⟨49, _⟩ => ⟨S2x8x4x3072x3072, .f32⟩
  | .hbm, ⟨50, _⟩ => ⟨S2x8x4x3072x3072, .f32⟩
  | .hbm, ⟨51, _⟩ => ⟨S_, .f32⟩
  | .hbm, ⟨52, _⟩ => ⟨S2x8x4x3072x3072, .f32⟩
  | .hbm, ⟨53, _⟩ => ⟨S2x8x4x3072x3072, .f32⟩
  | .hbm, ⟨54, _⟩ => ⟨S2x8x4x3072x3072, .f32⟩
  | .hbm, ⟨55, _⟩ => ⟨S_, .f32⟩
  | .hbm, ⟨56, _⟩ => ⟨S2x8x4x3072, .f32⟩
  | .hbm, ⟨57, _⟩ => ⟨S2x3072x8, .f32⟩
  | .hbm, ⟨58, _⟩ => ⟨S2x8x3072, .f32⟩
  | .hbm, ⟨59, _⟩ => ⟨S2x8x1x1x3072, .f32⟩
  | .hbm, ⟨60, _⟩ => ⟨S2x8x4x3072x3072, .f32⟩
  | .hbm, ⟨61, _⟩ => ⟨S2x8x4x3072x3072, .f32⟩
  | .hbm, ⟨62, _⟩ => ⟨S2x8x4x3072x3072, .bf16⟩
  | .hbm, ⟨63, _⟩ => ⟨S2x8x4x3072x128, .f32⟩
  | .hbm, ⟨64, _⟩ => ⟨S2x3072x8, .f32⟩
  | .hbm, ⟨65, _⟩ => ⟨S2x8x4x3072, .f32⟩
  | .hbm, ⟨66, _⟩ => ⟨S2x8x4x3072x1, .f32⟩
  | .hbm, ⟨67, _⟩ => ⟨S2x8x4x3072x128, .f32⟩
  | .hbm, ⟨68, _⟩ => ⟨S2x8x4x3072x128, .f32⟩
  | .hbm, ⟨69, _⟩ => ⟨S2x8x4x3072x1, .f32⟩
  | .hbm, ⟨70, _⟩ => ⟨S2x8x4x3072x128, .f32⟩
  | .hbm, ⟨71, _⟩ => ⟨S2x8x4x3072x128, .f32⟩
  | .hbm, ⟨72, _⟩ => ⟨S2x3072x8x4x128, .f32⟩
  | .hbm, ⟨73, _⟩ => ⟨S6144x4096, .f32⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]

def κ : String → Option EReal := fun
  | "ln2" => some ((Real.log 2 : ℝ) : EReal)
  | _ => none
-- ==== Oproj.lean ====
abbrev S6144x4096 : Shape := ⟨2, ![6144, 4096]⟩
abbrev S2048x4096 : Shape := ⟨2, ![2048, 4096]⟩
abbrev S1x4096 : Shape := ⟨2, ![1, 4096]⟩
abbrev S6144x1 : Shape := ⟨2, ![6144, 1]⟩
abbrev S512x4096 : Shape := ⟨2, ![512, 4096]⟩
abbrev S512x1024 : Shape := ⟨2, ![512, 1024]⟩
abbrev S2048x1024 : Shape := ⟨2, ![2048, 1024]⟩
abbrev S1x1024 : Shape := ⟨2, ![1, 1024]⟩
abbrev S512x1 : Shape := ⟨2, ![512, 1]⟩
abbrev S64x128 : Shape := ⟨2, ![64, 128]⟩
abbrev S64x4096 : Shape := ⟨2, ![64, 4096]⟩
abbrev S64 : Shape := ⟨1, ![64]⟩
abbrev S64x1 : Shape := ⟨2, ![64, 1]⟩
abbrev S2048x1x1024 : Shape := ⟨3, ![2048, 1, 1024]⟩
abbrev S2048x2x1024 : Shape := ⟨3, ![2048, 2, 1024]⟩
abbrev S4096x1024 : Shape := ⟨2, ![4096, 1024]⟩

abbrev nBuf : Space → Nat
  | .hbm => 7
  | .vmem => 15
  | .smem => 0
  | _ => 0

abbrev bufTy : (tb : Table) → Fin (tcTables nBuf tb) → BufTy
  | .hbm, ⟨0, _⟩ => ⟨S6144x4096, .f32⟩
  | .hbm, ⟨1, _⟩ => ⟨S6144x4096, .bf16⟩
  | .hbm, ⟨2, _⟩ => ⟨S2048x4096, .i8⟩
  | .hbm, ⟨3, _⟩ => ⟨S1x4096, .f32⟩
  | .hbm, ⟨4, _⟩ => ⟨S6144x4096, .bf16⟩
  | .hbm, ⟨5, _⟩ => ⟨S6144x4096, .i8⟩
  | .hbm, ⟨6, _⟩ => ⟨S6144x1, .f32⟩
  | .local _ .vmem, ⟨0, _⟩ => ⟨S512x4096, .f32⟩
  | .local _ .vmem, ⟨1, _⟩ => ⟨S512x4096, .f32⟩
  | .local _ .vmem, ⟨2, _⟩ => ⟨S512x1024, .bf16⟩
  | .local _ .vmem, ⟨3, _⟩ => ⟨S512x1024, .bf16⟩
  | .local _ .vmem, ⟨4, _⟩ => ⟨S2048x1024, .i8⟩
  | .local _ .vmem, ⟨5, _⟩ => ⟨S2048x1024, .i8⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .i8⟩
  | .local _ .vmem, ⟨11, _⟩ => ⟨S512x4096, .i8⟩
  | .local _ .vmem, ⟨12, _⟩ => ⟨S512x1, .f32⟩
  | .local _ .vmem, ⟨13, _⟩ => ⟨S512x1, .f32⟩
  | .local _ .vmem, ⟨14, _⟩ => ⟨S512x4096, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x4096 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefOIdeal.lean ====
abbrev S6144x4096 : Shape := ⟨2, ![6144, 4096]⟩
abbrev S2048x4096 : Shape := ⟨2, ![2048, 4096]⟩
abbrev S1x4096 : Shape := ⟨2, ![1, 4096]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S6144x32x128 : Shape := ⟨3, ![6144, 32, 128]⟩
abbrev S6144x128x32 : Shape := ⟨3, ![6144, 128, 32]⟩
abbrev S6144 : Shape := ⟨1, ![6144]⟩
abbrev S6144x1 : Shape := ⟨2, ![6144, 1]⟩
abbrev S6144x2048 : Shape := ⟨2, ![6144, 2048]⟩

abbrev nBuf : Space → Nat
  | .hbm => 97
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S6144x4096, .bf16⟩
  | .hbm, ⟨2, _⟩ => ⟨S2048x4096, .i8⟩
  | .hbm, ⟨3, _⟩ => ⟨S1x4096, .f32⟩
  | .hbm, ⟨4, _⟩ => ⟨S32, .i32⟩
  | .hbm, ⟨5, _⟩ => ⟨S32x1, .i32⟩
  | .hbm, ⟨6, _⟩ => ⟨S1x32, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S32x32, .i32⟩
  | .hbm, ⟨11, _⟩ => ⟨S_, .i32⟩
  | .hbm, ⟨12, _⟩ => ⟨S32x32, .i32⟩
  | .hbm, ⟨13, _⟩ => ⟨S32x32, .i32⟩
  | .hbm, ⟨14, _⟩ => ⟨S_, .i32⟩
  | .hbm, ⟨15, _⟩ => ⟨S32x32, .i32⟩
  | .hbm, ⟨16, _⟩ => ⟨S32x32, .i32⟩
  | .hbm, ⟨17, _⟩ => ⟨S_, .i32⟩
  | .hbm, ⟨18, _⟩ => ⟨S32x32, .i32⟩
  | .hbm, ⟨19, _⟩ => ⟨S32x32, .i32⟩
  | .hbm, ⟨20, _⟩ => ⟨S32x32, .f32⟩
  | .hbm, ⟨21, _⟩ => ⟨S6144x32x128, .f32⟩
  | .hbm, ⟨22, _⟩ => ⟨S6144x128x32, .f32⟩
  | .hbm, ⟨23, _⟩ => ⟨S6144x32x128, .f32⟩
  | .hbm, ⟨24, _⟩ => ⟨S_, .f32⟩
  | .hbm, ⟨25, _⟩ => ⟨S6144x32x128, .f32⟩
  | .hbm, ⟨26, _⟩ => ⟨S6144x32x128, .f32⟩
  | .hbm, ⟨27, _⟩ => ⟨S6144x4096, .f32⟩
  | .hbm, ⟨28, _⟩ => ⟨S6144x4096, .f32⟩
  | .hbm, ⟨29, _⟩ => ⟨S_, .f32⟩
  | .hbm, ⟨30, _⟩ => ⟨S6144, .f32⟩
  | .hbm, ⟨31, _⟩ => ⟨S_, .f32⟩
  | .hbm, ⟨32, _⟩ => ⟨S6144, .f32⟩
  | .hbm, ⟨33, _⟩ => ⟨S6144, .i1⟩
  | .hbm, ⟨34, _⟩ => ⟨S_, .f32⟩
  | .hbm, ⟨35, _⟩ => ⟨S6144, .f32⟩
  | .hbm, ⟨36, _⟩ => ⟨S_, .f32⟩
  | .hbm, ⟨37, _⟩ => ⟨S6144, .f32⟩
  | .hbm, ⟨38, _⟩ => ⟨S6144, .f32⟩
  | .hbm, ⟨39, _⟩ => ⟨S_, .f32⟩
  | .hbm, ⟨40, _⟩ => ⟨S6144, .f32⟩
  | .hbm, ⟨41, _⟩ => ⟨S6144, .f32⟩
  | .hbm, ⟨42, _⟩ => ⟨S6144, .f32⟩
  | .hbm, ⟨43, _⟩ => ⟨S6144x1, .f32⟩
  | .hbm, ⟨44, _⟩ => ⟨S6144x4096, .f32⟩
  | .hbm, ⟨45, _⟩ => ⟨S6144x4096, .f32⟩
  | .hbm, ⟨46, _⟩ => ⟨S6144x4096, .f32⟩
  | .hbm, ⟨47, _⟩ => ⟨S_, .f32⟩
  | .hbm, ⟨48, _⟩ => ⟨S6144x4096, .f32⟩
  | .hbm, ⟨49, _⟩ => ⟨S6144x4096, .f32⟩
  | .hbm, ⟨50, _⟩ => ⟨S_, .f32⟩
  | .hbm, ⟨51, _⟩ => ⟨S6144x4096, .f32⟩
  | .hbm, ⟨52, _⟩ => ⟨S6144x4096, .f32⟩
  | .hbm, ⟨53, _⟩ => ⟨S6144x4096, .i32⟩
  | .hbm, ⟨54, _⟩ => ⟨S6144x4096, .i8⟩
  | .hbm, ⟨55, _⟩ => ⟨S6144x4096, .i32⟩
  | .hbm, ⟨56, _⟩ => ⟨S6144x4096, .f32⟩
  | .hbm, ⟨57, _⟩ => ⟨S6144x4096, .bf16⟩
  | .hbm, ⟨58, _⟩ => ⟨S2048x4096, .i32⟩
  | .hbm, ⟨59, _⟩ => ⟨S6144x2048, .bf16⟩
  | .hbm, ⟨60, _⟩ => ⟨S_, .i32⟩
  | .hbm, ⟨61, _⟩ => ⟨S2048x4096, .i32⟩
  | .hbm, ⟨62, _⟩ => ⟨S2048x4096, .i32⟩
  | .hbm, ⟨63, _⟩ => ⟨S_, .i32⟩
  | .hbm, ⟨64, _⟩ => ⟨S2048x4096, .i32⟩
  | .hbm, ⟨65, _⟩ => ⟨S2048x4096, .i1⟩
  | .hbm, ⟨66, _⟩ => ⟨S_, .i32⟩
  | .hbm, ⟨67, _⟩ => ⟨S2048x4096, .i32⟩
  | .hbm, ⟨68, _⟩ => ⟨S2048x4096, .i32⟩
  | .hbm, ⟨69, _⟩ => ⟨S2048x4096, .i32⟩
  | .hbm, ⟨70, _⟩ => ⟨S2048x4096, .f32⟩
  | .hbm, ⟨71, _⟩ => ⟨S2048x4096, .bf16⟩
  | .hbm, ⟨72, _⟩ => ⟨S6144x4096, .f32⟩
  | .hbm, ⟨73, _⟩ => ⟨S6144x2048, .bf16⟩
  | .hbm, ⟨74, _⟩ => ⟨S_, .i32⟩
  | .hbm, ⟨75, _⟩ => ⟨S2048x4096, .i32⟩
  | .hbm, ⟨76, _⟩ => ⟨S2048x4096, .i32⟩
  | .hbm, ⟨77, _⟩ => ⟨S_, .i32⟩
  | .hbm, ⟨78, _⟩ => ⟨S2048x4096, .i32⟩
  | .hbm, ⟨79, _⟩ => ⟨S2048x4096, .i1⟩
  | .hbm, ⟨80, _⟩ => ⟨S_, .i32⟩
  | .hbm, ⟨81, _⟩ => ⟨S2048x4096, .i32⟩
  | .hbm, ⟨82, _⟩ => ⟨S2048x4096, .i32⟩
  | .hbm, ⟨83, _⟩ => ⟨S2048x4096, .i32⟩
  | .hbm, ⟨84, _⟩ => ⟨S2048x4096, .f32⟩
  | .hbm, ⟨85, _⟩ => ⟨S2048x4096, .bf16⟩
  | .hbm, ⟨86, _⟩ => ⟨S6144x4096, .f32⟩
  | .hbm, ⟨87, _⟩ => ⟨S6144x4096, .f32⟩
  | .hbm, ⟨88, _⟩ => ⟨S6144x1, .f32⟩
  | .hbm, ⟨89, _⟩ => ⟨S6144x4096, .f32⟩
  | .hbm, ⟨90, _⟩ => ⟨S6144x4096, .f32⟩
  | .hbm, ⟨91, _⟩ => ⟨S6144x4096, .f32⟩
  | .hbm, ⟨92, _⟩ => ⟨S6144x4096, .f32⟩
  | .hbm, ⟨93, _⟩ => ⟨S6144x4096, .f32⟩
  | .hbm, ⟨94, _⟩ => ⟨S6144x4096, .f32⟩
  | .hbm, ⟨95, _⟩ => ⟨S6144x4096, .bf16⟩
  | .hbm, ⟨96, _⟩ => ⟨S6144x1, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_c_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_12 : Ref sig .tc := ⟨.hbm, 74, rfl⟩
abbrev main_v56 : Ref sig .tc := ⟨.hbm, 75, rfl⟩
abbrev main_v57 : Ref sig .tc := ⟨.hbm, 76, rfl⟩
abbrev main_c_13 : Ref sig .tc := ⟨.hbm, 77, rfl⟩
abbrev main_v58 : Ref sig .tc := ⟨.hbm, 78, rfl⟩
abbrev main_v59 : Ref sig .tc := ⟨.hbm, 79, rfl⟩
abbrev main_c_14 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== Proof.Qkv.Setup.lean ====
/- The kernel call QkvIdeal: its branch conditions in closed form over the grid points, the staging memrefs at a point, and the
   invariant of the region with the scratch named. -/
module

public import proofs.«01_k».proof.Proof.Gen.QkvIdeal.Frame
public import proofs.«01_k».proof.Proof.Gen.QkvIdeal.Skeleton

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.QkvIdeal Cert.QkvIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 6) — by arithmetic of the point. -/
theorem hcond0_0 : ∀ t : Fin cfg0.N, cond0_0 (grid0.coords t) ↔ t.val % 6 = 0 :=
  (fun t => by
    have ht : t.val < 72 := Nat.lt_of_lt_of_eq t.isLt N_0
    have e0 : (grid0.coords t 0).val = t.val / 6 % 12 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 3 — decided over the grid. -/
theorem hcond0_1 : ∀ t : Fin cfg0.N, cond0_1 (grid0.coords t) ↔ t.val % 6 ≤ 3 :=
  (by decide +kernel : ∀ t : Fin grid0.N, cond0_1 (grid0.coords t) ↔ t.val % 6 ≤ 3)

/-- The condition of the body's `scf.if` 2 (`k0_h3`), from the grid coordinates (the skeleton's scalar
    chain substituted). -/
abbrev cond0_2 (i : grid0.Coords) : Prop := k0_cond3 i = 1#1
/-- It holds at the points ≡ 4 (mod 6) — by arithmetic of the point. -/
theorem hcond0_2 : ∀ t : Fin cfg0.N, cond0_2 (grid0.coords t) ↔ t.val % 6 = 4 :=
  (fun t => by
    have ht : t.val < 72 := Nat.lt_of_lt_of_eq t.isLt N_0
    have e0 : (grid0.coords t 0).val = t.val / 6 % 12 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ t.val % 6 = 4)

/-- The condition of the body's `scf.if` 3 (`k0_h4`), from the grid coordinates (the skeleton's scalar
    chain substituted). -/
abbrev cond0_3 (i : grid0.Coords) : Prop := k0_cond4 i = 1#1
/-- It holds at the points ≡ 5 (mod 6) — by arithmetic of the point. -/
theorem hcond0_3 : ∀ t : Fin cfg0.N, cond0_3 (grid0.coords t) ↔ t.val % 6 = 5 :=
  (fun t => by
    have ht : t.val < 72 := Nat.lt_of_lt_of_eq t.isLt N_0
    have e0 : (grid0.coords t 0).val = t.val / 6 % 12 := Pipeline.Grid.coords_val t 0 (by decide) rfl
    have e1 : (grid0.coords t 1).val = t.val / 1 % 6 := Pipeline.Grid.coords_val t 1 (by decide) rfl
    simp only [cond0_3, k0_cond4, e0, e1]
    word_cmp
   : ∀ t : Fin grid0.N, cond0_3 (grid0.coords t) ↔ t.val % 6 = 5)

/-! ## The kernel body on any staging memrefs: a subtype the run finds -/

/-- One staging buffer of output window 7, through which its contents are stated (`View.read_writes_of_cover`: the
    choice does not matter). -/
abbrev VO0_7 : View sig .tc .vmem S512x4096 .i8 := (Memref.whole cc0_stg7_0 : Memref sig .tc .vmem S512x4096 .i8).view
/-- One staging buffer of output window 8, through which its contents are stated (`View.read_writes_of_cover`: the
    choice does not matter). -/
abbrev VO0_8 : View sig .tc .vmem S512x1 .f32 := (Memref.whole cc0_stg8_0 : Memref sig .tc .vmem S512x1 .f32).view
/-- One staging buffer of output window 9, through which its contents are stated (`View.read_writes_of_cover`: the
    choice does not matter). -/
abbrev VO0_9 : View sig .tc .vmem S512x1024 .bf16 := (Memref.whole cc0_stg9_0 : Memref sig .tc .vmem S512x1024 .bf16).view
/-- One staging buffer of output window 10, through which its contents are stated (`View.read_writes_of_cover`: the
    choice does not matter). -/
abbrev VO0_10 : View sig .tc .vmem S512x1024 .bf16 := (Memref.whole cc0_stg10_0 : Memref sig .tc .vmem S512x1024 .bf16).view
/-- One staging buffer of output window 11, through which its contents are stated (`View.read_writes_of_cover`: the
    choice does not matter). -/
abbrev VO0_11 : View sig .tc .vmem S512x1024 .bf16 := (Memref.whole cc0_stg11_0 : Memref sig .tc .vmem S512x1024 .bf16).view
/-- One staging buffer of output window 12, through which its contents are stated (`View.read_writes_of_cover`: the
    choice does not matter). -/
abbrev VO0_12 : View sig .tc .vmem S512x512 .i8 := (Memref.whole cc0_stg12_0 : Memref sig .tc .vmem S512x512 .i8).view
/-- One staging buffer of output window 13, through which its contents are stated (`View.read_writes_of_cover`: the
    choice does not matter). -/
abbrev VO0_13 : View sig .tc .vmem S512x512 .i8 := (Memref.whole cc0_stg13_0 : Memref sig .tc .vmem S512x512 .i8).view
/-- One staging buffer of output window 14, through which its contents are stated (`View.read_writes_of_cover`: the
    choice does not matter). -/
abbrev VO0_14 : View sig .tc .vmem S512x8 .f32 := (Memref.whole cc0_stg14_0 : Memref sig .tc .vmem S512x8 .f32).view
/-- One staging buffer of output window 15, through which its contents are stated (`View.read_writes_of_cover`: the
    choice does not matter). -/
abbrev VO0_15 : View sig .tc .vmem S512x8 .f32 := (Memref.whole cc0_stg15_0 : Memref sig .tc .vmem S512x8 .f32).view
/-- One staging buffer of output window 16, through which its contents are stated (`View.read_writes_of_cover`: the
    choice does not matter). -/
abbrev VO0_16 : View sig .tc .vmem S512x8 .f32 := (Memref.whole cc0_stg16_0 : Memref sig .tc .vmem S512x8 .f32).view
/-- One staging buffer of output window 17, through which its contents are stated (`View.read_writes_of_cover`: the
    choice does not matter). -/
abbrev VO0_17 : View sig .tc .vmem S512x8 .f32 := (Memref.whole cc0_stg17_0 : Memref sig .tc .vmem S512x8 .f32).view
/-- Each window's current staging memref at point `t`, spelled as the pipeline passes it (`bodyAt0`), and its wholeness. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x4096 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x512 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x512 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x8 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x8 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x8 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x8 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S512x4096 .bf16 := Memref.whole cc0_scratch0
/-- The scratch `arg20` the kernel carries between points, as a view: what it holds is stated through it. -/
abbrev VS0_0 : View sig .tc .vmem S512x4096 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.QkvIdeal.Run

end
-- ==== Proof.Qkv.RunA.lean ====
/- The kernel call QkvIdeal: the whole body run at the first point of a row block. -/
module

public import proofs.«01_k».proof.Proof.Qkv.Setup

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.QkvIdeal Cert.QkvIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point of a row block: what its stores leave in each buffer it writes, as the list of pieces written (last first), with the proof that
    from the inputs' blocks `x·` the body runs and leaves those pieces, everything else as it was. -/
def runA (c : Dev nD) (i : grid0.Coords) (arg2 : Memref sig .tc .vmem S512x4096 .bf16) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S128x128 .bf16) (harg7 : arg7.IsWhole) (arg8 : Memref sig .tc .vmem S128x64 .bf16) (harg8 : arg8.IsWhole) (arg9 : Memref sig .tc .vmem S512x4096 .i8) (harg9 : arg9.IsWhole) (arg10 : Memref sig .tc .vmem S512x1 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x512 .i8) (harg14 : arg14.IsWhole) (arg15 : Memref sig .tc .vmem S512x512 .i8) (harg15 : arg15.IsWhole) (arg16 : Memref sig .tc .vmem S512x8 .f32) (harg16 : arg16.IsWhole) (arg17 : Memref sig .tc .vmem S512x8 .f32) (harg17 : arg17.IsWhole) (arg18 : Memref sig .tc .vmem S512x8 .f32) (harg18 : arg18.IsWhole) (arg19 : Memref sig .tc .vmem S512x8 .f32) (harg19 : arg19.IsWhole) (arg20 : Memref sig .tc .vmem S512x4096 .bf16) (harg20 : arg20.IsWhole) (hc0 : cond0_0 i) (hc1 : cond0_1 i) (hc2 : ¬cond0_2 i) (hc3 : ¬cond0_3 i)
    (x0 : Vec F S512x4096 .bf16) (x1 : Vec F S2048x1024 .i8) (x2 : Vec F S1x1024 .f32) (x3 : Vec F S512x64 .f32) (x4 : Vec F S512x64 .f32) (x5 : Vec F S128x128 .bf16) (x6 : Vec F S128x64 .bf16) :
    Σ' (L7 : List (View.Piece (Elt F) S512x4096 .i8)), Σ' (L8 : List (View.Piece (Elt F) S512x1 .f32)), Σ' (L9 : List (View.Piece (Elt F) S512x1024 .bf16)), { LS : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg20.view.loc (c : Thread nD τ) ↦[arg20.view.set]{fullShare} arg20.view.writes (Elt F) f LS)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_qkv_eq_skeleton]; unfold cc0_qkv_skel
    simp only [k0_part30_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%dS, %fS, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    iexists _; iexact HS

end Cert.QkvIdeal.Run

end
-- ==== Proof.Qkv.RunB.lean ====
/- The kernel call QkvIdeal: the whole body run at the points that make q, but the first. -/
module

public import proofs.«01_k».proof.Proof.Qkv.RunA

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.QkvIdeal Cert.QkvIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the points that make q, but the first: what its stores leave in each buffer it writes, as the list of pieces written (last first), with the proof that
    from the inputs' blocks `x·` and the contents `p·` it finds the body runs and leaves those pieces, everything else as it was. -/
def runB (c : Dev nD) (i : grid0.Coords) (arg2 : Memref sig .tc .vmem S512x4096 .bf16) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S128x128 .bf16) (harg7 : arg7.IsWhole) (arg8 : Memref sig .tc .vmem S128x64 .bf16) (harg8 : arg8.IsWhole) (arg9 : Memref sig .tc .vmem S512x4096 .i8) (harg9 : arg9.IsWhole) (arg10 : Memref sig .tc .vmem S512x1 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x512 .i8) (harg14 : arg14.IsWhole) (arg15 : Memref sig .tc .vmem S512x512 .i8) (harg15 : arg15.IsWhole) (arg16 : Memref sig .tc .vmem S512x8 .f32) (harg16 : arg16.IsWhole) (arg17 : Memref sig .tc .vmem S512x8 .f32) (harg17 : arg17.IsWhole) (arg18 : Memref sig .tc .vmem S512x8 .f32) (harg18 : arg18.IsWhole) (arg19 : Memref sig .tc .vmem S512x8 .f32) (harg19 : arg19.IsWhole) (arg20 : Memref sig .tc .vmem S512x4096 .bf16) (harg20 : arg20.IsWhole) (hc0 : ¬cond0_0 i) (hc1 : cond0_1 i) (hc2 : ¬cond0_2 i) (hc3 : ¬cond0_3 i)
    (x0 : Vec F S512x4096 .bf16) (x1 : Vec F S2048x1024 .i8) (x2 : Vec F S1x1024 .f32) (x3 : Vec F S512x64 .f32) (x4 : Vec F S512x64 .f32) (x5 : Vec F S128x128 .bf16) (x6 : Vec F S128x64 .bf16) (p8 : Vec F S512x1 .f32) (pS : Vec F S512x4096 .bf16) :
    { L9 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg11 fullShare d) ∗ owns (c : Thread nD τ) arg10 fullShare p8 ∗ owns (c : Thread nD τ) arg20 fullShare pS
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg11.view.loc (c : Thread nD τ) ↦[arg11.view.set]{fullShare} arg11.view.writes (Elt F) f L9) ∗ owns (c : Thread nD τ) arg10 fullShare p8 ∗ owns (c : Thread nD τ) arg20 fullShare pS) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0_qkv_eq_skeleton]; unfold cc0_qkv_skel
    simp only [k0_part30_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f8, %hf8, H8⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg20.eq_unread hfS
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]
    · iexists _; iexact H9
    isplitl [H8]
    · iexists _; isplitr; · ipureintro; exact harg10.read_unread _
      iexact H8
    iexists _; isplitr; · ipureintro; exact harg20.read_unread _
    iexact HS

end Cert.QkvIdeal.Run

end
-- ==== Proof.Qkv.RunC.lean ====
/- The kernel call QkvIdeal: the whole body run at the point that makes k. -/
module

public import proofs.«01_k».proof.Proof.Qkv.RunB

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.QkvIdeal Cert.QkvIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the point that makes k: what its stores leave in each buffer it writes, as the list of pieces written (last first), with the proof that
    from the inputs' blocks `x·` and the contents `p·` it finds the body runs and leaves those pieces, everything else as it was. -/
def runC (c : Dev nD) (i : grid0.Coords) (arg2 : Memref sig .tc .vmem S512x4096 .bf16) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S128x128 .bf16) (harg7 : arg7.IsWhole) (arg8 : Memref sig .tc .vmem S128x64 .bf16) (harg8 : arg8.IsWhole) (arg9 : Memref sig .tc .vmem S512x4096 .i8) (harg9 : arg9.IsWhole) (arg10 : Memref sig .tc .vmem S512x1 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x512 .i8) (harg14 : arg14.IsWhole) (arg15 : Memref sig .tc .vmem S512x512 .i8) (harg15 : arg15.IsWhole) (arg16 : Memref sig .tc .vmem S512x8 .f32) (harg16 : arg16.IsWhole) (arg17 : Memref sig .tc .vmem S512x8 .f32) (harg17 : arg17.IsWhole) (arg18 : Memref sig .tc .vmem S512x8 .f32) (harg18 : arg18.IsWhole) (arg19 : Memref sig .tc .vmem S512x8 .f32) (harg19 : arg19.IsWhole) (arg20 : Memref sig .tc .vmem S512x4096 .bf16) (harg20 : arg20.IsWhole) (hc0 : ¬cond0_0 i) (hc1 : ¬cond0_1 i) (hc2 : cond0_2 i) (hc3 : ¬cond0_3 i)
    (x0 : Vec F S512x4096 .bf16) (x1 : Vec F S2048x1024 .i8) (x2 : Vec F S1x1024 .f32) (x3 : Vec F S512x64 .f32) (x4 : Vec F S512x64 .f32) (x5 : Vec F S128x128 .bf16) (x6 : Vec F S128x64 .bf16) (p8 : Vec F S512x1 .f32) (pS : Vec F S512x4096 .bf16) :
    Σ' (L10 : List (View.Piece (Elt F) S512x1024 .bf16)), Σ' (L12 : List (View.Piece (Elt F) S512x512 .i8)), Σ' (L14 : List (View.Piece (Elt F) S512x8 .f32)), { L15 : List (View.Piece (Elt F) S512x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg12 fullShare d) ∗ (∃ d, owns (c : Thread nD τ) arg14 fullShare d) ∗ (∃ d, owns (c : Thread nD τ) arg16 fullShare d) ∗ (∃ d, owns (c : Thread nD τ) arg17 fullShare d) ∗ owns (c : Thread nD τ) arg10 fullShare p8 ∗ owns (c : Thread nD τ) arg20 fullShare pS
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg12.view.loc (c : Thread nD τ) ↦[arg12.view.set]{fullShare} arg12.view.writes (Elt F) f L10) ∗ (∃ f, arg14.view.loc (c : Thread nD τ) ↦[arg14.view.set]{fullShare} arg14.view.writes (Elt F) f L12) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ owns (c : Thread nD τ) arg10 fullShare p8 ∗ owns (c : Thread nD τ) arg20 fullShare pS) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_qkv_eq_skeleton]; unfold cc0_qkv_skel
    simp only [k0_part30_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d10, %f10, -, H10⟩, ⟨%d12, %f12, -, H12⟩, ⟨%d14, %f14, -, H14⟩, ⟨%d15, %f15, -, H15⟩, ⟨%f8, %hf8, H8⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg20.eq_unread hfS
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H10]
    · iexists _; iexact H10
    isplitl [H12]
    · iexists _; iexact H12
    isplitl [H14]
    · iexists _; iexact H14
    isplitl [H15]
    · iexists _; iexact H15
    isplitl [H8]
    · iexists _; isplitr; · ipureintro; exact harg10.read_unread _
      iexact H8
    iexists _; isplitr; · ipureintro; exact harg20.read_unread _
    iexact HS

end Cert.QkvIdeal.Run

end
-- ==== Proof.Qkv.RunD.lean ====
/- The kernel call QkvIdeal: the whole body run at the point that makes v. -/
module

public import proofs.«01_k».proof.Proof.Qkv.RunC

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.QkvIdeal Cert.QkvIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the point that makes v: what its stores leave in each buffer it writes, as the list of pieces written (last first), with the proof that
    from the inputs' blocks `x·` and the contents `p·` it finds the body runs and leaves those pieces, everything else as it was. -/
def runD (c : Dev nD) (i : grid0.Coords) (arg2 : Memref sig .tc .vmem S512x4096 .bf16) (harg2 : arg2.IsWhole) (arg3 : Memref sig .tc .vmem S2048x1024 .i8) (harg3 : arg3.IsWhole) (arg4 : Memref sig .tc .vmem S1x1024 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S128x128 .bf16) (harg7 : arg7.IsWhole) (arg8 : Memref sig .tc .vmem S128x64 .bf16) (harg8 : arg8.IsWhole) (arg9 : Memref sig .tc .vmem S512x4096 .i8) (harg9 : arg9.IsWhole) (arg10 : Memref sig .tc .vmem S512x1 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x512 .i8) (harg14 : arg14.IsWhole) (arg15 : Memref sig .tc .vmem S512x512 .i8) (harg15 : arg15.IsWhole) (arg16 : Memref sig .tc .vmem S512x8 .f32) (harg16 : arg16.IsWhole) (arg17 : Memref sig .tc .vmem S512x8 .f32) (harg17 : arg17.IsWhole) (arg18 : Memref sig .tc .vmem S512x8 .f32) (harg18 : arg18.IsWhole) (arg19 : Memref sig .tc .vmem S512x8 .f32) (harg19 : arg19.IsWhole) (arg20 : Memref sig .tc .vmem S512x4096 .bf16) (harg20 : arg20.IsWhole) (hc0 : ¬cond0_0 i) (hc1 : ¬cond0_1 i) (hc2 : ¬cond0_2 i) (hc3 : cond0_3 i)
    (x0 : Vec F S512x4096 .bf16) (x1 : Vec F S2048x1024 .i8) (x2 : Vec F S1x1024 .f32) (x3 : Vec F S512x64 .f32) (x4 : Vec F S512x64 .f32) (x5 : Vec F S128x128 .bf16) (x6 : Vec F S128x64 .bf16) (p8 : Vec F S512x1 .f32) (pS : Vec F S512x4096 .bf16) :
    Σ' (L11 : List (View.Piece (Elt F) S512x1024 .bf16)), Σ' (L13 : List (View.Piece (Elt F) S512x512 .i8)), Σ' (L16 : List (View.Piece (Elt F) S512x8 .f32)), { L17 : List (View.Piece (Elt F) S512x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg13 fullShare d) ∗ (∃ d, owns (c : Thread nD τ) arg15 fullShare d) ∗ (∃ d, owns (c : Thread nD τ) arg18 fullShare d) ∗ (∃ d, owns (c : Thread nD τ) arg19 fullShare d) ∗ owns (c : Thread nD τ) arg10 fullShare p8 ∗ owns (c : Thread nD τ) arg20 fullShare pS
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg13.view.loc (c : Thread nD τ) ↦[arg13.view.set]{fullShare} arg13.view.writes (Elt F) f L11) ∗ (∃ f, arg15.view.loc (c : Thread nD τ) ↦[arg15.view.set]{fullShare} arg15.view.writes (Elt F) f L13) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ owns (c : Thread nD τ) arg10 fullShare p8 ∗ owns (c : Thread nD τ) arg20 fullShare pS) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_qkv_eq_skeleton]; unfold cc0_qkv_skel
    simp only [k0_part30_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d11, %f11, -, H11⟩, ⟨%d13, %f13, -, H13⟩, ⟨%d16, %f16, -, H16⟩, ⟨%d17, %f17, -, H17⟩, ⟨%f8, %hf8, H8⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg20.eq_unread hfS
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H11]
    · iexists _; iexact H11
    isplitl [H13]
    · iexists _; iexact H13
    isplitl [H16]
    · iexists _; iexact H16
    isplitl [H17]
    · iexists _; iexact H17
    isplitl [H8]
    · iexists _; isplitr; · ipureintro; exact harg10.read_unread _
      iexact H8
    iexists _; isplitr; · ipureintro; exact harg20.read_unread _
    iexact HS

end Cert.QkvIdeal.Run

end
-- ==== Proof.Qkv.Frame.lean ====
/- The kernel call QkvIdeal: what each output's buffer and the scratch hold point by point, the proof data, the body's obligation,
   and the run of the call. -/
module

public import proofs.«01_k».proof.Proof.Qkv.RunD
public import Idealize.ShloMosaic.Lib.Pipeline.TableIdle
public import Idealize.ShloMosaic.Lib.Claim

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.QkvIdeal Cert.QkvIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl
theorem liveAt_4 : ∀ t : Fin cfg0.N, cfg0.idle 4 (grid0.coords t) = false := fun _ => rfl
theorem liveAt_5 : ∀ t : Fin cfg0.N, cfg0.idle 5 (grid0.coords t) = false := fun _ => rfl
theorem liveAt_6 : ∀ t : Fin cfg0.N, cfg0.idle 6 (grid0.coords t) = false := fun _ => rfl
/-- Point `r` of the run of 6 points that `t` lies in (those of one row block). -/
def at_ (r : ℕ) (hr : r < 6) (t : Fin cfg0.N) : Fin cfg0.N :=
  ⟨t.val / 6 * 6 + r, by
    have h : t.val < 72 := lt_of_lt_of_eq t.isLt N_0
    exact lt_of_lt_of_eq (show t.val / 6 * 6 + r < 72 by omega) N_0.symm⟩
theorem at_mod (r : ℕ) (hr : r < 6) (t : Fin cfg0.N) : (at_ r hr t).val % 6 = r := by
  show (t.val / 6 * 6 + r) % 6 = r; omega
theorem at_self (r : ℕ) (hr : r < 6) (t : Fin cfg0.N) (h : t.val % 6 = r) : at_ r hr t = t := by
  apply Fin.ext; show t.val / 6 * 6 + r = t.val; omega
theorem at_pred (r : ℕ) (hr : r < 6) (t : Fin cfg0.N) (h : t.val % 6 ≠ 0) (h' : t.val - 1 < cfg0.N) : at_ r hr ⟨t.val - 1, h'⟩ = at_ r hr t := by
  apply Fin.ext; show (t.val - 1) / 6 * 6 + r = t.val / 6 * 6 + r; omega
/-- The run at the first point of a row block, at the point's memrefs and blocks. -/
abbrev pointA (c : Dev nD) (t : Fin cfg0.N) (h : t.val % 6 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h) ((hcond0_1 t).mpr (by omega)) (fun h' => absurd ((hcond0_2 t).mp h') (by omega)) (fun h' => absurd ((hcond0_3 t).mp h') (by omega)) (iblk m c 0 t) (iblk m c 1 t) (iblk m c 2 t) (iblk m c 3 t) (iblk m c 4 t) (iblk m c 5 t) (iblk m c 6 t)
/-- Its pieces for output 7 cover the buffer. -/
theorem coverA7 (c : Dev nD) (t : Fin cfg0.N) (h : t.val % 6 = 0) (y : S512x4096.Idx) :
    ∃ pc ∈ (pointA m c t h).1, y ∈ pc.1.set :=
  View.cover_of_tiledL (pointA m c t h).1 S512x4096.size (by sl_kernel_rfl) y
/-- What it leaves there: the pieces read back. -/
def outA7 (c : Dev nD) (t : Fin cfg0.N) (h : t.val % 6 = 0) : Vec F S512x4096 .i8 :=
  VO0_7.read (Elt F) (VO0_7.writes (Elt F) VO0_7.junk (pointA m c t h).1)
theorem outA7_congr (c : Dev nD) (s t : Fin cfg0.N) (hs : s.val % 6 = 0) (ht : t.val % 6 = 0) (e : s = t) :
    outA7 m c s hs = outA7 m c t ht := by subst e; rfl
/-- Its pieces for output 8 cover the buffer. -/
theorem coverA8 (c : Dev nD) (t : Fin cfg0.N) (h : t.val % 6 = 0) (y : S512x1.Idx) :
    ∃ pc ∈ (pointA m c t h).2.1, y ∈ pc.1.set :=
  View.cover_of_tiledL (pointA m c t h).2.1 S512x1.size (by sl_kernel_rfl) y
/-- What it leaves there: the pieces read back. -/
def outA8 (c : Dev nD) (t : Fin cfg0.N) (h : t.val % 6 = 0) : Vec F S512x1 .f32 :=
  VO0_8.read (Elt F) (VO0_8.writes (Elt F) VO0_8.junk (pointA m c t h).2.1)
theorem outA8_congr (c : Dev nD) (s t : Fin cfg0.N) (hs : s.val % 6 = 0) (ht : t.val % 6 = 0) (e : s = t) :
    outA8 m c s hs = outA8 m c t ht := by subst e; rfl
/-- Its pieces for output 9 cover the buffer. -/
theorem coverA9 (c : Dev nD) (t : Fin cfg0.N) (h : t.val % 6 = 0) (y : S512x1024.Idx) :
    ∃ pc ∈ (pointA m c t h).2.2.1, y ∈ pc.1.set :=
  View.cover_of_tiledL (pointA m c t h).2.2.1 S512x128.size (by sl_kernel_rfl) y
/-- What it leaves there: the pieces read back. -/
def outA9 (c : Dev nD) (t : Fin cfg0.N) (h : t.val % 6 = 0) : Vec F S512x1024 .bf16 :=
  VO0_9.read (Elt F) (VO0_9.writes (Elt F) VO0_9.junk (pointA m c t h).2.2.1)
theorem outA9_congr (c : Dev nD) (s t : Fin cfg0.N) (hs : s.val % 6 = 0) (ht : t.val % 6 = 0) (e : s = t) :
    outA9 m c s hs = outA9 m c t ht := by subst e; rfl
/-- Its pieces for the scratch cover the buffer. -/
theorem coverAS (c : Dev nD) (t : Fin cfg0.N) (h : t.val % 6 = 0) (y : S512x4096.Idx) :
    ∃ pc ∈ (pointA m c t h).2.2.2.1, y ∈ pc.1.set :=
  View.cover_of_tiledL (pointA m c t h).2.2.2.1 S512x4096.size (by sl_kernel_rfl) y
/-- What it leaves there: the pieces read back. -/
def outAS (c : Dev nD) (t : Fin cfg0.N) (h : t.val % 6 = 0) : Vec F S512x4096 .bf16 :=
  VS0_0.read (Elt F) (VS0_0.writes (Elt F) VS0_0.junk (pointA m c t h).2.2.2.1)
theorem outAS_congr (c : Dev nD) (s t : Fin cfg0.N) (hs : s.val % 6 = 0) (ht : t.val % 6 = 0) (e : s = t) :
    outAS m c s hs = outAS m c t ht := by subst e; rfl
/-- What the first point of `t`'s row block left in output 7. -/
def kept7 (c : Dev nD) (t : Fin cfg0.N) : Vec F S512x4096 .i8 := outA7 m c (at_ 0 (by decide) t) (at_mod 0 _ t)
/-- What the first point of `t`'s row block left in output 8. -/
def kept8 (c : Dev nD) (t : Fin cfg0.N) : Vec F S512x1 .f32 := outA8 m c (at_ 0 (by decide) t) (at_mod 0 _ t)
/-- What the first point of `t`'s row block left in the scratch. -/
def keptS (c : Dev nD) (t : Fin cfg0.N) : Vec F S512x4096 .bf16 := outAS m c (at_ 0 (by decide) t) (at_mod 0 _ t)
/-- The run at the points that make q, but the first, at the point's memrefs and blocks. -/
abbrev pointB (c : Dev nD) (t : Fin cfg0.N) (h : t.val % 6 ≠ 0 ∧ t.val % 6 ≤ 3) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h' => absurd ((hcond0_0 t).mp h') (by omega)) ((hcond0_1 t).mpr h.2) (fun h' => absurd ((hcond0_2 t).mp h') (by omega)) (fun h' => absurd ((hcond0_3 t).mp h') (by omega)) (iblk m c 0 t) (iblk m c 1 t) (iblk m c 2 t) (iblk m c 3 t) (iblk m c 4 t) (iblk m c 5 t) (iblk m c 6 t) (kept8 m c t) (keptS m c t)
/-- Its pieces for output 9 cover the buffer. -/
theorem coverB9 (c : Dev nD) (t : Fin cfg0.N) (h : t.val % 6 ≠ 0 ∧ t.val % 6 ≤ 3) (y : S512x1024.Idx) :
    ∃ pc ∈ (pointB m c t h).1, y ∈ pc.1.set :=
  View.cover_of_tiledL (pointB m c t h).1 S512x128.size (by sl_kernel_rfl) y
/-- What it leaves there: the pieces read back. -/
def outB9 (c : Dev nD) (t : Fin cfg0.N) (h : t.val % 6 ≠ 0 ∧ t.val % 6 ≤ 3) : Vec F S512x1024 .bf16 :=
  VO0_9.read (Elt F) (VO0_9.writes (Elt F) VO0_9.junk (pointB m c t h).1)
theorem outB9_congr (c : Dev nD) (s t : Fin cfg0.N) (hs : s.val % 6 ≠ 0 ∧ s.val % 6 ≤ 3) (ht : t.val % 6 ≠ 0 ∧ t.val % 6 ≤ 3) (e : s = t) :
    outB9 m c s hs = outB9 m c t ht := by subst e; rfl
/-- The run at the point that makes k, at the point's memrefs and blocks. -/
abbrev pointC (c : Dev nD) (t : Fin cfg0.N) (h : t.val % 6 = 4) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h' => absurd ((hcond0_0 t).mp h') (by omega)) (fun h' => absurd ((hcond0_1 t).mp h') (by omega)) ((hcond0_2 t).mpr h) (fun h' => absurd ((hcond0_3 t).mp h') (by omega)) (iblk m c 0 t) (iblk m c 1 t) (iblk m c 2 t) (iblk m c 3 t) (iblk m c 4 t) (iblk m c 5 t) (iblk m c 6 t) (kept8 m c t) (keptS m c t)
/-- Its pieces for output 10 cover the buffer. -/
theorem coverC10 (c : Dev nD) (t : Fin cfg0.N) (h : t.val % 6 = 4) (y : S512x1024.Idx) :
    ∃ pc ∈ (pointC m c t h).1, y ∈ pc.1.set :=
  View.cover_of_tiledL (pointC m c t h).1 S512x128.size (by sl_kernel_rfl) y
/-- What it leaves there: the pieces read back. -/
def outC10 (c : Dev nD) (t : Fin cfg0.N) (h : t.val % 6 = 4) : Vec F S512x1024 .bf16 :=
  VO0_10.read (Elt F) (VO0_10.writes (Elt F) VO0_10.junk (pointC m c t h).1)
theorem outC10_congr (c : Dev nD) (s t : Fin cfg0.N) (hs : s.val % 6 = 4) (ht : t.val % 6 = 4) (e : s = t) :
    outC10 m c s hs = outC10 m c t ht := by subst e; rfl
/-- Its pieces for output 12 cover the buffer. -/
theorem coverC12 (c : Dev nD) (t : Fin cfg0.N) (h : t.val % 6 = 4) (y : S512x512.Idx) :
    ∃ pc ∈ (pointC m c t h).2.1, y ∈ pc.1.set :=
  View.cover_of_tiledL (pointC m c t h).2.1 S512x64.size (by sl_kernel_rfl) y
/-- What it leaves there: the pieces read back. -/
def outC12 (c : Dev nD) (t : Fin cfg0.N) (h : t.val % 6 = 4) : Vec F S512x512 .i8 :=
  VO0_12.read (Elt F) (VO0_12.writes (Elt F) VO0_12.junk (pointC m c t h).2.1)
theorem outC12_congr (c : Dev nD) (s t : Fin cfg0.N) (hs : s.val % 6 = 4) (ht : t.val % 6 = 4) (e : s = t) :
    outC12 m c s hs = outC12 m c t ht := by subst e; rfl
/-- Its pieces for output 14 cover the buffer. -/
theorem coverC14 (c : Dev nD) (t : Fin cfg0.N) (h : t.val % 6 = 4) (y : S512x8.Idx) :
    ∃ pc ∈ (pointC m c t h).2.2.1, y ∈ pc.1.set :=
  View.cover_of_tiledL (pointC m c t h).2.2.1 S512x8.size (by sl_kernel_rfl) y
/-- What it leaves there: the pieces read back. -/
def outC14 (c : Dev nD) (t : Fin cfg0.N) (h : t.val % 6 = 4) : Vec F S512x8 .f32 :=
  VO0_14.read (Elt F) (VO0_14.writes (Elt F) VO0_14.junk (pointC m c t h).2.2.1)
theorem outC14_congr (c : Dev nD) (s t : Fin cfg0.N) (hs : s.val % 6 = 4) (ht : t.val % 6 = 4) (e : s = t) :
    outC14 m c s hs = outC14 m c t ht := by subst e; rfl
/-- Its pieces for output 15 cover the buffer. -/
theorem coverC15 (c : Dev nD) (t : Fin cfg0.N) (h : t.val % 6 = 4) (y : S512x8.Idx) :
    ∃ pc ∈ (pointC m c t h).2.2.2.1, y ∈ pc.1.set :=
  View.cover_of_tiledL (pointC m c t h).2.2.2.1 S512x8.size (by sl_kernel_rfl) y
/-- What it leaves there: the pieces read back. -/
def outC15 (c : Dev nD) (t : Fin cfg0.N) (h : t.val % 6 = 4) : Vec F S512x8 .f32 :=
  VO0_15.read (Elt F) (VO0_15.writes (Elt F) VO0_15.junk (pointC m c t h).2.2.2.1)
theorem outC15_congr (c : Dev nD) (s t : Fin cfg0.N) (hs : s.val % 6 = 4) (ht : t.val % 6 = 4) (e : s = t) :
    outC15 m c s hs = outC15 m c t ht := by subst e; rfl
/-- The run at the point that makes v, at the point's memrefs and blocks. -/
abbrev pointD (c : Dev nD) (t : Fin cfg0.N) (h : t.val % 6 = 5) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h' => absurd ((hcond0_0 t).mp h') (by omega)) (fun h' => absurd ((hcond0_1 t).mp h') (by omega)) (fun h' => absurd ((hcond0_2 t).mp h') (by omega)) ((hcond0_3 t).mpr h) (iblk m c 0 t) (iblk m c 1 t) (iblk m c 2 t) (iblk m c 3 t) (iblk m c 4 t) (iblk m c 5 t) (iblk m c 6 t) (kept8 m c t) (keptS m c t)
/-- Its pieces for output 11 cover the buffer. -/
theorem coverD11 (c : Dev nD) (t : Fin cfg0.N) (h : t.val % 6 = 5) (y : S512x1024.Idx) :
    ∃ pc ∈ (pointD m c t h).1, y ∈ pc.1.set :=
  View.cover_of_tiledL (pointD m c t h).1 S512x128.size (by sl_kernel_rfl) y
/-- What it leaves there: the pieces read back. -/
def outD11 (c : Dev nD) (t : Fin cfg0.N) (h : t.val % 6 = 5) : Vec F S512x1024 .bf16 :=
  VO0_11.read (Elt F) (VO0_11.writes (Elt F) VO0_11.junk (pointD m c t h).1)
theorem outD11_congr (c : Dev nD) (s t : Fin cfg0.N) (hs : s.val % 6 = 5) (ht : t.val % 6 = 5) (e : s = t) :
    outD11 m c s hs = outD11 m c t ht := by subst e; rfl
/-- Its pieces for output 13 cover the buffer. -/
theorem coverD13 (c : Dev nD) (t : Fin cfg0.N) (h : t.val % 6 = 5) (y : S512x512.Idx) :
    ∃ pc ∈ (pointD m c t h).2.1, y ∈ pc.1.set :=
  View.cover_of_tiledL (pointD m c t h).2.1 S512x64.size (by sl_kernel_rfl) y
/-- What it leaves there: the pieces read back. -/
def outD13 (c : Dev nD) (t : Fin cfg0.N) (h : t.val % 6 = 5) : Vec F S512x512 .i8 :=
  VO0_13.read (Elt F) (VO0_13.writes (Elt F) VO0_13.junk (pointD m c t h).2.1)
theorem outD13_congr (c : Dev nD) (s t : Fin cfg0.N) (hs : s.val % 6 = 5) (ht : t.val % 6 = 5) (e : s = t) :
    outD13 m c s hs = outD13 m c t ht := by subst e; rfl
/-- Its pieces for output 16 cover the buffer. -/
theorem coverD16 (c : Dev nD) (t : Fin cfg0.N) (h : t.val % 6 = 5) (y : S512x8.Idx) :
    ∃ pc ∈ (pointD m c t h).2.2.1, y ∈ pc.1.set :=
  View.cover_of_tiledL (pointD m c t h).2.2.1 S512x8.size (by sl_kernel_rfl) y
/-- What it leaves there: the pieces read back. -/
def outD16 (c : Dev nD) (t : Fin cfg0.N) (h : t.val % 6 = 5) : Vec F S512x8 .f32 :=
  VO0_16.read (Elt F) (VO0_16.writes (Elt F) VO0_16.junk (pointD m c t h).2.2.1)
theorem outD16_congr (c : Dev nD) (s t : Fin cfg0.N) (hs : s.val % 6 = 5) (ht : t.val % 6 = 5) (e : s = t) :
    outD16 m c s hs = outD16 m c t ht := by subst e; rfl
/-- Its pieces for output 17 cover the buffer. -/
theorem coverD17 (c : Dev nD) (t : Fin cfg0.N) (h : t.val % 6 = 5) (y : S512x8.Idx) :
    ∃ pc ∈ (pointD m c t h).2.2.2.1, y ∈ pc.1.set :=
  View.cover_of_tiledL (pointD m c t h).2.2.2.1 S512x8.size (by sl_kernel_rfl) y
/-- What it leaves there: the pieces read back. -/
def outD17 (c : Dev nD) (t : Fin cfg0.N) (h : t.val % 6 = 5) : Vec F S512x8 .f32 :=
  VO0_17.read (Elt F) (VO0_17.writes (Elt F) VO0_17.junk (pointD m c t h).2.2.2.1)
theorem outD17_congr (c : Dev nD) (s t : Fin cfg0.N) (hs : s.val % 6 = 5) (ht : t.val % 6 = 5) (e : s = t) :
    outD17 m c s hs = outD17 m c t ht := by subst e; rfl
theorem at9 (t : Fin cfg0.N) : (at_ 3 (by decide) t).val % 6 ≠ 0 ∧ (at_ 3 (by decide) t).val % 6 ≤ 3 := by
  rw [at_mod 3 (by decide) t]; decide

/-! ## The invariant -/

/-- The invariant before position `n`: at the start of a row block the scratch at anything; inside one, at what its first point left. -/
def PhiS (c : Dev nD) (n : ℕ) (hn : n ≤ cfg0.N) : sProp 𝕄 :=
  if h : n % 6 = 0 then Pipeline.ΦA spec0 c
  else iprop(iprop(owns (c : Thread nD τ) scM0_0 fullShare (keptS m c ⟨n, by rw [show cfg0.N = 72 from N_0] at hn ⊢; omega⟩)) ∗ (∃ r, prngReg c r))
theorem PhiS_start (c : Dev nD) (n : ℕ) (hn : n ≤ cfg0.N) (h : n % 6 = 0) : PhiS m c n hn = Pipeline.ΦA spec0 c := dif_pos h
theorem PhiS_in (c : Dev nD) (t : Fin cfg0.N) (h : t.val % 6 ≠ 0) :
    PhiS m c t.val (Nat.le_of_lt t.isLt) = iprop(iprop(owns (c : Thread nD τ) scM0_0 fullShare (keptS m c t)) ∗ (∃ r, prngReg c r)) := dif_neg h
theorem PhiS_next (c : Dev nD) (t : Fin cfg0.N) (h : (t.val + 1) % 6 ≠ 0) :
    PhiS m c (t.val + 1) t.isLt = iprop(iprop(owns (c : Thread nD τ) scM0_0 fullShare (keptS m c t)) ∗ (∃ r, prngReg c r)) := by
  have hN : t.val < 72 := lt_of_lt_of_eq t.isLt (show cfg0.N = 72 from N_0)
  unfold PhiS; rw [dif_neg h]
  have e : ∀ u : Fin cfg0.N, u.val = t.val + 1 → keptS m c u = keptS m c t := fun u hu =>
    outAS_congr m c _ _ _ _ (by apply Fin.ext; show u.val / 6 * 6 + 0 = t.val / 6 * 6 + 0; omega)
  rw [e ⟨t.val + 1, _⟩ rfl]
theorem PhiS_give (c : Dev nD) (n : ℕ) (hn : n ≤ cfg0.N) (h : n % 6 = 0) :
    PhiS m c n hn = iprop(iprop((∃ d, owns (c : Thread nD τ) scM0_0 fullShare d)) ∗ (∃ r, prngReg c r)) := by
  rw [PhiS_start m c n hn h, PhiA0_eq]

/-- The proof data of the call on core `c`: the arrays as found; after the body at point `t` each input's buffer at its block, each
    output's at what the last point that stored into it left; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => kept7 m c t
    | ⟨8, _⟩ => kept8 m c t
    | ⟨9, _⟩ => if h : t.val % 6 = 0 then outA9 m c t h else if h : t.val % 6 ≠ 0 ∧ t.val % 6 ≤ 3 then outB9 m c t h else outB9 m c (at_ 3 (by decide) t) (at9 t)
    | ⟨10, _⟩ => outC10 m c (at_ 4 (by decide) t) (at_mod 4 _ t)
    | ⟨11, _⟩ => outD11 m c (at_ 5 (by decide) t) (at_mod 5 _ t)
    | ⟨12, _⟩ => outC12 m c (at_ 4 (by decide) t) (at_mod 4 _ t)
    | ⟨13, _⟩ => outD13 m c (at_ 5 (by decide) t) (at_mod 5 _ t)
    | ⟨14, _⟩ => outC14 m c (at_ 4 (by decide) t) (at_mod 4 _ t)
    | ⟨15, _⟩ => outC15 m c (at_ 4 (by decide) t) (at_mod 4 _ t)
    | ⟨16, _⟩ => outD16 m c (at_ 5 (by decide) t) (at_mod 5 _ t)
    | ⟨17, _⟩ => outD17 m c (at_ 5 (by decide) t) (at_mod 5 _ t)
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = kept7 m c t := by dsimp only [dats]
theorem after_8 (c : Dev nD) (t : Fin cfg0.N) : (dats m 0 c).after 8 t = kept8 m c t := by dsimp only [dats]
theorem after_9 (c : Dev nD) (t : Fin cfg0.N) : (dats m 0 c).after 9 t = if h : t.val % 6 = 0 then outA9 m c t h else if h : t.val % 6 ≠ 0 ∧ t.val % 6 ≤ 3 then outB9 m c t h else outB9 m c (at_ 3 (by decide) t) (at9 t) := by dsimp only [dats]
theorem after_10 (c : Dev nD) (t : Fin cfg0.N) : (dats m 0 c).after 10 t = outC10 m c (at_ 4 (by decide) t) (at_mod 4 _ t) := by dsimp only [dats]
theorem after_11 (c : Dev nD) (t : Fin cfg0.N) : (dats m 0 c).after 11 t = outD11 m c (at_ 5 (by decide) t) (at_mod 5 _ t) := by dsimp only [dats]
theorem after_12 (c : Dev nD) (t : Fin cfg0.N) : (dats m 0 c).after 12 t = outC12 m c (at_ 4 (by decide) t) (at_mod 4 _ t) := by dsimp only [dats]
theorem after_13 (c : Dev nD) (t : Fin cfg0.N) : (dats m 0 c).after 13 t = outD13 m c (at_ 5 (by decide) t) (at_mod 5 _ t) := by dsimp only [dats]
theorem after_14 (c : Dev nD) (t : Fin cfg0.N) : (dats m 0 c).after 14 t = outC14 m c (at_ 4 (by decide) t) (at_mod 4 _ t) := by dsimp only [dats]
theorem after_15 (c : Dev nD) (t : Fin cfg0.N) : (dats m 0 c).after 15 t = outC15 m c (at_ 4 (by decide) t) (at_mod 4 _ t) := by dsimp only [dats]
theorem after_16 (c : Dev nD) (t : Fin cfg0.N) : (dats m 0 c).after 16 t = outD16 m c (at_ 5 (by decide) t) (at_mod 5 _ t) := by dsimp only [dats]
theorem after_17 (c : Dev nD) (t : Fin cfg0.N) : (dats m 0 c).after 17 t = outD17 m c (at_ 5 (by decide) t) (at_mod 5 _ t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## Where the outputs are idle, written back, and fresh -/

theorem idle_7 : ∀ t : Fin cfg0.N, cfg0.idle 7 (grid0.coords t) = decide (¬ (t.val % 6 = 0)) :=
  (by decide +kernel : ∀ t : Fin grid0.N, cfg0.idle 7 (grid0.coords t) = decide (¬ (t.val % 6 = 0)))
theorem flush_7 : ∀ t : Fin cfg0.N, (cfg0.win 7).flush t = decide (t.val % 6 = 5) :=
  (by intro t; rw [Pipeline.Window.flush_eq_flushF]; revert t; decide +kernel : ∀ t : Fin cfg0.N, (cfg0.win 7).flush t = decide (t.val % 6 = 5))
theorem fresh_7 (t : Fin cfg0.N) : cfg0.fresh 7 t.val = decide (t.val % 6 = 0) :=
  Pipeline.Cfg.fresh_tab cfg0 7 (fun n => decide (n % 6 = 0)) (by decide) (fun t => by
    have h : t.val < 72 := lt_of_lt_of_eq t.isLt N_0
    rw [flush_7, show cfg0.idle 7 (cfg0.grid.coords t) = _ from idle_7 t]
    simp only [← Bool.decide_or, ← Bool.decide_and, decide_eq_decide]; omega) t.val (Nat.le_of_lt t.isLt)
/-- Through the points that leave output 7 alone its contents are carried. -/
theorem carry_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t h0 hi hf
  rw [idle_7] at hi; rw [fresh_7] at hf
  have hi' := of_decide_eq_true hi
  have hf' := of_decide_eq_false hf
  rw [after_7, after_7]
  exact (outA7_congr m c _ _ _ _ (at_pred 0 _ t hi' _)).symm
/-- Where it is left alone and not fresh, the buffer holds what `after` says. -/
theorem before_7 (c : Dev nD) (t : Fin cfg0.N) (hi : ¬ (t.val % 6 = 0)) (hf : ¬ (t.val % 6 = 0)) (d) :
    (dats m 0 c).before 7 t d = (dats m 0 c).after 7 t := by
  have hf' : cfg0.fresh 7 t.val = false := by rw [fresh_7]; exact decide_eq_false hf
  have h0 : t.val ≠ 0 := fun h => hf (by omega)
  rw [Dat.before_out_traj _ 7 rfl (fun _ _ => rfl) (carry_7 m c) t.val t rfl d, if_neg (by rw [hf']; exact Bool.false_ne_true)]
  exact (carry_7 m c t h0 (by rw [idle_7]; exact decide_eq_true hi) hf').symm
/-- A point that stores nothing into output 7 hands it back as the obligation wants it. -/
theorem back_7 (c : Dev nD) (t : Fin cfg0.N) (hi : ¬ (t.val % 6 = 0)) :
    (iprop(∃ d, owns (c : Thread nD τ) (ms0_7 t) fullShare ((dats m 0 c).before 7 t d)) : sProp 𝕄) ⊢ (dats m 0 c).leavesExact 7 t := by
  have hI : cfg0.idle 7 (cfg0.grid.coords t) = true := by rw [show cfg0.idle 7 (cfg0.grid.coords t) = _ from idle_7 t]; exact decide_eq_true hi
  by_cases hf : t.val % 6 = 5
  · have hF : (cfg0.win 7).flush t = true := by rw [flush_7]; exact decide_eq_true hf
    unfold Dat.leavesExact; rw [hI, hF]
    simp only [before_7 m c t hi (by omega)]
    iintro ⟨%d, H⟩; iexact H
  · have hF : (cfg0.win 7).flush t = false := by rw [flush_7]; exact decide_eq_false hf
    rw [Dat.leavesExact_idle _ _ _ hI hF]
theorem idle_8 : ∀ t : Fin cfg0.N, cfg0.idle 8 (grid0.coords t) = decide (¬ (t.val % 6 = 0)) :=
  (by decide +kernel : ∀ t : Fin grid0.N, cfg0.idle 8 (grid0.coords t) = decide (¬ (t.val % 6 = 0)))
theorem flush_8 : ∀ t : Fin cfg0.N, (cfg0.win 8).flush t = decide (t.val % 6 = 5) :=
  (by intro t; rw [Pipeline.Window.flush_eq_flushF]; revert t; decide +kernel : ∀ t : Fin cfg0.N, (cfg0.win 8).flush t = decide (t.val % 6 = 5))
theorem fresh_8 (t : Fin cfg0.N) : cfg0.fresh 8 t.val = decide (t.val % 6 = 0) :=
  Pipeline.Cfg.fresh_tab cfg0 8 (fun n => decide (n % 6 = 0)) (by decide) (fun t => by
    have h : t.val < 72 := lt_of_lt_of_eq t.isLt N_0
    rw [flush_8, show cfg0.idle 8 (cfg0.grid.coords t) = _ from idle_8 t]
    simp only [← Bool.decide_or, ← Bool.decide_and, decide_eq_decide]; omega) t.val (Nat.le_of_lt t.isLt)
/-- Through the points that leave output 8 alone its contents are carried. -/
theorem carry_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t h0 hi hf
  rw [idle_8] at hi; rw [fresh_8] at hf
  have hi' := of_decide_eq_true hi
  have hf' := of_decide_eq_false hf
  rw [after_8, after_8]
  exact (outA8_congr m c _ _ _ _ (at_pred 0 _ t hi' _)).symm
/-- Where it is left alone and not fresh, the buffer holds what `after` says. -/
theorem before_8 (c : Dev nD) (t : Fin cfg0.N) (hi : ¬ (t.val % 6 = 0)) (hf : ¬ (t.val % 6 = 0)) (d) :
    (dats m 0 c).before 8 t d = (dats m 0 c).after 8 t := by
  have hf' : cfg0.fresh 8 t.val = false := by rw [fresh_8]; exact decide_eq_false hf
  have h0 : t.val ≠ 0 := fun h => hf (by omega)
  rw [Dat.before_out_traj _ 8 rfl (fun _ _ => rfl) (carry_8 m c) t.val t rfl d, if_neg (by rw [hf']; exact Bool.false_ne_true)]
  exact (carry_8 m c t h0 (by rw [idle_8]; exact decide_eq_true hi) hf').symm
/-- A point that stores nothing into output 8 hands it back as the obligation wants it. -/
theorem back_8 (c : Dev nD) (t : Fin cfg0.N) (hi : ¬ (t.val % 6 = 0)) :
    (iprop(∃ d, owns (c : Thread nD τ) (ms0_8 t) fullShare ((dats m 0 c).before 8 t d)) : sProp 𝕄) ⊢ (dats m 0 c).leavesExact 8 t := by
  have hI : cfg0.idle 8 (cfg0.grid.coords t) = true := by rw [show cfg0.idle 8 (cfg0.grid.coords t) = _ from idle_8 t]; exact decide_eq_true hi
  by_cases hf : t.val % 6 = 5
  · have hF : (cfg0.win 8).flush t = true := by rw [flush_8]; exact decide_eq_true hf
    unfold Dat.leavesExact; rw [hI, hF]
    simp only [before_8 m c t hi (by omega)]
    iintro ⟨%d, H⟩; iexact H
  · have hF : (cfg0.win 8).flush t = false := by rw [flush_8]; exact decide_eq_false hf
    rw [Dat.leavesExact_idle _ _ _ hI hF]
theorem idle_9 : ∀ t : Fin cfg0.N, cfg0.idle 9 (grid0.coords t) = decide (¬ (t.val % 6 ≤ 3)) :=
  (by decide +kernel : ∀ t : Fin grid0.N, cfg0.idle 9 (grid0.coords t) = decide (¬ (t.val % 6 ≤ 3)))
theorem flush_9 : ∀ t : Fin cfg0.N, (cfg0.win 9).flush t = decide (t.val % 6 ≠ 3 ∧ t.val % 6 ≠ 4) :=
  (by intro t; rw [Pipeline.Window.flush_eq_flushF]; revert t; decide +kernel : ∀ t : Fin cfg0.N, (cfg0.win 9).flush t = decide (t.val % 6 ≠ 3 ∧ t.val % 6 ≠ 4))
theorem fresh_9 (t : Fin cfg0.N) : cfg0.fresh 9 t.val = decide (t.val % 6 ≤ 3) :=
  Pipeline.Cfg.fresh_tab cfg0 9 (fun n => decide (n % 6 ≤ 3)) (by decide) (fun t => by
    have h : t.val < 72 := lt_of_lt_of_eq t.isLt N_0
    rw [flush_9, show cfg0.idle 9 (cfg0.grid.coords t) = _ from idle_9 t]
    simp only [← Bool.decide_or, ← Bool.decide_and, decide_eq_decide]; omega) t.val (Nat.le_of_lt t.isLt)
/-- Through the points that leave output 9 alone its contents are carried. -/
theorem carry_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t h0 hi hf
  rw [idle_9] at hi; rw [fresh_9] at hf
  have hi' := of_decide_eq_true hi
  have hf' := of_decide_eq_false hf
  rw [after_9, after_9]
  have hN : t.val < 72 := lt_of_lt_of_eq t.isLt (show cfg0.N = 72 from N_0)
  rw [dif_neg (by omega), dif_neg (by omega)]
  by_cases h4 : t.val % 6 = 4
  · rw [dif_neg (by show ¬ (t.val - 1) % 6 = 0; omega), dif_pos (show (t.val - 1) % 6 ≠ 0 ∧ (t.val - 1) % 6 ≤ 3 by omega)]
    exact outB9_congr m c _ _ _ _ (by apply Fin.ext; show t.val / 6 * 6 + 3 = t.val - 1; omega)
  · rw [dif_neg (by show ¬ (t.val - 1) % 6 = 0; omega), dif_neg (show ¬ ((t.val - 1) % 6 ≠ 0 ∧ (t.val - 1) % 6 ≤ 3) by omega)]
    exact (outB9_congr m c _ _ _ _ (at_pred 3 _ t (by omega) _)).symm
/-- Where it is left alone and not fresh, the buffer holds what `after` says. -/
theorem before_9 (c : Dev nD) (t : Fin cfg0.N) (hi : ¬ (t.val % 6 ≤ 3)) (hf : ¬ (t.val % 6 ≤ 3)) (d) :
    (dats m 0 c).before 9 t d = (dats m 0 c).after 9 t := by
  have hf' : cfg0.fresh 9 t.val = false := by rw [fresh_9]; exact decide_eq_false hf
  have h0 : t.val ≠ 0 := fun h => hf (by omega)
  rw [Dat.before_out_traj _ 9 rfl (fun _ _ => rfl) (carry_9 m c) t.val t rfl d, if_neg (by rw [hf']; exact Bool.false_ne_true)]
  exact (carry_9 m c t h0 (by rw [idle_9]; exact decide_eq_true hi) hf').symm
/-- A point that stores nothing into output 9 hands it back as the obligation wants it. -/
theorem back_9 (c : Dev nD) (t : Fin cfg0.N) (hi : ¬ (t.val % 6 ≤ 3)) :
    (iprop(∃ d, owns (c : Thread nD τ) (ms0_9 t) fullShare ((dats m 0 c).before 9 t d)) : sProp 𝕄) ⊢ (dats m 0 c).leavesExact 9 t := by
  have hI : cfg0.idle 9 (cfg0.grid.coords t) = true := by rw [show cfg0.idle 9 (cfg0.grid.coords t) = _ from idle_9 t]; exact decide_eq_true hi
  by_cases hf : t.val % 6 ≠ 3 ∧ t.val % 6 ≠ 4
  · have hF : (cfg0.win 9).flush t = true := by rw [flush_9]; exact decide_eq_true hf
    unfold Dat.leavesExact; rw [hI, hF]
    simp only [before_9 m c t hi (by omega)]
    iintro ⟨%d, H⟩; iexact H
  · have hF : (cfg0.win 9).flush t = false := by rw [flush_9]; exact decide_eq_false hf
    rw [Dat.leavesExact_idle _ _ _ hI hF]
theorem idle_10 : ∀ t : Fin cfg0.N, cfg0.idle 10 (grid0.coords t) = decide (¬ (t.val % 6 = 4)) :=
  (by decide +kernel : ∀ t : Fin grid0.N, cfg0.idle 10 (grid0.coords t) = decide (¬ (t.val % 6 = 4)))
theorem flush_10 : ∀ t : Fin cfg0.N, (cfg0.win 10).flush t = decide (t.val % 6 = 5) :=
  (by intro t; rw [Pipeline.Window.flush_eq_flushF]; revert t; decide +kernel : ∀ t : Fin cfg0.N, (cfg0.win 10).flush t = decide (t.val % 6 = 5))
theorem fresh_10 (t : Fin cfg0.N) : cfg0.fresh 10 t.val = decide (t.val % 6 ≤ 4) :=
  Pipeline.Cfg.fresh_tab cfg0 10 (fun n => decide (n % 6 ≤ 4)) (by decide) (fun t => by
    have h : t.val < 72 := lt_of_lt_of_eq t.isLt N_0
    rw [flush_10, show cfg0.idle 10 (cfg0.grid.coords t) = _ from idle_10 t]
    simp only [← Bool.decide_or, ← Bool.decide_and, decide_eq_decide]; omega) t.val (Nat.le_of_lt t.isLt)
/-- Through the points that leave output 10 alone its contents are carried. -/
theorem carry_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t h0 hi hf
  rw [idle_10] at hi; rw [fresh_10] at hf
  have hi' := of_decide_eq_true hi
  have hf' := of_decide_eq_false hf
  rw [after_10, after_10]
  exact (outC10_congr m c _ _ _ _ (at_pred 4 _ t (by omega) _)).symm
/-- Where it is left alone and not fresh, the buffer holds what `after` says. -/
theorem before_10 (c : Dev nD) (t : Fin cfg0.N) (hi : ¬ (t.val % 6 = 4)) (hf : ¬ (t.val % 6 ≤ 4)) (d) :
    (dats m 0 c).before 10 t d = (dats m 0 c).after 10 t := by
  have hf' : cfg0.fresh 10 t.val = false := by rw [fresh_10]; exact decide_eq_false hf
  have h0 : t.val ≠ 0 := fun h => hf (by omega)
  rw [Dat.before_out_traj _ 10 rfl (fun _ _ => rfl) (carry_10 m c) t.val t rfl d, if_neg (by rw [hf']; exact Bool.false_ne_true)]
  exact (carry_10 m c t h0 (by rw [idle_10]; exact decide_eq_true hi) hf').symm
/-- A point that stores nothing into output 10 hands it back as the obligation wants it. -/
theorem back_10 (c : Dev nD) (t : Fin cfg0.N) (hi : ¬ (t.val % 6 = 4)) :
    (iprop(∃ d, owns (c : Thread nD τ) (ms0_10 t) fullShare ((dats m 0 c).before 10 t d)) : sProp 𝕄) ⊢ (dats m 0 c).leavesExact 10 t := by
  have hI : cfg0.idle 10 (cfg0.grid.coords t) = true := by rw [show cfg0.idle 10 (cfg0.grid.coords t) = _ from idle_10 t]; exact decide_eq_true hi
  by_cases hf : t.val % 6 = 5
  · have hF : (cfg0.win 10).flush t = true := by rw [flush_10]; exact decide_eq_true hf
    unfold Dat.leavesExact; rw [hI, hF]
    simp only [before_10 m c t hi (by omega)]
    iintro ⟨%d, H⟩; iexact H
  · have hF : (cfg0.win 10).flush t = false := by rw [flush_10]; exact decide_eq_false hf
    rw [Dat.leavesExact_idle _ _ _ hI hF]
theorem idle_11 : ∀ t : Fin cfg0.N, cfg0.idle 11 (grid0.coords t) = decide (¬ (t.val % 6 = 5)) :=
  (by decide +kernel : ∀ t : Fin grid0.N, cfg0.idle 11 (grid0.coords t) = decide (¬ (t.val % 6 = 5)))
theorem flush_11 : ∀ t : Fin cfg0.N, (cfg0.win 11).flush t = decide (t.val % 6 = 5) :=
  (by intro t; rw [Pipeline.Window.flush_eq_flushF]; revert t; decide +kernel : ∀ t : Fin cfg0.N, (cfg0.win 11).flush t = decide (t.val % 6 = 5))
/-- A point that stores nothing into output 11 hands it back as the obligation wants it. -/
theorem back_11 (c : Dev nD) (t : Fin cfg0.N) (hi : ¬ (t.val % 6 = 5)) :
    (iprop(∃ d, owns (c : Thread nD τ) (ms0_11 t) fullShare ((dats m 0 c).before 11 t d)) : sProp 𝕄) ⊢ (dats m 0 c).leavesExact 11 t := by
  have hI : cfg0.idle 11 (cfg0.grid.coords t) = true := by rw [show cfg0.idle 11 (cfg0.grid.coords t) = _ from idle_11 t]; exact decide_eq_true hi
  by_cases hf : t.val % 6 = 5
  · exact absurd hf hi
  · have hF : (cfg0.win 11).flush t = false := by rw [flush_11]; exact decide_eq_false hf
    rw [Dat.leavesExact_idle _ _ _ hI hF]
theorem idle_12 : ∀ t : Fin cfg0.N, cfg0.idle 12 (grid0.coords t) = decide (¬ (t.val % 6 = 4)) :=
  (by decide +kernel : ∀ t : Fin grid0.N, cfg0.idle 12 (grid0.coords t) = decide (¬ (t.val % 6 = 4)))
theorem flush_12 : ∀ t : Fin cfg0.N, (cfg0.win 12).flush t = decide (t.val % 6 = 5) :=
  (by intro t; rw [Pipeline.Window.flush_eq_flushF]; revert t; decide +kernel : ∀ t : Fin cfg0.N, (cfg0.win 12).flush t = decide (t.val % 6 = 5))
theorem fresh_12 (t : Fin cfg0.N) : cfg0.fresh 12 t.val = decide (t.val % 6 ≤ 4) :=
  Pipeline.Cfg.fresh_tab cfg0 12 (fun n => decide (n % 6 ≤ 4)) (by decide) (fun t => by
    have h : t.val < 72 := lt_of_lt_of_eq t.isLt N_0
    rw [flush_12, show cfg0.idle 12 (cfg0.grid.coords t) = _ from idle_12 t]
    simp only [← Bool.decide_or, ← Bool.decide_and, decide_eq_decide]; omega) t.val (Nat.le_of_lt t.isLt)
/-- Through the points that leave output 12 alone its contents are carried. -/
theorem carry_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t h0 hi hf
  rw [idle_12] at hi; rw [fresh_12] at hf
  have hi' := of_decide_eq_true hi
  have hf' := of_decide_eq_false hf
  rw [after_12, after_12]
  exact (outC12_congr m c _ _ _ _ (at_pred 4 _ t (by omega) _)).symm
/-- Where it is left alone and not fresh, the buffer holds what `after` says. -/
theorem before_12 (c : Dev nD) (t : Fin cfg0.N) (hi : ¬ (t.val % 6 = 4)) (hf : ¬ (t.val % 6 ≤ 4)) (d) :
    (dats m 0 c).before 12 t d = (dats m 0 c).after 12 t := by
  have hf' : cfg0.fresh 12 t.val = false := by rw [fresh_12]; exact decide_eq_false hf
  have h0 : t.val ≠ 0 := fun h => hf (by omega)
  rw [Dat.before_out_traj _ 12 rfl (fun _ _ => rfl) (carry_12 m c) t.val t rfl d, if_neg (by rw [hf']; exact Bool.false_ne_true)]
  exact (carry_12 m c t h0 (by rw [idle_12]; exact decide_eq_true hi) hf').symm
/-- A point that stores nothing into output 12 hands it back as the obligation wants it. -/
theorem back_12 (c : Dev nD) (t : Fin cfg0.N) (hi : ¬ (t.val % 6 = 4)) :
    (iprop(∃ d, owns (c : Thread nD τ) (ms0_12 t) fullShare ((dats m 0 c).before 12 t d)) : sProp 𝕄) ⊢ (dats m 0 c).leavesExact 12 t := by
  have hI : cfg0.idle 12 (cfg0.grid.coords t) = true := by rw [show cfg0.idle 12 (cfg0.grid.coords t) = _ from idle_12 t]; exact decide_eq_true hi
  by_cases hf : t.val % 6 = 5
  · have hF : (cfg0.win 12).flush t = true := by rw [flush_12]; exact decide_eq_true hf
    unfold Dat.leavesExact; rw [hI, hF]
    simp only [before_12 m c t hi (by omega)]
    iintro ⟨%d, H⟩; iexact H
  · have hF : (cfg0.win 12).flush t = false := by rw [flush_12]; exact decide_eq_false hf
    rw [Dat.leavesExact_idle _ _ _ hI hF]
theorem idle_13 : ∀ t : Fin cfg0.N, cfg0.idle 13 (grid0.coords t) = decide (¬ (t.val % 6 = 5)) :=
  (by decide +kernel : ∀ t : Fin grid0.N, cfg0.idle 13 (grid0.coords t) = decide (¬ (t.val % 6 = 5)))
theorem flush_13 : ∀ t : Fin cfg0.N, (cfg0.win 13).flush t = decide (t.val % 6 = 5) :=
  (by intro t; rw [Pipeline.Window.flush_eq_flushF]; revert t; decide +kernel : ∀ t : Fin cfg0.N, (cfg0.win 13).flush t = decide (t.val % 6 = 5))
/-- A point that stores nothing into output 13 hands it back as the obligation wants it. -/
theorem back_13 (c : Dev nD) (t : Fin cfg0.N) (hi : ¬ (t.val % 6 = 5)) :
    (iprop(∃ d, owns (c : Thread nD τ) (ms0_13 t) fullShare ((dats m 0 c).before 13 t d)) : sProp 𝕄) ⊢ (dats m 0 c).leavesExact 13 t := by
  have hI : cfg0.idle 13 (cfg0.grid.coords t) = true := by rw [show cfg0.idle 13 (cfg0.grid.coords t) = _ from idle_13 t]; exact decide_eq_true hi
  by_cases hf : t.val % 6 = 5
  · exact absurd hf hi
  · have hF : (cfg0.win 13).flush t = false := by rw [flush_13]; exact decide_eq_false hf
    rw [Dat.leavesExact_idle _ _ _ hI hF]
theorem idle_14 : ∀ t : Fin cfg0.N, cfg0.idle 14 (grid0.coords t) = decide (¬ (t.val % 6 = 4)) :=
  (by decide +kernel : ∀ t : Fin grid0.N, cfg0.idle 14 (grid0.coords t) = decide (¬ (t.val % 6 = 4)))
theorem flush_14 : ∀ t : Fin cfg0.N, (cfg0.win 14).flush t = decide (t.val % 6 = 5) :=
  (by intro t; rw [Pipeline.Window.flush_eq_flushF]; revert t; decide +kernel : ∀ t : Fin cfg0.N, (cfg0.win 14).flush t = decide (t.val % 6 = 5))
theorem fresh_14 (t : Fin cfg0.N) : cfg0.fresh 14 t.val = decide (t.val % 6 ≤ 4) :=
  Pipeline.Cfg.fresh_tab cfg0 14 (fun n => decide (n % 6 ≤ 4)) (by decide) (fun t => by
    have h : t.val < 72 := lt_of_lt_of_eq t.isLt N_0
    rw [flush_14, show cfg0.idle 14 (cfg0.grid.coords t) = _ from idle_14 t]
    simp only [← Bool.decide_or, ← Bool.decide_and, decide_eq_decide]; omega) t.val (Nat.le_of_lt t.isLt)
/-- Through the points that leave output 14 alone its contents are carried. -/
theorem carry_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t h0 hi hf
  rw [idle_14] at hi; rw [fresh_14] at hf
  have hi' := of_decide_eq_true hi
  have hf' := of_decide_eq_false hf
  rw [after_14, after_14]
  exact (outC14_congr m c _ _ _ _ (at_pred 4 _ t (by omega) _)).symm
/-- Where it is left alone and not fresh, the buffer holds what `after` says. -/
theorem before_14 (c : Dev nD) (t : Fin cfg0.N) (hi : ¬ (t.val % 6 = 4)) (hf : ¬ (t.val % 6 ≤ 4)) (d) :
    (dats m 0 c).before 14 t d = (dats m 0 c).after 14 t := by
  have hf' : cfg0.fresh 14 t.val = false := by rw [fresh_14]; exact decide_eq_false hf
  have h0 : t.val ≠ 0 := fun h => hf (by omega)
  rw [Dat.before_out_traj _ 14 rfl (fun _ _ => rfl) (carry_14 m c) t.val t rfl d, if_neg (by rw [hf']; exact Bool.false_ne_true)]
  exact (carry_14 m c t h0 (by rw [idle_14]; exact decide_eq_true hi) hf').symm
/-- A point that stores nothing into output 14 hands it back as the obligation wants it. -/
theorem back_14 (c : Dev nD) (t : Fin cfg0.N) (hi : ¬ (t.val % 6 = 4)) :
    (iprop(∃ d, owns (c : Thread nD τ) (ms0_14 t) fullShare ((dats m 0 c).before 14 t d)) : sProp 𝕄) ⊢ (dats m 0 c).leavesExact 14 t := by
  have hI : cfg0.idle 14 (cfg0.grid.coords t) = true := by rw [show cfg0.idle 14 (cfg0.grid.coords t) = _ from idle_14 t]; exact decide_eq_true hi
  by_cases hf : t.val % 6 = 5
  · have hF : (cfg0.win 14).flush t = true := by rw [flush_14]; exact decide_eq_true hf
    unfold Dat.leavesExact; rw [hI, hF]
    simp only [before_14 m c t hi (by omega)]
    iintro ⟨%d, H⟩; iexact H
  · have hF : (cfg0.win 14).flush t = false := by rw [flush_14]; exact decide_eq_false hf
    rw [Dat.leavesExact_idle _ _ _ hI hF]
theorem idle_15 : ∀ t : Fin cfg0.N, cfg0.idle 15 (grid0.coords t) = decide (¬ (t.val % 6 = 4)) :=
  (by decide +kernel : ∀ t : Fin grid0.N, cfg0.idle 15 (grid0.coords t) = decide (¬ (t.val % 6 = 4)))
theorem flush_15 : ∀ t : Fin cfg0.N, (cfg0.win 15).flush t = decide (t.val % 6 = 5) :=
  (by intro t; rw [Pipeline.Window.flush_eq_flushF]; revert t; decide +kernel : ∀ t : Fin cfg0.N, (cfg0.win 15).flush t = decide (t.val % 6 = 5))
theorem fresh_15 (t : Fin cfg0.N) : cfg0.fresh 15 t.val = decide (t.val % 6 ≤ 4) :=
  Pipeline.Cfg.fresh_tab cfg0 15 (fun n => decide (n % 6 ≤ 4)) (by decide) (fun t => by
    have h : t.val < 72 := lt_of_lt_of_eq t.isLt N_0
    rw [flush_15, show cfg0.idle 15 (cfg0.grid.coords t) = _ from idle_15 t]
    simp only [← Bool.decide_or, ← Bool.decide_and, decide_eq_decide]; omega) t.val (Nat.le_of_lt t.isLt)
/-- Through the points that leave output 15 alone its contents are carried. -/
theorem carry_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t h0 hi hf
  rw [idle_15] at hi; rw [fresh_15] at hf
  have hi' := of_decide_eq_true hi
  have hf' := of_decide_eq_false hf
  rw [after_15, after_15]
  exact (outC15_congr m c _ _ _ _ (at_pred 4 _ t (by omega) _)).symm
/-- Where it is left alone and not fresh, the buffer holds what `after` says. -/
theorem before_15 (c : Dev nD) (t : Fin cfg0.N) (hi : ¬ (t.val % 6 = 4)) (hf : ¬ (t.val % 6 ≤ 4)) (d) :
    (dats m 0 c).before 15 t d = (dats m 0 c).after 15 t := by
  have hf' : cfg0.fresh 15 t.val = false := by rw [fresh_15]; exact decide_eq_false hf
  have h0 : t.val ≠ 0 := fun h => hf (by omega)
  rw [Dat.before_out_traj _ 15 rfl (fun _ _ => rfl) (carry_15 m c) t.val t rfl d, if_neg (by rw [hf']; exact Bool.false_ne_true)]
  exact (carry_15 m c t h0 (by rw [idle_15]; exact decide_eq_true hi) hf').symm
/-- A point that stores nothing into output 15 hands it back as the obligation wants it. -/
theorem back_15 (c : Dev nD) (t : Fin cfg0.N) (hi : ¬ (t.val % 6 = 4)) :
    (iprop(∃ d, owns (c : Thread nD τ) (ms0_15 t) fullShare ((dats m 0 c).before 15 t d)) : sProp 𝕄) ⊢ (dats m 0 c).leavesExact 15 t := by
  have hI : cfg0.idle 15 (cfg0.grid.coords t) = true := by rw [show cfg0.idle 15 (cfg0.grid.coords t) = _ from idle_15 t]; exact decide_eq_true hi
  by_cases hf : t.val % 6 = 5
  · have hF : (cfg0.win 15).flush t = true := by rw [flush_15]; exact decide_eq_true hf
    unfold Dat.leavesExact; rw [hI, hF]
    simp only [before_15 m c t hi (by omega)]
    iintro ⟨%d, H⟩; iexact H
  · have hF : (cfg0.win 15).flush t = false := by rw [flush_15]; exact decide_eq_false hf
    rw [Dat.leavesExact_idle _ _ _ hI hF]
theorem idle_16 : ∀ t : Fin cfg0.N, cfg0.idle 16 (grid0.coords t) = decide (¬ (t.val % 6 = 5)) :=
  (by decide +kernel : ∀ t : Fin grid0.N, cfg0.idle 16 (grid0.coords t) = decide (¬ (t.val % 6 = 5)))
theorem flush_16 : ∀ t : Fin cfg0.N, (cfg0.win 16).flush t = decide (t.val % 6 = 5) :=
  (by intro t; rw [Pipeline.Window.flush_eq_flushF]; revert t; decide +kernel : ∀ t : Fin cfg0.N, (cfg0.win 16).flush t = decide (t.val % 6 = 5))
/-- A point that stores nothing into output 16 hands it back as the obligation wants it. -/
theorem back_16 (c : Dev nD) (t : Fin cfg0.N) (hi : ¬ (t.val % 6 = 5)) :
    (iprop(∃ d, owns (c : Thread nD τ) (ms0_16 t) fullShare ((dats m 0 c).before 16 t d)) : sProp 𝕄) ⊢ (dats m 0 c).leavesExact 16 t := by
  have hI : cfg0.idle 16 (cfg0.grid.coords t) = true := by rw [show cfg0.idle 16 (cfg0.grid.coords t) = _ from idle_16 t]; exact decide_eq_true hi
  by_cases hf : t.val % 6 = 5
  · exact absurd hf hi
  · have hF : (cfg0.win 16).flush t = false := by rw [flush_16]; exact decide_eq_false hf
    rw [Dat.leavesExact_idle _ _ _ hI hF]
theorem idle_17 : ∀ t : Fin cfg0.N, cfg0.idle 17 (grid0.coords t) = decide (¬ (t.val % 6 = 5)) :=
  (by decide +kernel : ∀ t : Fin grid0.N, cfg0.idle 17 (grid0.coords t) = decide (¬ (t.val % 6 = 5)))
theorem flush_17 : ∀ t : Fin cfg0.N, (cfg0.win 17).flush t = decide (t.val % 6 = 5) :=
  (by intro t; rw [Pipeline.Window.flush_eq_flushF]; revert t; decide +kernel : ∀ t : Fin cfg0.N, (cfg0.win 17).flush t = decide (t.val % 6 = 5))
/-- A point that stores nothing into output 17 hands it back as the obligation wants it. -/
theorem back_17 (c : Dev nD) (t : Fin cfg0.N) (hi : ¬ (t.val % 6 = 5)) :
    (iprop(∃ d, owns (c : Thread nD τ) (ms0_17 t) fullShare ((dats m 0 c).before 17 t d)) : sProp 𝕄) ⊢ (dats m 0 c).leavesExact 17 t := by
  have hI : cfg0.idle 17 (cfg0.grid.coords t) = true := by rw [show cfg0.idle 17 (cfg0.grid.coords t) = _ from idle_17 t]; exact decide_eq_true hi
  by_cases hf : t.val % 6 = 5
  · exact absurd hf hi
  · have hF : (cfg0.win 17).flush t = false := by rw [flush_17]; exact decide_eq_false hf
    rw [Dat.leavesExact_idle _ _ _ hI hF]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 6400000 in
/-- The body at the first point of a row block meets its obligation. -/
theorem sound_A (c : Dev nD) (t : Fin cfg0.N) (h : t.val % 6 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_castSucc m c t, PhiS_give m c _ _ h]
  have hN : t.val < 72 := lt_of_lt_of_eq t.isLt (show cfg0.N = 72 from N_0)
  rw [show (dats m 0 c).leavesExact 0 t = owns (c : Thread nD τ) (ms0_0 t) fullShare (iblk m c 0 t) from by
    unfold Dat.leavesExact; rw [liveAt_0 t, after_0]]
  rw [show (dats m 0 c).leavesExact 1 t = owns (c : Thread nD τ) (ms0_1 t) fullShare (iblk m c 1 t) from by
    unfold Dat.leavesExact; rw [liveAt_1 t, after_1]]
  rw [show (dats m 0 c).leavesExact 2 t = owns (c : Thread nD τ) (ms0_2 t) fullShare (iblk m c 2 t) from by
    unfold Dat.leavesExact; rw [liveAt_2 t, after_2]]
  rw [show (dats m 0 c).leavesExact 3 t = owns (c : Thread nD τ) (ms0_3 t) fullShare (iblk m c 3 t) from by
    unfold Dat.leavesExact; rw [liveAt_3 t, after_3]]
  rw [show (dats m 0 c).leavesExact 4 t = owns (c : Thread nD τ) (ms0_4 t) fullShare (iblk m c 4 t) from by
    unfold Dat.leavesExact; rw [liveAt_4 t, after_4]]
  rw [show (dats m 0 c).leavesExact 5 t = owns (c : Thread nD τ) (ms0_5 t) fullShare (iblk m c 5 t) from by
    unfold Dat.leavesExact; rw [liveAt_5 t, after_5]]
  rw [show (dats m 0 c).leavesExact 6 t = owns (c : Thread nD τ) (ms0_6 t) fullShare (iblk m c 6 t) from by
    unfold Dat.leavesExact; rw [liveAt_6 t, after_6]]
  rw [show (dats m 0 c).leavesExact 7 t = owns (c : Thread nD τ) (ms0_7 t) fullShare (outA7 m c t h) from by
    unfold Dat.leavesExact; rw [show cfg0.idle 7 (cfg0.grid.coords t) = false from (idle_7 t).trans (decide_eq_false (by omega)), after_7]
    exact congrArg (owns (c : Thread nD τ) (ms0_7 t) fullShare) (outA7_congr m c _ _ _ _ (at_self 0 _ t h))]
  rw [show (dats m 0 c).leavesExact 8 t = owns (c : Thread nD τ) (ms0_8 t) fullShare (outA8 m c t h) from by
    unfold Dat.leavesExact; rw [show cfg0.idle 8 (cfg0.grid.coords t) = false from (idle_8 t).trans (decide_eq_false (by omega)), after_8]
    exact congrArg (owns (c : Thread nD τ) (ms0_8 t) fullShare) (outA8_congr m c _ _ _ _ (at_self 0 _ t h))]
  rw [show (dats m 0 c).leavesExact 9 t = owns (c : Thread nD τ) (ms0_9 t) fullShare (outA9 m c t h) from by
    unfold Dat.leavesExact; rw [show cfg0.idle 9 (cfg0.grid.coords t) = false from (idle_9 t).trans (decide_eq_false (by omega)), after_9]
    exact congrArg (owns (c : Thread nD τ) (ms0_9 t) fullShare) (dif_pos h)]
  have hs : (t.val + 1) % 6 ≠ 0 := by omega
  have hk : keptS m c t = outAS m c t h := outAS_congr m c _ _ _ _ (at_self 0 _ t h)
  rw [PhiS_next m c t hs, hk]
  · skip
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((pointA m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, ⟨%e7, H7⟩, ⟨%e8, H8⟩, ⟨%e9, H9⟩, ⟨%eS, HS⟩⟩
    isplitl [HS Hg]
    · isplitl [HS]
      · unfold owns; iexists _; isplitr
        swap; · iexact HS
        ipureintro; exact View.read_writes_of_cover _ _ _ _ _ (coverAS m c t h)
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · unfold owns; iexists _; isplitr
      swap; · iexact H7
      ipureintro; exact View.read_writes_of_cover _ _ _ _ _ (coverA7 m c t h)
    isplitl [H8]
    · unfold owns; iexists _; isplitr
      swap; · iexact H8
      ipureintro; exact View.read_writes_of_cover _ _ _ _ _ (coverA8 m c t h)
    isplitl [H9]
    · unfold owns; iexists _; isplitr
      swap; · iexact H9
      ipureintro; exact View.read_writes_of_cover _ _ _ _ _ (coverA9 m c t h)
    isplitl [H10]
    · iapply back_10 m c t (by omega)
      iexists d10; iexact H10
    isplitl [H11]
    · iapply back_11 m c t (by omega)
      iexists d11; iexact H11
    isplitl [H12]
    · iapply back_12 m c t (by omega)
      iexists d12; iexact H12
    isplitl [H13]
    · iapply back_13 m c t (by omega)
      iexists d13; iexact H13
    isplitl [H14]
    · iapply back_14 m c t (by omega)
      iexists d14; iexact H14
    isplitl [H15]
    · iapply back_15 m c t (by omega)
      iexists d15; iexact H15
    isplitl [H16]
    · iapply back_16 m c t (by omega)
      iexists d16; iexact H16
    iapply back_17 m c t (by omega)
    iexists d17; iexact H17

set_option maxHeartbeats 6400000 in
/-- The body at the points that make q, but the first meets its obligation. -/
theorem sound_B (c : Dev nD) (t : Fin cfg0.N) (h : t.val % 6 ≠ 0 ∧ t.val % 6 ≤ 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_castSucc m c t, PhiS_in m c t h.1]
  have hN : t.val < 72 := lt_of_lt_of_eq t.isLt (show cfg0.N = 72 from N_0)
  simp only [before_8 m c t (by omega) (by omega), after_8]
  rw [show (dats m 0 c).leavesExact 0 t = owns (c : Thread nD τ) (ms0_0 t) fullShare (iblk m c 0 t) from by
    unfold Dat.leavesExact; rw [liveAt_0 t, after_0]]
  rw [show (dats m 0 c).leavesExact 1 t = owns (c : Thread nD τ) (ms0_1 t) fullShare (iblk m c 1 t) from by
    unfold Dat.leavesExact; rw [liveAt_1 t, after_1]]
  rw [show (dats m 0 c).leavesExact 2 t = owns (c : Thread nD τ) (ms0_2 t) fullShare (iblk m c 2 t) from by
    unfold Dat.leavesExact; rw [liveAt_2 t, after_2]]
  rw [show (dats m 0 c).leavesExact 3 t = owns (c : Thread nD τ) (ms0_3 t) fullShare (iblk m c 3 t) from by
    unfold Dat.leavesExact; rw [liveAt_3 t, after_3]]
  rw [show (dats m 0 c).leavesExact 4 t = owns (c : Thread nD τ) (ms0_4 t) fullShare (iblk m c 4 t) from by
    unfold Dat.leavesExact; rw [liveAt_4 t, after_4]]
  rw [show (dats m 0 c).leavesExact 5 t = owns (c : Thread nD τ) (ms0_5 t) fullShare (iblk m c 5 t) from by
    unfold Dat.leavesExact; rw [liveAt_5 t, after_5]]
  rw [show (dats m 0 c).leavesExact 6 t = owns (c : Thread nD τ) (ms0_6 t) fullShare (iblk m c 6 t) from by
    unfold Dat.leavesExact; rw [liveAt_6 t, after_6]]
  rw [show (dats m 0 c).leavesExact 9 t = owns (c : Thread nD τ) (ms0_9 t) fullShare (outB9 m c t h) from by
    unfold Dat.leavesExact; rw [show cfg0.idle 9 (cfg0.grid.coords t) = false from (idle_9 t).trans (decide_eq_false (by omega)), after_9]
    exact congrArg (owns (c : Thread nD τ) (ms0_9 t) fullShare) ((dif_neg h.1).trans (dif_pos h))]
  have hs : (t.val + 1) % 6 ≠ 0 := by omega
  rw [PhiS_next m c t hs]
  · skip
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((pointB m c t h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexists _; iexact H9
    isplitl [H8]; · iexact H8
    isplitl [HS]; · iexact HS
    iintro ⟨H0, H1, H2, H3, H4, H5, H6, ⟨%e9, H9⟩, H8, HS⟩
    isplitl [HS Hg]
    · isplitl [HS]
      · iexact HS
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iapply back_7 m c t (by omega)
      iexists d7; iexact H7
    isplitl [H8]
    · iapply back_8 m c t (by omega)
      iexists d8; rw [before_8 m c t (by omega) (by omega) d8, after_8]; iexact H8
    isplitl [H9]
    · unfold owns; iexists _; isplitr
      swap; · iexact H9
      ipureintro; exact View.read_writes_of_cover _ _ _ _ _ (coverB9 m c t h)
    isplitl [H10]
    · iapply back_10 m c t (by omega)
      iexists d10; iexact H10
    isplitl [H11]
    · iapply back_11 m c t (by omega)
      iexists d11; iexact H11
    isplitl [H12]
    · iapply back_12 m c t (by omega)
      iexists d12; iexact H12
    isplitl [H13]
    · iapply back_13 m c t (by omega)
      iexists d13; iexact H13
    isplitl [H14]
    · iapply back_14 m c t (by omega)
      iexists d14; iexact H14
    isplitl [H15]
    · iapply back_15 m c t (by omega)
      iexists d15; iexact H15
    isplitl [H16]
    · iapply back_16 m c t (by omega)
      iexists d16; iexact H16
    iapply back_17 m c t (by omega)
    iexists d17; iexact H17

set_option maxHeartbeats 6400000 in
/-- The body at the point that makes k meets its obligation. -/
theorem sound_C (c : Dev nD) (t : Fin cfg0.N) (h : t.val % 6 = 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_castSucc m c t, PhiS_in m c t (by omega)]
  have hN : t.val < 72 := lt_of_lt_of_eq t.isLt (show cfg0.N = 72 from N_0)
  simp only [before_8 m c t (by omega) (by omega), after_8]
  rw [show (dats m 0 c).leavesExact 0 t = owns (c : Thread nD τ) (ms0_0 t) fullShare (iblk m c 0 t) from by
    unfold Dat.leavesExact; rw [liveAt_0 t, after_0]]
  rw [show (dats m 0 c).leavesExact 1 t = owns (c : Thread nD τ) (ms0_1 t) fullShare (iblk m c 1 t) from by
    unfold Dat.leavesExact; rw [liveAt_1 t, after_1]]
  rw [show (dats m 0 c).leavesExact 2 t = owns (c : Thread nD τ) (ms0_2 t) fullShare (iblk m c 2 t) from by
    unfold Dat.leavesExact; rw [liveAt_2 t, after_2]]
  rw [show (dats m 0 c).leavesExact 3 t = owns (c : Thread nD τ) (ms0_3 t) fullShare (iblk m c 3 t) from by
    unfold Dat.leavesExact; rw [liveAt_3 t, after_3]]
  rw [show (dats m 0 c).leavesExact 4 t = owns (c : Thread nD τ) (ms0_4 t) fullShare (iblk m c 4 t) from by
    unfold Dat.leavesExact; rw [liveAt_4 t, after_4]]
  rw [show (dats m 0 c).leavesExact 5 t = owns (c : Thread nD τ) (ms0_5 t) fullShare (iblk m c 5 t) from by
    unfold Dat.leavesExact; rw [liveAt_5 t, after_5]]
  rw [show (dats m 0 c).leavesExact 6 t = owns (c : Thread nD τ) (ms0_6 t) fullShare (iblk m c 6 t) from by
    unfold Dat.leavesExact; rw [liveAt_6 t, after_6]]
  rw [show (dats m 0 c).leavesExact 10 t = owns (c : Thread nD τ) (ms0_10 t) fullShare (outC10 m c t h) from by
    unfold Dat.leavesExact; rw [show cfg0.idle 10 (cfg0.grid.coords t) = false from (idle_10 t).trans (decide_eq_false (by omega)), after_10]
    exact congrArg (owns (c : Thread nD τ) (ms0_10 t) fullShare) (outC10_congr m c _ _ _ _ (at_self 4 _ t h))]
  rw [show (dats m 0 c).leavesExact 12 t = owns (c : Thread nD τ) (ms0_12 t) fullShare (outC12 m c t h) from by
    unfold Dat.leavesExact; rw [show cfg0.idle 12 (cfg0.grid.coords t) = false from (idle_12 t).trans (decide_eq_false (by omega)), after_12]
    exact congrArg (owns (c : Thread nD τ) (ms0_12 t) fullShare) (outC12_congr m c _ _ _ _ (at_self 4 _ t h))]
  rw [show (dats m 0 c).leavesExact 14 t = owns (c : Thread nD τ) (ms0_14 t) fullShare (outC14 m c t h) from by
    unfold Dat.leavesExact; rw [show cfg0.idle 14 (cfg0.grid.coords t) = false from (idle_14 t).trans (decide_eq_false (by omega)), after_14]
    exact congrArg (owns (c : Thread nD τ) (ms0_14 t) fullShare) (outC14_congr m c _ _ _ _ (at_self 4 _ t h))]
  rw [show (dats m 0 c).leavesExact 15 t = owns (c : Thread nD τ) (ms0_15 t) fullShare (outC15 m c t h) from by
    unfold Dat.leavesExact; rw [show cfg0.idle 15 (cfg0.grid.coords t) = false from (idle_15 t).trans (decide_eq_false (by omega)), after_15]
    exact congrArg (owns (c : Thread nD τ) (ms0_15 t) fullShare) (outC15_congr m c _ _ _ _ (at_self 4 _ t h))]
  have hs : (t.val + 1) % 6 ≠ 0 := by omega
  rw [PhiS_next m c t hs]
  · skip
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((pointC m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H10]; · iexists _; iexact H10
    isplitl [H12]; · iexists _; iexact H12
    isplitl [H14]; · iexists _; iexact H14
    isplitl [H15]; · iexists _; iexact H15
    isplitl [H8]; · iexact H8
    isplitl [HS]; · iexact HS
    iintro ⟨H0, H1, H2, H3, H4, H5, H6, ⟨%e10, H10⟩, ⟨%e12, H12⟩, ⟨%e14, H14⟩, ⟨%e15, H15⟩, H8, HS⟩
    isplitl [HS Hg]
    · isplitl [HS]
      · iexact HS
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iapply back_7 m c t (by omega)
      iexists d7; iexact H7
    isplitl [H8]
    · iapply back_8 m c t (by omega)
      iexists d8; rw [before_8 m c t (by omega) (by omega) d8, after_8]; iexact H8
    isplitl [H9]
    · iapply back_9 m c t (by omega)
      iexists d9; iexact H9
    isplitl [H10]
    · unfold owns; iexists _; isplitr
      swap; · iexact H10
      ipureintro; exact View.read_writes_of_cover _ _ _ _ _ (coverC10 m c t h)
    isplitl [H11]
    · iapply back_11 m c t (by omega)
      iexists d11; iexact H11
    isplitl [H12]
    · unfold owns; iexists _; isplitr
      swap; · iexact H12
      ipureintro; exact View.read_writes_of_cover _ _ _ _ _ (coverC12 m c t h)
    isplitl [H13]
    · iapply back_13 m c t (by omega)
      iexists d13; iexact H13
    isplitl [H14]
    · unfold owns; iexists _; isplitr
      swap; · iexact H14
      ipureintro; exact View.read_writes_of_cover _ _ _ _ _ (coverC14 m c t h)
    isplitl [H15]
    · unfold owns; iexists _; isplitr
      swap; · iexact H15
      ipureintro; exact View.read_writes_of_cover _ _ _ _ _ (coverC15 m c t h)
    isplitl [H16]
    · iapply back_16 m c t (by omega)
      iexists d16; iexact H16
    iapply back_17 m c t (by omega)
    iexists d17; iexact H17

set_option maxHeartbeats 6400000 in
/-- The body at the point that makes v meets its obligation. -/
theorem sound_D (c : Dev nD) (t : Fin cfg0.N) (h : t.val % 6 = 5) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_castSucc m c t, PhiS_in m c t (by omega)]
  have hN : t.val < 72 := lt_of_lt_of_eq t.isLt (show cfg0.N = 72 from N_0)
  simp only [before_8 m c t (by omega) (by omega), after_8]
  rw [show (dats m 0 c).leavesExact 0 t = owns (c : Thread nD τ) (ms0_0 t) fullShare (iblk m c 0 t) from by
    unfold Dat.leavesExact; rw [liveAt_0 t, after_0]]
  rw [show (dats m 0 c).leavesExact 1 t = owns (c : Thread nD τ) (ms0_1 t) fullShare (iblk m c 1 t) from by
    unfold Dat.leavesExact; rw [liveAt_1 t, after_1]]
  rw [show (dats m 0 c).leavesExact 2 t = owns (c : Thread nD τ) (ms0_2 t) fullShare (iblk m c 2 t) from by
    unfold Dat.leavesExact; rw [liveAt_2 t, after_2]]
  rw [show (dats m 0 c).leavesExact 3 t = owns (c : Thread nD τ) (ms0_3 t) fullShare (iblk m c 3 t) from by
    unfold Dat.leavesExact; rw [liveAt_3 t, after_3]]
  rw [show (dats m 0 c).leavesExact 4 t = owns (c : Thread nD τ) (ms0_4 t) fullShare (iblk m c 4 t) from by
    unfold Dat.leavesExact; rw [liveAt_4 t, after_4]]
  rw [show (dats m 0 c).leavesExact 5 t = owns (c : Thread nD τ) (ms0_5 t) fullShare (iblk m c 5 t) from by
    unfold Dat.leavesExact; rw [liveAt_5 t, after_5]]
  rw [show (dats m 0 c).leavesExact 6 t = owns (c : Thread nD τ) (ms0_6 t) fullShare (iblk m c 6 t) from by
    unfold Dat.leavesExact; rw [liveAt_6 t, after_6]]
  rw [show (dats m 0 c).leavesExact 11 t = owns (c : Thread nD τ) (ms0_11 t) fullShare (outD11 m c t h) from by
    unfold Dat.leavesExact; rw [show cfg0.idle 11 (cfg0.grid.coords t) = false from (idle_11 t).trans (decide_eq_false (by omega)), after_11]
    exact congrArg (owns (c : Thread nD τ) (ms0_11 t) fullShare) (outD11_congr m c _ _ _ _ (at_self 5 _ t h))]
  rw [show (dats m 0 c).leavesExact 13 t = owns (c : Thread nD τ) (ms0_13 t) fullShare (outD13 m c t h) from by
    unfold Dat.leavesExact; rw [show cfg0.idle 13 (cfg0.grid.coords t) = false from (idle_13 t).trans (decide_eq_false (by omega)), after_13]
    exact congrArg (owns (c : Thread nD τ) (ms0_13 t) fullShare) (outD13_congr m c _ _ _ _ (at_self 5 _ t h))]
  rw [show (dats m 0 c).leavesExact 16 t = owns (c : Thread nD τ) (ms0_16 t) fullShare (outD16 m c t h) from by
    unfold Dat.leavesExact; rw [show cfg0.idle 16 (cfg0.grid.coords t) = false from (idle_16 t).trans (decide_eq_false (by omega)), after_16]
    exact congrArg (owns (c : Thread nD τ) (ms0_16 t) fullShare) (outD16_congr m c _ _ _ _ (at_self 5 _ t h))]
  rw [show (dats m 0 c).leavesExact 17 t = owns (c : Thread nD τ) (ms0_17 t) fullShare (outD17 m c t h) from by
    unfold Dat.leavesExact; rw [show cfg0.idle 17 (cfg0.grid.coords t) = false from (idle_17 t).trans (decide_eq_false (by omega)), after_17]
    exact congrArg (owns (c : Thread nD τ) (ms0_17 t) fullShare) (outD17_congr m c _ _ _ _ (at_self 5 _ t h))]
  have hs : (t.val + 1) % 6 = 0 := by omega
  rw [PhiS_give m c _ _ hs]
  · skip
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((pointD m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H11]; · iexists _; iexact H11
    isplitl [H13]; · iexists _; iexact H13
    isplitl [H16]; · iexists _; iexact H16
    isplitl [H17]; · iexists _; iexact H17
    isplitl [H8]; · iexact H8
    isplitl [HS]; · iexact HS
    iintro ⟨H0, H1, H2, H3, H4, H5, H6, ⟨%e11, H11⟩, ⟨%e13, H13⟩, ⟨%e16, H16⟩, ⟨%e17, H17⟩, H8, HS⟩
    isplitl [HS Hg]
    · isplitl [HS]
      · iexists _; iexact HS
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iapply back_7 m c t (by omega)
      iexists d7; iexact H7
    isplitl [H8]
    · iapply back_8 m c t (by omega)
      iexists d8; rw [before_8 m c t (by omega) (by omega) d8, after_8]; iexact H8
    isplitl [H9]
    · iapply back_9 m c t (by omega)
      iexists d9; iexact H9
    isplitl [H10]
    · iapply back_10 m c t (by omega)
      iexists d10; iexact H10
    isplitl [H11]
    · unfold owns; iexists _; isplitr
      swap; · iexact H11
      ipureintro; exact View.read_writes_of_cover _ _ _ _ _ (coverD11 m c t h)
    isplitl [H12]
    · iapply back_12 m c t (by omega)
      iexists d12; iexact H12
    isplitl [H13]
    · unfold owns; iexists _; isplitr
      swap; · iexact H13
      ipureintro; exact View.read_writes_of_cover _ _ _ _ _ (coverD13 m c t h)
    isplitl [H14]
    · iapply back_14 m c t (by omega)
      iexists d14; iexact H14
    isplitl [H15]
    · iapply back_15 m c t (by omega)
      iexists d15; iexact H15
    isplitl [H16]
    · unfold owns; iexists _; isplitr
      swap; · iexact H16
      ipureintro; exact View.read_writes_of_cover _ _ _ _ _ (coverD16 m c t h)
    unfold owns; iexists _; isplitr
    swap; · iexact H17
    ipureintro; exact View.read_writes_of_cover _ _ _ _ _ (coverD17 m c t h)

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val % 6 < 6 := Nat.mod_lt _ (by decide)
  by_cases h : t.val % 6 = 0
  · exact sound_A m c t h
  by_cases h4 : t.val % 6 = 4
  · exact sound_C m c t h4
  by_cases h5 : t.val % 6 = 5
  · exact sound_D m c t h5
  · exact sound_B m c t (by omega)

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_start m c 0 _ (by decide)]
/-- and after the last point the invariant is what the launch takes back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiS_start m c _ _ (by rw [show cfg0.N = 72 from N_0])]

/-! ## The run and the frame -/

set_option backward.isDefEq.respectTransparency.types false in
/-- The launch: every array of the call ends at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.QkvIdeal.Run

end
-- ==== Proof.Qkv.Same.lean ====
/- The kernel call Qkv and the program QkvIdeal are the same text, so the frame of one is the frame of the other. -/
module

public import proofs.«01_k».proof.Proof.Qkv.Frame
public import proofs.«01_k».proof.Proof.Gen.Qkv

@[expose] public section

set_option maxRecDepth 16384

namespace Cert.Qkv.Same

open Idealize.ShloMosaic Idealize.ShloMosaic.TcCoe Idealize.ShloMosaic.Tactic Idealize.SL Idealize.SL.Sem

variable (F : FTy → Type) [FloatOps F]

/-- What the frame of `Qkv` says. -/
def Says : Prop :=
  ∀ (m : (ℓ : Loc Cert.Qkv.nD Cert.Qkv.τ Cert.Qkv.sig) → Buf (Elt F) ℓ) (ρ : Dev Cert.Qkv.nD → PrngReg),
    θ_run (Cert.Qkv.defs (F := F)) (onTc (τ := Cert.Qkv.τ) (Cert.Qkv.main (F := F))) ⟨m, fun _ => 0, ρ⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

/-- What the frame of `QkvIdeal` says. -/
def SaysIdeal : Prop :=
  ∀ (m : (ℓ : Loc Cert.QkvIdeal.nD Cert.QkvIdeal.τ Cert.QkvIdeal.sig) → Buf (Elt F) ℓ) (ρ : Dev Cert.QkvIdeal.nD → PrngReg),
    θ_run (Cert.QkvIdeal.defs (F := F)) (onTc (τ := Cert.QkvIdeal.τ) (Cert.QkvIdeal.main (F := F))) ⟨m, fun _ => 0, ρ⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

/-- The two say the same: the programs' definitions agree. -/
theorem says_eq : SaysIdeal F = Says F := by sl_kernel_rfl

/-- The frame of `Qkv`: its arguments end unchanged, the counters at zero. -/
theorem frame : Says F := (says_eq F).mp (Cert.QkvIdeal.Run.frame (F := F))

end Cert.Qkv.Same

end
-- ==== Proof.Oproj.Setup.lean ====
/- The kernel call OprojIdeal: its branch conditions in closed form over the grid points, the staging memrefs at a point, and the
   invariant of the region with the scratch named. -/
module

public import proofs.«01_k».proof.Proof.Gen.OprojIdeal.Frame
public import proofs.«01_k».proof.Proof.Gen.OprojIdeal.Skeleton

@[expose] public section

set_option maxRecDepth 16384

noncomputable section

namespace Cert.OprojIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OprojIdeal Cert.OprojIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 48 := Nat.lt_of_lt_of_eq t.isLt N_0
    have e0 : (grid0.coords t 0).val = t.val / 4 % 12 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-! ## The kernel body on any staging memrefs: a subtype the run finds -/

/-- One staging buffer of output window 4, through which its contents are stated (`View.read_writes_of_cover`: the
    choice does not matter). -/
abbrev VO0_4 : View sig .tc .vmem S512x1024 .bf16 := (Memref.whole cc0_stg4_0 : Memref sig .tc .vmem S512x1024 .bf16).view
/-- One staging buffer of output window 5, through which its contents are stated (`View.read_writes_of_cover`: the
    choice does not matter). -/
abbrev VO0_5 : View sig .tc .vmem S512x4096 .i8 := (Memref.whole cc0_stg5_0 : Memref sig .tc .vmem S512x4096 .i8).view
/-- One staging buffer of output window 6, through which its contents are stated (`View.read_writes_of_cover`: the
    choice does not matter). -/
abbrev VO0_6 : View sig .tc .vmem S512x1 .f32 := (Memref.whole cc0_stg6_0 : Memref sig .tc .vmem S512x1 .f32).view
/-- Each window's current staging memref at point `t`, spelled as the pipeline passes it (`bodyAt0`), and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x4096 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x4096 .bf16 := Memref.whole cc0_scratch0
/-- The scratch `arg9` the kernel carries between points, as a view: what it holds is stated through it. -/
abbrev VS0_0 : View sig .tc .vmem S512x4096 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.OprojIdeal.Run

end
-- ==== Proof.Oproj.RunA.lean ====
/- The kernel call OprojIdeal: the whole body run at the first point of a row block. -/
module

public import proofs.«01_k».proof.Proof.Oproj.Setup

@[expose] public section

set_option maxRecDepth 16384

noncomputable section

namespace Cert.OprojIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OprojIdeal Cert.OprojIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point of a row block: what its stores leave in each buffer it writes, as the list of pieces written (last first), with the proof that
    from the inputs' blocks `x·` the body runs and leaves those pieces, everything else as it was. -/
def runA (c : Dev nD) (i : grid0.Coords) (arg2 : Memref sig .tc .vmem S512x4096 .f32) (harg2 : arg2.IsWhole) (arg3 : Memref sig .tc .vmem S512x1024 .bf16) (harg3 : arg3.IsWhole) (arg4 : Memref sig .tc .vmem S2048x1024 .i8) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x4096 .i8) (harg7 : arg7.IsWhole) (arg8 : Memref sig .tc .vmem S512x1 .f32) (harg8 : arg8.IsWhole) (arg9 : Memref sig .tc .vmem S512x4096 .bf16) (harg9 : arg9.IsWhole) (hc0 : cond0_0 i)
    (x0 : Vec F S512x4096 .f32) (x1 : Vec F S512x1024 .bf16) (x2 : Vec F S2048x1024 .i8) (x3 : Vec F S1x1024 .f32) :
    Σ' (L4 : List (View.Piece (Elt F) S512x1024 .bf16)), Σ' (L5 : List (View.Piece (Elt F) S512x4096 .i8)), Σ' (L6 : List (View.Piece (Elt F) S512x1 .f32)), { LS : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0_oproj i arg2 harg2 arg3 harg3 arg4 harg4 arg5 harg5 arg6 harg6 arg7 harg7 arg8 harg8 arg9 harg9) K } := by
  refine ⟨?_, ?_, ?_, ?_, fun E K => ?run⟩
  case run =>
    simp only [cc0_oproj_eq_skeleton]; unfold cc0_oproj_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%dS, %fS, -, HS⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [H6]
    · iexists _; iexact H6
    iexists _; iexact HS

end Cert.OprojIdeal.Run

end
-- ==== Proof.Oproj.RunB.lean ====
/- The kernel call OprojIdeal: the whole body run at a later point of a row block. -/
module

public import proofs.«01_k».proof.Proof.Oproj.RunA

@[expose] public section

set_option maxRecDepth 16384

noncomputable section

namespace Cert.OprojIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OprojIdeal Cert.OprojIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later point of a row block: what its stores leave in each buffer it writes, as the list of pieces written (last first), with the proof that
    from the inputs' blocks `x·` and the contents `p·` it finds the body runs and leaves those pieces, everything else as it was. -/
def runB (c : Dev nD) (i : grid0.Coords) (arg2 : Memref sig .tc .vmem S512x4096 .f32) (harg2 : arg2.IsWhole) (arg3 : Memref sig .tc .vmem S512x1024 .bf16) (harg3 : arg3.IsWhole) (arg4 : Memref sig .tc .vmem S2048x1024 .i8) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x4096 .i8) (harg7 : arg7.IsWhole) (arg8 : Memref sig .tc .vmem S512x1 .f32) (harg8 : arg8.IsWhole) (arg9 : Memref sig .tc .vmem S512x4096 .bf16) (harg9 : arg9.IsWhole) (hc0 : ¬cond0_0 i)
    (x0 : Vec F S512x4096 .f32) (x1 : Vec F S512x1024 .bf16) (x2 : Vec F S2048x1024 .i8) (x3 : Vec F S1x1024 .f32) (p6 : Vec F S512x1 .f32) (pS : Vec F S512x4096 .bf16) :
    { L4 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg8 fullShare p6 ∗ owns (c : Thread nD τ) arg9 fullShare pS
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg8 fullShare p6 ∗ owns (c : Thread nD τ) arg9 fullShare pS) -∗ K ⟨⟩))
          ⊢ wp frame (wpE (defs₀ (F := F)) Variants.none c none) E (cc0_oproj i arg2 harg2 arg3 harg3 arg4 harg4 arg5 harg5 arg6 harg6 arg7 harg7 arg8 harg8 arg9 harg9) K } := by
  refine ⟨?_, fun E K => ?run⟩
  case run =>
    simp only [cc0_oproj_eq_skeleton]; unfold cc0_oproj_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, ⟨%fS, %hfS, HS⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hfS
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H6]
    · iexists _; isplitr; · ipureintro; exact harg8.read_unread _
      iexact H6
    iexists _; isplitr; · ipureintro; exact harg9.read_unread _
    iexact HS

end Cert.OprojIdeal.Run

end
-- ==== Proof.Oproj.Frame.lean ====
/- The kernel call OprojIdeal: what each output's buffer and the scratch hold point by point, the proof data, the body's obligation,
   and the run of the call. -/
module

public import proofs.«01_k».proof.Proof.Oproj.RunB
public import Idealize.ShloMosaic.Lib.Pipeline.TableIdle
public import Idealize.ShloMosaic.Lib.Claim

@[expose] public section

set_option maxRecDepth 16384

noncomputable section

namespace Cert.OprojIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OprojIdeal Cert.OprojIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl
/-- Point `r` of the run of 4 points that `t` lies in (those of one row block). -/
def at_ (r : ℕ) (hr : r < 4) (t : Fin cfg0.N) : Fin cfg0.N :=
  ⟨t.val / 4 * 4 + r, by
    have h : t.val < 48 := lt_of_lt_of_eq t.isLt N_0
    exact lt_of_lt_of_eq (show t.val / 4 * 4 + r < 48 by omega) N_0.symm⟩
theorem at_mod (r : ℕ) (hr : r < 4) (t : Fin cfg0.N) : (at_ r hr t).val % 4 = r := by
  show (t.val / 4 * 4 + r) % 4 = r; omega
theorem at_self (r : ℕ) (hr : r < 4) (t : Fin cfg0.N) (h : t.val % 4 = r) : at_ r hr t = t := by
  apply Fin.ext; show t.val / 4 * 4 + r = t.val; omega
theorem at_pred (r : ℕ) (hr : r < 4) (t : Fin cfg0.N) (h : t.val % 4 ≠ 0) (h' : t.val - 1 < cfg0.N) : at_ r hr ⟨t.val - 1, h'⟩ = at_ r hr t := by
  apply Fin.ext; show (t.val - 1) / 4 * 4 + r = t.val / 4 * 4 + r; omega
/-- The run at the first point of a row block, at the point's memrefs and blocks. -/
abbrev pointA (c : Dev nD) (t : Fin cfg0.N) (h : t.val % 4 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (iblk m c 0 t) (iblk m c 1 t) (iblk m c 2 t) (iblk m c 3 t)
/-- Its pieces for output 4 cover the buffer. -/
theorem coverA4 (c : Dev nD) (t : Fin cfg0.N) (h : t.val % 4 = 0) (y : S512x1024.Idx) :
    ∃ pc ∈ (pointA m c t h).1, y ∈ pc.1.set :=
  View.cover_of_tiledL (pointA m c t h).1 S512x1024.size (by sl_kernel_rfl) y
/-- What it leaves there: the pieces read back. -/
def outA4 (c : Dev nD) (t : Fin cfg0.N) (h : t.val % 4 = 0) : Vec F S512x1024 .bf16 :=
  VO0_4.read (Elt F) (VO0_4.writes (Elt F) VO0_4.junk (pointA m c t h).1)
theorem outA4_congr (c : Dev nD) (s t : Fin cfg0.N) (hs : s.val % 4 = 0) (ht : t.val % 4 = 0) (e : s = t) :
    outA4 m c s hs = outA4 m c t ht := by subst e; rfl
/-- Its pieces for output 5 cover the buffer. -/
theorem coverA5 (c : Dev nD) (t : Fin cfg0.N) (h : t.val % 4 = 0) (y : S512x4096.Idx) :
    ∃ pc ∈ (pointA m c t h).2.1, y ∈ pc.1.set :=
  View.cover_of_tiledL (pointA m c t h).2.1 S64x4096.size (by sl_kernel_rfl) y
/-- What it leaves there: the pieces read back. -/
def outA5 (c : Dev nD) (t : Fin cfg0.N) (h : t.val % 4 = 0) : Vec F S512x4096 .i8 :=
  VO0_5.read (Elt F) (VO0_5.writes (Elt F) VO0_5.junk (pointA m c t h).2.1)
theorem outA5_congr (c : Dev nD) (s t : Fin cfg0.N) (hs : s.val % 4 = 0) (ht : t.val % 4 = 0) (e : s = t) :
    outA5 m c s hs = outA5 m c t ht := by subst e; rfl
/-- Its pieces for output 6 cover the buffer. -/
theorem coverA6 (c : Dev nD) (t : Fin cfg0.N) (h : t.val % 4 = 0) (y : S512x1.Idx) :
    ∃ pc ∈ (pointA m c t h).2.2.1, y ∈ pc.1.set :=
  View.cover_of_tiledL (pointA m c t h).2.2.1 S64x1.size (by sl_kernel_rfl) y
/-- What it leaves there: the pieces read back. -/
def outA6 (c : Dev nD) (t : Fin cfg0.N) (h : t.val % 4 = 0) : Vec F S512x1 .f32 :=
  VO0_6.read (Elt F) (VO0_6.writes (Elt F) VO0_6.junk (pointA m c t h).2.2.1)
theorem outA6_congr (c : Dev nD) (s t : Fin cfg0.N) (hs : s.val % 4 = 0) (ht : t.val % 4 = 0) (e : s = t) :
    outA6 m c s hs = outA6 m c t ht := by subst e; rfl
/-- Its pieces for the scratch cover the buffer. -/
theorem coverAS (c : Dev nD) (t : Fin cfg0.N) (h : t.val % 4 = 0) (y : S512x4096.Idx) :
    ∃ pc ∈ (pointA m c t h).2.2.2.1, y ∈ pc.1.set :=
  View.cover_of_tiledL (pointA m c t h).2.2.2.1 S64x4096.size (by sl_kernel_rfl) y
/-- What it leaves there: the pieces read back. -/
def outAS (c : Dev nD) (t : Fin cfg0.N) (h : t.val % 4 = 0) : Vec F S512x4096 .bf16 :=
  VS0_0.read (Elt F) (VS0_0.writes (Elt F) VS0_0.junk (pointA m c t h).2.2.2.1)
theorem outAS_congr (c : Dev nD) (s t : Fin cfg0.N) (hs : s.val % 4 = 0) (ht : t.val % 4 = 0) (e : s = t) :
    outAS m c s hs = outAS m c t ht := by subst e; rfl
/-- What the first point of `t`'s row block left in output 5. -/
def kept5 (c : Dev nD) (t : Fin cfg0.N) : Vec F S512x4096 .i8 := outA5 m c (at_ 0 (by decide) t) (at_mod 0 _ t)
/-- What the first point of `t`'s row block left in output 6. -/
def kept6 (c : Dev nD) (t : Fin cfg0.N) : Vec F S512x1 .f32 := outA6 m c (at_ 0 (by decide) t) (at_mod 0 _ t)
/-- What the first point of `t`'s row block left in the scratch. -/
def keptS (c : Dev nD) (t : Fin cfg0.N) : Vec F S512x4096 .bf16 := outAS m c (at_ 0 (by decide) t) (at_mod 0 _ t)
/-- The run at a later point of a row block, at the point's memrefs and blocks. -/
abbrev pointB (c : Dev nD) (t : Fin cfg0.N) (h : ¬ t.val % 4 = 0) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h' => h ((hcond0_0 t).mp h')) (iblk m c 0 t) (iblk m c 1 t) (iblk m c 2 t) (iblk m c 3 t) (kept6 m c t) (keptS m c t)
/-- Its pieces for output 4 cover the buffer. -/
theorem coverB4 (c : Dev nD) (t : Fin cfg0.N) (h : ¬ t.val % 4 = 0) (y : S512x1024.Idx) :
    ∃ pc ∈ (pointB m c t h).1, y ∈ pc.1.set :=
  View.cover_of_tiledL (pointB m c t h).1 S512x1024.size (by sl_kernel_rfl) y
/-- What it leaves there: the pieces read back. -/
def outB4 (c : Dev nD) (t : Fin cfg0.N) (h : ¬ t.val % 4 = 0) : Vec F S512x1024 .bf16 :=
  VO0_4.read (Elt F) (VO0_4.writes (Elt F) VO0_4.junk (pointB m c t h).1)
theorem outB4_congr (c : Dev nD) (s t : Fin cfg0.N) (hs : ¬ s.val % 4 = 0) (ht : ¬ t.val % 4 = 0) (e : s = t) :
    outB4 m c s hs = outB4 m c t ht := by subst e; rfl

/-! ## The invariant -/

/-- The invariant before position `n`: at the start of a row block the scratch at anything; inside one, at what its first point left. -/
def PhiS (c : Dev nD) (n : ℕ) (hn : n ≤ cfg0.N) : sProp 𝕄 :=
  if h : n % 4 = 0 then Pipeline.ΦA spec0 c
  else iprop(iprop(owns (c : Thread nD τ) scM0_0 fullShare (keptS m c ⟨n, by rw [show cfg0.N = 48 from N_0] at hn ⊢; omega⟩)) ∗ (∃ r, prngReg c r))
theorem PhiS_start (c : Dev nD) (n : ℕ) (hn : n ≤ cfg0.N) (h : n % 4 = 0) : PhiS m c n hn = Pipeline.ΦA spec0 c := dif_pos h
theorem PhiS_in (c : Dev nD) (t : Fin cfg0.N) (h : t.val % 4 ≠ 0) :
    PhiS m c t.val (Nat.le_of_lt t.isLt) = iprop(iprop(owns (c : Thread nD τ) scM0_0 fullShare (keptS m c t)) ∗ (∃ r, prngReg c r)) := dif_neg h
theorem PhiS_next (c : Dev nD) (t : Fin cfg0.N) (h : (t.val + 1) % 4 ≠ 0) :
    PhiS m c (t.val + 1) t.isLt = iprop(iprop(owns (c : Thread nD τ) scM0_0 fullShare (keptS m c t)) ∗ (∃ r, prngReg c r)) := by
  have hN : t.val < 48 := lt_of_lt_of_eq t.isLt (show cfg0.N = 48 from N_0)
  unfold PhiS; rw [dif_neg h]
  have e : ∀ u : Fin cfg0.N, u.val = t.val + 1 → keptS m c u = keptS m c t := fun u hu =>
    outAS_congr m c _ _ _ _ (by apply Fin.ext; show u.val / 4 * 4 + 0 = t.val / 4 * 4 + 0; omega)
  rw [e ⟨t.val + 1, _⟩ rfl]
theorem PhiS_give (c : Dev nD) (n : ℕ) (hn : n ≤ cfg0.N) (h : n % 4 = 0) :
    PhiS m c n hn = iprop(iprop((∃ d, owns (c : Thread nD τ) scM0_0 fullShare d)) ∗ (∃ r, prngReg c r)) := by
  rw [PhiS_start m c n hn h, PhiA0_eq]

/-- The proof data of the call on core `c`: the arrays as found; after the body at point `t` each input's buffer at its block, each
    output's at what the last point that stored into it left; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => if h : t.val % 4 = 0 then outA4 m c t h else outB4 m c t h
    | ⟨5, _⟩ => kept5 m c t
    | ⟨6, _⟩ => kept6 m c t
    | ⟨_ + 7, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = if h : t.val % 4 = 0 then outA4 m c t h else outB4 m c t h := by dsimp only [dats]
theorem after_5 (c : Dev nD) (t : Fin cfg0.N) : (dats m 0 c).after 5 t = kept5 m c t := by dsimp only [dats]
theorem after_6 (c : Dev nD) (t : Fin cfg0.N) : (dats m 0 c).after 6 t = kept6 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## Where the outputs are idle, written back, and fresh -/

theorem idle_4 : ∀ t : Fin cfg0.N, cfg0.idle 4 (grid0.coords t) = false := fun _ => rfl
theorem flush_4 : ∀ t : Fin cfg0.N, (cfg0.win 4).flush t = decide (True) :=
  (by intro t; rw [Pipeline.Window.flush_eq_flushF]; revert t; decide +kernel : ∀ t : Fin cfg0.N, (cfg0.win 4).flush t = decide (True))
theorem idle_5 : ∀ t : Fin cfg0.N, cfg0.idle 5 (grid0.coords t) = decide (¬ (t.val % 4 = 0)) :=
  (by decide +kernel : ∀ t : Fin grid0.N, cfg0.idle 5 (grid0.coords t) = decide (¬ (t.val % 4 = 0)))
theorem flush_5 : ∀ t : Fin cfg0.N, (cfg0.win 5).flush t = decide (t.val % 4 = 3) :=
  (by intro t; rw [Pipeline.Window.flush_eq_flushF]; revert t; decide +kernel : ∀ t : Fin cfg0.N, (cfg0.win 5).flush t = decide (t.val % 4 = 3))
theorem fresh_5 (t : Fin cfg0.N) : cfg0.fresh 5 t.val = decide (t.val % 4 = 0) :=
  Pipeline.Cfg.fresh_tab cfg0 5 (fun n => decide (n % 4 = 0)) (by decide) (fun t => by
    have h : t.val < 48 := lt_of_lt_of_eq t.isLt N_0
    rw [flush_5, show cfg0.idle 5 (cfg0.grid.coords t) = _ from idle_5 t]
    simp only [← Bool.decide_or, ← Bool.decide_and, decide_eq_decide]; omega) t.val (Nat.le_of_lt t.isLt)
/-- Through the points that leave output 5 alone its contents are carried. -/
theorem carry_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t h0 hi hf
  rw [idle_5] at hi; rw [fresh_5] at hf
  have hi' := of_decide_eq_true hi
  have hf' := of_decide_eq_false hf
  rw [after_5, after_5]
  exact (outA5_congr m c _ _ _ _ (at_pred 0 _ t hi' _)).symm
/-- Where it is left alone and not fresh, the buffer holds what `after` says. -/
theorem before_5 (c : Dev nD) (t : Fin cfg0.N) (hi : ¬ (t.val % 4 = 0)) (hf : ¬ (t.val % 4 = 0)) (d) :
    (dats m 0 c).before 5 t d = (dats m 0 c).after 5 t := by
  have hf' : cfg0.fresh 5 t.val = false := by rw [fresh_5]; exact decide_eq_false hf
  have h0 : t.val ≠ 0 := fun h => hf (by omega)
  rw [Dat.before_out_traj _ 5 rfl (fun _ _ => rfl) (carry_5 m c) t.val t rfl d, if_neg (by rw [hf']; exact Bool.false_ne_true)]
  exact (carry_5 m c t h0 (by rw [idle_5]; exact decide_eq_true hi) hf').symm
/-- A point that stores nothing into output 5 hands it back as the obligation wants it. -/
theorem back_5 (c : Dev nD) (t : Fin cfg0.N) (hi : ¬ (t.val % 4 = 0)) :
    (iprop(∃ d, owns (c : Thread nD τ) (ms0_5 t) fullShare ((dats m 0 c).before 5 t d)) : sProp 𝕄) ⊢ (dats m 0 c).leavesExact 5 t := by
  have hI : cfg0.idle 5 (cfg0.grid.coords t) = true := by rw [show cfg0.idle 5 (cfg0.grid.coords t) = _ from idle_5 t]; exact decide_eq_true hi
  by_cases hf : t.val % 4 = 3
  · have hF : (cfg0.win 5).flush t = true := by rw [flush_5]; exact decide_eq_true hf
    unfold Dat.leavesExact; rw [hI, hF]
    simp only [before_5 m c t hi (by omega)]
    iintro ⟨%d, H⟩; iexact H
  · have hF : (cfg0.win 5).flush t = false := by rw [flush_5]; exact decide_eq_false hf
    rw [Dat.leavesExact_idle _ _ _ hI hF]
theorem idle_6 : ∀ t : Fin cfg0.N, cfg0.idle 6 (grid0.coords t) = decide (¬ (t.val % 4 = 0)) :=
  (by decide +kernel : ∀ t : Fin grid0.N, cfg0.idle 6 (grid0.coords t) = decide (¬ (t.val % 4 = 0)))
theorem flush_6 : ∀ t : Fin cfg0.N, (cfg0.win 6).flush t = decide (t.val % 4 = 3) :=
  (by intro t; rw [Pipeline.Window.flush_eq_flushF]; revert t; decide +kernel : ∀ t : Fin cfg0.N, (cfg0.win 6).flush t = decide (t.val % 4 = 3))
theorem fresh_6 (t : Fin cfg0.N) : cfg0.fresh 6 t.val = decide (t.val % 4 = 0) :=
  Pipeline.Cfg.fresh_tab cfg0 6 (fun n => decide (n % 4 = 0)) (by decide) (fun t => by
    have h : t.val < 48 := lt_of_lt_of_eq t.isLt N_0
    rw [flush_6, show cfg0.idle 6 (cfg0.grid.coords t) = _ from idle_6 t]
    simp only [← Bool.decide_or, ← Bool.decide_and, decide_eq_decide]; omega) t.val (Nat.le_of_lt t.isLt)
/-- Through the points that leave output 6 alone its contents are carried. -/
theorem carry_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t h0 hi hf
  rw [idle_6] at hi; rw [fresh_6] at hf
  have hi' := of_decide_eq_true hi
  have hf' := of_decide_eq_false hf
  rw [after_6, after_6]
  exact (outA6_congr m c _ _ _ _ (at_pred 0 _ t hi' _)).symm
/-- Where it is left alone and not fresh, the buffer holds what `after` says. -/
theorem before_6 (c : Dev nD) (t : Fin cfg0.N) (hi : ¬ (t.val % 4 = 0)) (hf : ¬ (t.val % 4 = 0)) (d) :
    (dats m 0 c).before 6 t d = (dats m 0 c).after 6 t := by
  have hf' : cfg0.fresh 6 t.val = false := by rw [fresh_6]; exact decide_eq_false hf
  have h0 : t.val ≠ 0 := fun h => hf (by omega)
  rw [Dat.before_out_traj _ 6 rfl (fun _ _ => rfl) (carry_6 m c) t.val t rfl d, if_neg (by rw [hf']; exact Bool.false_ne_true)]
  exact (carry_6 m c t h0 (by rw [idle_6]; exact decide_eq_true hi) hf').symm
/-- A point that stores nothing into output 6 hands it back as the obligation wants it. -/
theorem back_6 (c : Dev nD) (t : Fin cfg0.N) (hi : ¬ (t.val % 4 = 0)) :
    (iprop(∃ d, owns (c : Thread nD τ) (ms0_6 t) fullShare ((dats m 0 c).before 6 t d)) : sProp 𝕄) ⊢ (dats m 0 c).leavesExact 6 t := by
  have hI : cfg0.idle 6 (cfg0.grid.coords t) = true := by rw [show cfg0.idle 6 (cfg0.grid.coords t) = _ from idle_6 t]; exact decide_eq_true hi
  by_cases hf : t.val % 4 = 3
  · have hF : (cfg0.win 6).flush t = true := by rw [flush_6]; exact decide_eq_true hf
    unfold Dat.leavesExact; rw [hI, hF]
    simp only [before_6 m c t hi (by omega)]
    iintro ⟨%d, H⟩; iexact H
  · have hF : (cfg0.win 6).flush t = false := by rw [flush_6]; exact decide_eq_false hf
    rw [Dat.leavesExact_idle _ _ _ hI hF]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at the first point of a row block meets its obligation. -/
theorem sound_A (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_castSucc m c t, PhiS_give m c _ _ h]
  have hN : t.val < 48 := lt_of_lt_of_eq t.isLt (show cfg0.N = 48 from N_0)
  rw [show (dats m 0 c).leavesExact 0 t = owns (c : Thread nD τ) (ms0_0 t) fullShare (iblk m c 0 t) from by
    unfold Dat.leavesExact; rw [liveAt_0 t, after_0]]
  rw [show (dats m 0 c).leavesExact 1 t = owns (c : Thread nD τ) (ms0_1 t) fullShare (iblk m c 1 t) from by
    unfold Dat.leavesExact; rw [liveAt_1 t, after_1]]
  rw [show (dats m 0 c).leavesExact 2 t = owns (c : Thread nD τ) (ms0_2 t) fullShare (iblk m c 2 t) from by
    unfold Dat.leavesExact; rw [liveAt_2 t, after_2]]
  rw [show (dats m 0 c).leavesExact 3 t = owns (c : Thread nD τ) (ms0_3 t) fullShare (iblk m c 3 t) from by
    unfold Dat.leavesExact; rw [liveAt_3 t, after_3]]
  rw [show (dats m 0 c).leavesExact 4 t = owns (c : Thread nD τ) (ms0_4 t) fullShare (outA4 m c t h) from by
    unfold Dat.leavesExact; rw [show cfg0.idle 4 (cfg0.grid.coords t) = false from (idle_4 t).trans rfl, after_4]
    exact congrArg (owns (c : Thread nD τ) (ms0_4 t) fullShare) (dif_pos h)]
  rw [show (dats m 0 c).leavesExact 5 t = owns (c : Thread nD τ) (ms0_5 t) fullShare (outA5 m c t h) from by
    unfold Dat.leavesExact; rw [show cfg0.idle 5 (cfg0.grid.coords t) = false from (idle_5 t).trans (decide_eq_false (by omega)), after_5]
    exact congrArg (owns (c : Thread nD τ) (ms0_5 t) fullShare) (outA5_congr m c _ _ _ _ (at_self 0 _ t h))]
  rw [show (dats m 0 c).leavesExact 6 t = owns (c : Thread nD τ) (ms0_6 t) fullShare (outA6 m c t h) from by
    unfold Dat.leavesExact; rw [show cfg0.idle 6 (cfg0.grid.coords t) = false from (idle_6 t).trans (decide_eq_false (by omega)), after_6]
    exact congrArg (owns (c : Thread nD τ) (ms0_6 t) fullShare) (outA6_congr m c _ _ _ _ (at_self 0 _ t h))]
  have hs : (t.val + 1) % 4 ≠ 0 := by omega
  have hk : keptS m c t = outAS m c t h := outAS_congr m c _ _ _ _ (at_self 0 _ t h)
  rw [PhiS_next m c t hs, hk]
  · skip
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((pointA m c t h).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, ⟨%e4, H4⟩, ⟨%e5, H5⟩, ⟨%e6, H6⟩, ⟨%eS, HS⟩⟩
    isplitl [HS Hg]
    · isplitl [HS]
      · unfold owns; iexists _; isplitr
        swap; · iexact HS
        ipureintro; exact View.read_writes_of_cover _ _ _ _ _ (coverAS m c t h)
      iexact Hg
    isplitl [Ho]; · iexact Ho
    isplitl [H0]
    · iexact H0
    isplitl [H1]
    · iexact H1
    isplitl [H2]
    · iexact H2
    isplitl [H3]
    · iexact H3
    isplitl [H4]
    · unfold owns; iexists _; isplitr
      swap; · iexact H4
      ipureintro; exact View.read_writes_of_cover _ _ _ _ _ (coverA4 m c t h)
    isplitl [H5]
    · unfold owns; iexists _; isplitr
      swap; · iexact H5
      ipureintro; exact View.read_writes_of_cover _ _ _ _ _ (coverA5 m c t h)
    unfold owns; iexists _; isplitr
    swap; · iexact H6
    ipureintro; exact View.read_writes_of_cover _ _ _ _ _ (coverA6 m c t h)

set_option maxHeartbeats 6400000 in
/-- The body at a later point of a row block meets its obligation. -/
theorem sound_B (c : Dev nD) (t : Fin cfg0.N) (h : ¬ t.val % 4 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_castSucc m c t, PhiS_in m c t h]
  have hN : t.val < 48 := lt_of_lt_of_eq t.isLt (show cfg0.N = 48 from N_0)
  simp only [before_6 m c t (by omega) (by omega), after_6]
  rw [show (dats m 0 c).leavesExact 0 t = owns (c : Thread nD τ) (ms0_0 t) fullShare (iblk m c 0 t) from by
    unfold Dat.leavesExact; rw [liveAt_0 t, after_0]]
  rw [show (dats m 0 c).leavesExact 1 t = owns (c : Thread nD τ) (ms0_1 t) fullShare (iblk m c 1 t) from by
    unfold Dat.leavesExact; rw [liveAt_1 t, after_1]]
  rw [show (dats m 0 c).leavesExact 2 t = owns (c : Thread nD τ) (ms0_2 t) fullShare (iblk m c 2 t) from by
    unfold Dat.leavesExact; rw [liveAt_2 t, after_2]]
  rw [show (dats m 0 c).leavesExact 3 t = owns (c : Thread nD τ) (ms0_3 t) fullShare (iblk m c 3 t) from by
    unfold Dat.leavesExact; rw [liveAt_3 t, after_3]]
  rw [show (dats m 0 c).leavesExact 4 t = owns (c : Thread nD τ) (ms0_4 t) fullShare (outB4 m c t h) from by
    unfold Dat.leavesExact; rw [show cfg0.idle 4 (cfg0.grid.coords t) = false from (idle_4 t).trans rfl, after_4]
    exact congrArg (owns (c : Thread nD τ) (ms0_4 t) fullShare) (dif_neg h)]
  by_cases hs : (t.val + 1) % 4 = 0
  · rw [PhiS_give m c _ _ hs]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((pointB m c t h).2 Set.univ _)
    isplitl [H0]; · iexact H0
    isplitl [H1]; · iexact H1
    isplitl [H2]; · iexact H2
    isplitl [H3]; · iexact H3
    isplitl [H4]; · iexists _; iexact H4
    isplitl [H6]; · iexact H6
    isplitl [HS]; · iexact HS
    iintro ⟨H0, H1, H2, H3, ⟨%e4, H4⟩, H6, HS⟩
    isplitl [HS Hg]
    · isplitl [HS]
      · iexists _; iexact HS
      iexact Hg
    isplitl [Ho]; · iexact Ho
    isplitl [H0]
    · iexact H0
    isplitl [H1]
    · iexact H1
    isplitl [H2]
    · iexact H2
    isplitl [H3]
    · iexact H3
    isplitl [H4]
    · unfold owns; iexists _; isplitr
      swap; · iexact H4
      ipureintro; exact View.read_writes_of_cover _ _ _ _ _ (coverB4 m c t h)
    isplitl [H5]
    · iapply back_5 m c t (by omega)
      iexists d5; iexact H5
    iapply back_6 m c t (by omega)
    iexists d6; rw [before_6 m c t (by omega) (by omega) d6, after_6]; iexact H6
  skip
  · rw [PhiS_next m c t hs]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((pointB m c t h).2 Set.univ _)
    isplitl [H0]; · iexact H0
    isplitl [H1]; · iexact H1
    isplitl [H2]; · iexact H2
    isplitl [H3]; · iexact H3
    isplitl [H4]; · iexists _; iexact H4
    isplitl [H6]; · iexact H6
    isplitl [HS]; · iexact HS
    iintro ⟨H0, H1, H2, H3, ⟨%e4, H4⟩, H6, HS⟩
    isplitl [HS Hg]
    · isplitl [HS]
      · iexact HS
      iexact Hg
    isplitl [Ho]; · iexact Ho
    isplitl [H0]
    · iexact H0
    isplitl [H1]
    · iexact H1
    isplitl [H2]
    · iexact H2
    isplitl [H3]
    · iexact H3
    isplitl [H4]
    · unfold owns; iexists _; isplitr
      swap; · iexact H4
      ipureintro; exact View.read_writes_of_cover _ _ _ _ _ (coverB4 m c t h)
    isplitl [H5]
    · iapply back_5 m c t (by omega)
      iexists d5; iexact H5
    iapply back_6 m c t (by omega)
    iexists d6; rw [before_6 m c t (by omega) (by omega) d6, after_6]; iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 4 = 0
  · exact sound_A m c t h
  · exact sound_B m c t h

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_start m c 0 _ (by decide)]
/-- and after the last point the invariant is what the launch takes back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiS_start m c _ _ (by rw [show cfg0.N = 48 from N_0])]

/-! ## The run and the frame -/

set_option backward.isDefEq.respectTransparency.types false in
/-- The launch: every array of the call ends at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.OprojIdeal.Run

end
-- ==== Proof.Oproj.Same.lean ====
/- The kernel call Oproj and the program OprojIdeal are the same text, so the frame of one is the frame of the other. -/
module

public import proofs.«01_k».proof.Proof.Oproj.Frame
public import proofs.«01_k».proof.Proof.Gen.Oproj

@[expose] public section

set_option maxRecDepth 16384

namespace Cert.Oproj.Same

open Idealize.ShloMosaic Idealize.ShloMosaic.TcCoe Idealize.ShloMosaic.Tactic Idealize.SL Idealize.SL.Sem

variable (F : FTy → Type) [FloatOps F]

/-- What the frame of `Oproj` says. -/
def Says : Prop :=
  ∀ (m : (ℓ : Loc Cert.Oproj.nD Cert.Oproj.τ Cert.Oproj.sig) → Buf (Elt F) ℓ) (ρ : Dev Cert.Oproj.nD → PrngReg),
    θ_run (Cert.Oproj.defs (F := F)) (onTc (τ := Cert.Oproj.τ) (Cert.Oproj.main (F := F))) ⟨m, fun _ => 0, ρ⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

/-- What the frame of `OprojIdeal` says. -/
def SaysIdeal : Prop :=
  ∀ (m : (ℓ : Loc Cert.OprojIdeal.nD Cert.OprojIdeal.τ Cert.OprojIdeal.sig) → Buf (Elt F) ℓ) (ρ : Dev Cert.OprojIdeal.nD → PrngReg),
    θ_run (Cert.OprojIdeal.defs (F := F)) (onTc (τ := Cert.OprojIdeal.τ) (Cert.OprojIdeal.main (F := F))) ⟨m, fun _ => 0, ρ⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

/-- The two say the same: the programs' definitions agree. -/
theorem says_eq : SaysIdeal F = Says F := by sl_kernel_rfl

/-- The frame of `Oproj`: its arguments end unchanged, the counters at zero. -/
theorem frame : Says F := (says_eq F).mp (Cert.OprojIdeal.Run.frame (F := F))

end Cert.Oproj.Same

end
-- ==== Proof.Oproj.Chunk.lean ====
/- The kernel call OprojIdeal at the first point of a row block: what it stores there, as one formula
   for the eight chunks of 64 rows. -/
module

public import proofs.«01_k».proof.Proof.Oproj.Frame
@[expose] public section
set_option maxRecDepth 16384
noncomputable section
namespace Cert.OprojIdeal.Run
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.OprojIdeal Cert.OprojIdeal.Gen
variable {F : FTy → Type} [FloatOps F]
variable (m : (ℓ : Loc nD τ sig) → Buf (Elt F) ℓ) (ρ : Dev nD → PrngReg)

/-- One stage of the butterfly over the 32 heads, at distance `d`. -/
def stage (d : ℕ) (f : Fin 32 → FVec F S64x128 .f32) (h : Fin 32) : FVec F S64x128 .f32 :=
  if h.val / d % 2 = 0 then addf (f h) (f (Fin.ofNat 32 (h.val + d))) else subf (f (Fin.ofNat 32 (h.val - d))) (f h)
/-- The five stages. -/
def stages (f : Fin 32 → FVec F S64x128 .f32) : Fin 32 → FVec F S64x128 .f32 :=
  stage 16 (stage 8 (stage 4 (stage 2 (stage 1 f))))
/-- The heads side by side. -/
def row (g : Fin 32 → FVec F S64x128 .f32) : FVec F S64x4096 .f32 :=
  concatenate S64x4096 1 [⟨S64x128, g 0⟩, ⟨S64x128, g 1⟩, ⟨S64x128, g 2⟩, ⟨S64x128, g 3⟩, ⟨S64x128, g 4⟩, ⟨S64x128, g 5⟩, ⟨S64x128, g 6⟩, ⟨S64x128, g 7⟩, ⟨S64x128, g 8⟩, ⟨S64x128, g 9⟩, ⟨S64x128, g 10⟩, ⟨S64x128, g 11⟩, ⟨S64x128, g 12⟩, ⟨S64x128, g 13⟩, ⟨S64x128, g 14⟩, ⟨S64x128, g 15⟩, ⟨S64x128, g 16⟩, ⟨S64x128, g 17⟩, ⟨S64x128, g 18⟩, ⟨S64x128, g 19⟩, ⟨S64x128, g 20⟩, ⟨S64x128, g 21⟩, ⟨S64x128, g 22⟩, ⟨S64x128, g 23⟩, ⟨S64x128, g 24⟩, ⟨S64x128, g 25⟩, ⟨S64x128, g 26⟩, ⟨S64x128, g 27⟩, ⟨S64x128, g 28⟩, ⟨S64x128, g 29⟩, ⟨S64x128, g 30⟩, ⟨S64x128, g 31⟩] concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x4096_d1
/-- The rotated rows. -/
def spun (g : Fin 32 → FVec F S64x128 .f32) : FVec F S64x4096 .f32 :=
  mulf (row g) (broadcast S64x4096 (Scalar.ofBits .f32 0x3E3504F3#32))
/-- The scales of rows. -/
def scales (o : FVec F S64x4096 .f32) : FVec F S64x1 .f32 :=
  have a : FVec F S64x1 .f32 := shapeCast S64x1 (multiReduction .maximumf [1] S64 (absf o) 0xFF800000#32 reduces_S64x4096_S64 (.inl rfl) rfl) shapeCasts_S64_S64x1
  select (cmpf .oeq a (broadcast S64x1 (Scalar.ofBits .f32 0x00000000#32))) (broadcast S64x1 (Scalar.ofBits .f32 0x3F800000#32)) (divf (mulf a (broadcast S64x1 (Scalar.ofBits .f32 0x3F6674CD#32))) (broadcast S64x1 (Scalar.ofBits .f32 0x40E00000#32)))
/-- The codes of rows, still numbers. -/
def codes (o : FVec F S64x4096 .f32) : FVec F S64x4096 .f32 :=
  minimumf (broadcast S64x4096 (Scalar.sitofp .f32 7#32)) (maximumf (broadcast S64x4096 (Scalar.sitofp .f32 4294967289#32)) (roundeven (divf o (broadcastTo S64x4096 (scales o) broadcasts_S64x1_S64x4096))))
theorem inb_head (r : Fin 8) (h : Fin 32) :
    ∀ a, (![64 * r.val, 128 * h.val] : Fin 2 → Nat) a + S64x128.size a ≤ S512x4096.size a := by
  intro a
  have hr := r.isLt
  have hh := h.isLt
  match a with
  | ⟨0, _⟩ => show 64 * r.val + 64 ≤ 512; omega
  | ⟨1, _⟩ => show 128 * h.val + 128 ≤ 4096; omega
theorem inb_rows (r : Fin 8) : ∀ a, (![64 * r.val, 0] : Fin 2 → Nat) a + S64x4096.size a ≤ S512x4096.size a := by
  intro a
  have hr := r.isLt
  match a with
  | ⟨0, _⟩ => show 64 * r.val + 64 ≤ 512; omega
  | ⟨1, _⟩ => show 0 + 4096 ≤ 4096; omega
theorem inb_col (r : Fin 8) : ∀ a, (![64 * r.val, 0] : Fin 2 → Nat) a + S64x1.size a ≤ S512x1.size a := by
  intro a
  have hr := r.isLt
  match a with
  | ⟨0, _⟩ => show 64 * r.val + 64 ≤ 512; omega
  | ⟨1, _⟩ => show 0 + 1 ≤ 1; omega
/-- Head `h` of the rows `64 r, …, 64 r + 63` of a block. -/
def head (t : Fin cfg0.N) (X : Vec F S512x4096 .f32) (r : Fin 8) (h : Fin 32) : FVec F S64x128 .f32 :=
  View.readAt (Elt F) (ms0_0 t).view (Rect.unit (s := S512x4096) ![64 * r.val, 128 * h.val] S64x128.size (inb_head r h)).toLoadRect ((hs0_0 t).unread X)
/-- The rotated rows of chunk `r`. -/
def chunk (t : Fin cfg0.N) (X : Vec F S512x4096 .f32) (r : Fin 8) : FVec F S64x4096 .f32 := spun (stages (head t X r))
/-- The store of the codes of chunk `r`. -/
def pieceC (t : Fin cfg0.N) (X : Vec F S512x4096 .f32) (r : Fin 8) : View.Piece (Elt F) S512x4096 .i8 :=
  ⟨Rect.unit (s := S512x4096) ![64 * r.val, 0] S64x4096.size (inb_rows r), fptosi 8 (codes (chunk t X r))⟩
/-- The store of the scales of chunk `r`. -/
def pieceZ (t : Fin cfg0.N) (X : Vec F S512x4096 .f32) (r : Fin 8) : View.Piece (Elt F) S512x1 .f32 :=
  ⟨Rect.unit (s := S512x1) ![64 * r.val, 0] S64x1.size (inb_col r), scales (chunk t X r)⟩
/-- The store of the codes of chunk `r` into the scratch. -/
def pieceS (t : Fin cfg0.N) (X : Vec F S512x4096 .f32) (r : Fin 8) : View.Piece (Elt F) S512x4096 .bf16 :=
  ⟨Rect.unit (s := S512x4096) ![64 * r.val, 0] S64x4096.size (inb_rows r), shapeCast S64x4096 (truncf .bf16 (codes (chunk t X r)) bitsLt_bf16_f32) shapeCasts_S64x4096_S64x4096⟩
/-- The eight chunks, the last first. -/
def eight {α : Type} (f : Fin 8 → α) : List α := [f 7, f 6, f 5, f 4, f 3, f 2, f 1, f 0]

theorem pieces5 (c : Dev nD) (t : Fin cfg0.N) (h : t.val % 4 = 0) :
    (pointA m c t h).2.1 = eight (pieceC t (iblk m c 0 t)) := by sl_kernel_rfl
theorem pieces6 (c : Dev nD) (t : Fin cfg0.N) (h : t.val % 4 = 0) :
    (pointA m c t h).2.2.1 = eight (pieceZ t (iblk m c 0 t)) := by sl_kernel_rfl
theorem piecesS (c : Dev nD) (t : Fin cfg0.N) (h : t.val % 4 = 0) :
    (pointA m c t h).2.2.2.1 = eight (pieceS t (iblk m c 0 t)) := by sl_kernel_rfl

end Cert.OprojIdeal.Run
end
end
-- ==== Proof.Quant.lean ====
/- The quantiser of activations and the codes of weights, one number at a time: what the kernels and
   the references both come down to. -/
module

public import Idealize.ShloMosaic.Lib.Pointwise

@[expose] public section

set_option maxRecDepth 16384

noncomputable section

namespace Cert.Quant

open Idealize.ShloMosaic

/-! ## Two constants -/

theorem seven : Ideal.ofBits .f32 1088421888#32 = ((7 : ℝ) : EReal) := by
  norm_num [Ideal.ofBits, Ideal.ieee, Nat.shiftRight_eq_div_pow, show BitVec.extractLsb' 31 1 1088421888#32 = 0#1 by decide]
theorem neg_seven : Ideal.ofBits .f32 3235905536#32 = ((-7 : ℝ) : EReal) := by
  norm_num [Ideal.ofBits, Ideal.ieee, Nat.shiftRight_eq_div_pow, show BitVec.extractLsb' 31 1 3235905536#32 = 1#1 by decide]

/-! ## The quantiser of activations -/

/-- The largest magnitude of a row. -/
def amax {n : ℕ} (v : Fin n → EReal) : EReal :=
  Finset.univ.fold max (Ideal.ofBits .f32 4286578688#32) fun x => FloatOps.absf (F := Ideal) (φ := .f32) (v x)
/-- The scale of a row whose largest magnitude is `a`: `a · clip / 7`, and 1 for a row of zeros. -/
def scaleOf (a : EReal) : EReal :=
  if a = 0 then 1 else Ideal.div (a * Ideal.ofBits .f32 1063679181#32) (Ideal.ofBits .f32 1088421888#32)
/-- The code of `v` at scale `s`, as a number: the quotient rounded to nearest even and clipped to ±7. -/
def codeR (v s : EReal) : EReal :=
  min ((7 : ℝ) : EReal) (max ((-7 : ℝ) : EReal) (Ideal.liftRound Ideal.roundHalfEven (Ideal.div v s)))
/-- The code of `v` at scale `s`, as a byte. -/
def code8 (v s : EReal) : BitVec 8 := Ideal.fptosi 8 (codeR v s)

/-- A code is a whole number between −7 and 7. -/
theorem codeR_int (v s : EReal) : ∃ k : ℤ, -7 ≤ k ∧ k ≤ 7 ∧ codeR v s = ((k : ℝ) : EReal) := by
  unfold codeR
  induction Ideal.div v s with
  | bot =>
    refine ⟨-7, by norm_num, by norm_num, ?_⟩
    rw [show Ideal.liftRound Ideal.roundHalfEven ⊥ = ⊥ from rfl, max_eq_left bot_le, min_eq_right (EReal.coe_le_coe_iff.2 (by norm_num))]
    norm_num
  | top =>
    refine ⟨7, by norm_num, by norm_num, ?_⟩
    rw [show Ideal.liftRound Ideal.roundHalfEven ⊤ = ⊤ from rfl, max_eq_right le_top, min_eq_left le_top]
    norm_num
  | coe x =>
    refine ⟨min 7 (max (-7) (Ideal.roundHalfEven x)), by simp, by simp, ?_⟩
    rw [show Ideal.liftRound Ideal.roundHalfEven (x : EReal) = ((Ideal.roundHalfEven x : ℝ) : EReal) from rfl]
    have h1 : ∀ a b : ℝ, max (a : EReal) b = ((max a b : ℝ) : EReal) := fun a b =>
      (Monotone.map_max (f := ((↑) : ℝ → EReal)) fun _ _ h => EReal.coe_le_coe_iff.2 h).symm
    have h2 : ∀ a b : ℝ, min (a : EReal) b = ((min a b : ℝ) : EReal) := fun a b =>
      (Monotone.map_min (f := ((↑) : ℝ → EReal)) fun _ _ h => EReal.coe_le_coe_iff.2 h).symm
    rw [h1, h2]
    push_cast
    rfl
/-- A whole number in the range of a signed byte is converted to itself. -/
theorem fptosi_int (w : ℕ) (k : ℤ) (hlo : -(2 ^ (w - 1) : ℕ) ≤ k) (hhi : k ≤ (2 ^ (w - 1) : ℕ) - 1) :
    Ideal.fptosi w ((k : ℝ) : EReal) = BitVec.ofInt w k := by
  unfold Ideal.fptosi
  congr 1
  show max _ (min _ (if 0 ≤ (k : ℝ) then ⌊(k : ℝ)⌋ else ⌈(k : ℝ)⌉)) = k
  rw [Int.floor_intCast, Int.ceil_intCast, ite_self, min_eq_right hhi, max_eq_right hlo]
/-- Converting a code to a wide integer and narrowing it is converting it to a byte. -/
theorem narrow_code (v s : EReal) : BitVec.setWidth 8 (Ideal.fptosi 32 (codeR v s)) = code8 v s := by
  unfold code8
  obtain ⟨k, h1, h2, hk⟩ := codeR_int v s
  rw [hk, fptosi_int 32 k (by norm_num; omega) (by norm_num; omega), fptosi_int 8 k (by norm_num; omega) (by norm_num; omega)]
  interval_cases k <;> decide
/-- A code read back from its byte is the code. -/
theorem code8_toInt (v s : EReal) : (((code8 v s).toInt : ℝ) : EReal) = codeR v s := by
  unfold code8
  obtain ⟨k, h1, h2, hk⟩ := codeR_int v s
  rw [hk, fptosi_int 8 k (by norm_num; omega) (by norm_num; omega)]
  have : (BitVec.ofInt 8 k).toInt = k := by interval_cases k <;> decide
  rw [this]
/-- The same through a wider integer. -/
theorem widen_toInt (b : BitVec 8) : (BitVec.signExtend 32 b).toInt = b.toInt :=
  BitVec.toInt_signExtend_of_le (by decide)

/-- The scale as the host writes it. -/
theorem select_scale (a : EReal) :
    Scalar.select (FloatOps.cmpf (F := Ideal) (φ := .f32) .oeq a (FloatOps.ofBits .f32 0#32)) (FloatOps.ofBits (F := Ideal) .f32 1065353216#32)
      (FloatOps.hostDivf (F := Ideal) (φ := .f32) (FloatOps.mulf (F := Ideal) (φ := .f32) a (FloatOps.ofBits .f32 1063679181#32)) (FloatOps.ofBits .f32 1088421888#32))
      = scaleOf a := by
  unfold scaleOf
  rw [show FloatOps.ofBits (F := Ideal) .f32 0#32 = 0 from Ideal.ofBits_zero_f32, show FloatOps.ofBits (F := Ideal) .f32 1065353216#32 = 1 from Ideal.ofBits_one_f32]
  by_cases h : a = 0
  · rw [if_pos h, h]
    simp [Scalar.select, Ideal.cmpf_def, Ideal.cmp]
  · rw [if_neg h]
    simp [Scalar.select, Ideal.cmpf_def, Ideal.cmp, h]
/-- The code as the host writes it. -/
theorem host_code (v s : EReal) :
    BitVec.setWidth 8 (FloatOps.fptosi (F := Ideal) (φ := .f32) 32 (FloatOps.minimumf (F := Ideal) (φ := .f32)
      (FloatOps.maximumf (F := Ideal) (φ := .f32) (FloatOps.hostUnary (F := Ideal) (φ := .f32) .roundeven (FloatOps.hostDivf (F := Ideal) (φ := .f32) v s))
        (FloatOps.ofBits .f32 3235905536#32)) (FloatOps.ofBits .f32 1088421888#32))) = code8 v s := by
  rw [← narrow_code]
  unfold codeR
  rw [← seven, ← neg_seven, min_comm, max_comm]
  rfl
/-- A code widened and converted back is the code. -/
theorem byte_float (v s : EReal) : FloatOps.sitofp (F := Ideal) .f32 (BitVec.signExtend 32 (code8 v s)) = codeR v s := by
  rw [← code8_toInt, ← widen_toInt]
  rfl

/-! ## The codes of weights: two to a byte -/

/-- The low code of a byte, signed: its low four bits in two's complement. -/
def nibLo (b : BitVec 8) : ℤ := (b.extractLsb' 0 4).toInt
/-- The high code of a byte. -/
def nibHi (b : BitVec 8) : ℤ := (b.extractLsb' 4 4).toInt

/-- A statement about all bytes, from its 256 cases. -/
theorem byte_cases (P : BitVec 8 → Prop) (h : ∀ n : Fin 256, P (BitVec.ofFin n)) (b : BitVec 8) : P b := h b.toFin

theorem lo_shift (b : BitVec 8) :
    (IntOp.shrsi .vector (IntOp.shli .vector (BitVec.setWidth 32 b) 28#32) 28#32).toInt = nibLo b :=
  byte_cases (fun b => (IntOp.shrsi .vector (IntOp.shli .vector (BitVec.setWidth 32 b) 28#32) 28#32).toInt = nibLo b) (by decide +kernel) b
theorem hi_shift (b : BitVec 8) :
    (IntOp.shrsi .vector (IntOp.shli .vector (BitVec.setWidth 32 b) 24#32) 28#32).toInt = nibHi b :=
  byte_cases (fun b => (IntOp.shrsi .vector (IntOp.shli .vector (BitVec.setWidth 32 b) 24#32) 28#32).toInt = nibHi b) (by decide +kernel) b
theorem lo_select (b : BitVec 8) :
    (Scalar.select (IntOp.cmpi .sge (IntOp.andi (BitVec.setWidth 32 b) 15#32) 8#32)
      (IntOp.subi (IntOp.andi (BitVec.setWidth 32 b) 15#32) 16#32) (IntOp.andi (BitVec.setWidth 32 b) 15#32)).toInt = nibLo b :=
  byte_cases (fun b => (Scalar.select (IntOp.cmpi .sge (IntOp.andi (BitVec.setWidth 32 b) 15#32) 8#32)
      (IntOp.subi (IntOp.andi (BitVec.setWidth 32 b) 15#32) 16#32) (IntOp.andi (BitVec.setWidth 32 b) 15#32)).toInt = nibLo b) (by decide +kernel) b
theorem hi_select (b : BitVec 8) :
    (Scalar.select (IntOp.cmpi .sge (IntOp.shrsi .host (BitVec.setWidth 32 b) 4#32) 8#32)
      (IntOp.subi (IntOp.shrsi .host (BitVec.setWidth 32 b) 4#32) 16#32) (IntOp.shrsi .host (BitVec.setWidth 32 b) 4#32)).toInt = nibHi b :=
  byte_cases (fun b => (Scalar.select (IntOp.cmpi .sge (IntOp.shrsi .host (BitVec.setWidth 32 b) 4#32) 8#32)
      (IntOp.subi (IntOp.shrsi .host (BitVec.setWidth 32 b) 4#32) 16#32) (IntOp.shrsi .host (BitVec.setWidth 32 b) 4#32)).toInt = nibHi b) (by decide +kernel) b

/-- A sum over `2 n` terms is the sum of its even terms and its odd terms. -/
theorem sum_even_odd (n : ℕ) (f : ℕ → EReal) :
    ∑ x : Fin (2 * n), f x = (∑ k : Fin n, f (2 * k)) + ∑ k : Fin n, f (1 + 2 * k) := by
  induction n with
  | zero => simp
  | succ n ih =>
    rw [Fin.sum_univ_castSucc (f := fun k : Fin (n + 1) => f (2 * k)), Fin.sum_univ_castSucc (f := fun k : Fin (n + 1) => f (1 + 2 * k))]
    rw [show (∑ x : Fin (2 * (n + 1)), f x) = ∑ x : Fin (2 * n + 1 + 1), f x from rfl, Fin.sum_univ_castSucc, Fin.sum_univ_castSucc]
    simp only [Fin.val_castSucc, Fin.val_last]
    rw [ih, show 2 * n + 1 = 1 + 2 * n by omega]
    ac_rfl

/-- An extended real whose absolute value is below infinity is a real number. -/
theorem real_of_abs_lt (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  have h' : max x (-x) < ⊤ := by
    by_contra hn
    unfold Ideal.cmp at h
    simp only [decide_eq_false hn] at h
    exact absurd h (by decide)
  induction x using EReal.rec with
  | bot => exact absurd h' (by simp)
  | top => exact absurd h' (by simp)
  | coe r => exact ⟨r, rfl⟩

end Cert.Quant
end
end
-- ==== Proof.Oproj.Spec.lean ====
/- The output projection, one row at a time: the rotation of a row over its 32 heads, its scale and codes,
   and the product with a column of weights. Kernel and reference are both shown to be this. -/
module

public import proofs.«01_k».proof.Proof.Quant

@[expose] public section

set_option maxRecDepth 16384

noncomputable section

namespace Cert.OprojSpec

open Idealize.ShloMosaic Cert.Quant

/-- The sign of head `h` in the rotated head `g`: −1 when `g` and `h` have an odd number of common bits, else 1. -/
def had (g h : Fin 32) : ℤ :=
  (IntOp.subi (1#32) (IntOp.muli (2#32) (IntOp.andi (IntOp.ctpop (IntOp.andi (BitVec.ofNat 32 g.val) (BitVec.ofNat 32 h.val))) 1#32))).toInt

/-- Column `j` of head `h` in a row. -/
def col (h : Fin 32) (j : ℕ) : Fin 4096 := ⟨h.val * 128 + j % 128, by have := h.isLt; omega⟩
/-- The head of column `l`. -/
def headOf (l : Fin 4096) : Fin 32 := ⟨l.val / 128, by have := l.isLt; omega⟩

/-- A row rotated over its heads. -/
def rot (v : Fin 4096 → EReal) (l : Fin 4096) : EReal :=
  (∑ h : Fin 32, v (col h l) * ((had (headOf l) h : ℝ) : EReal)) * Ideal.ofBits .f32 1043662067#32
/-- The scale of a row. -/
def rowScale (v : Fin 4096 → EReal) : EReal := scaleOf (amax (rot v))
/-- The codes of a row, as numbers. -/
def rowCode (v : Fin 4096 → EReal) (l : Fin 4096) : EReal := codeR (rot v l) (rowScale v)
/-- The codes of a row, as bytes. -/
def rowByte (v : Fin 4096 → EReal) (l : Fin 4096) : BitVec 8 := code8 (rot v l) (rowScale v)
/-- Row `k` of a column of weights, whose bytes hold two rows each. -/
def nib {n : ℕ} (w : Fin n → BitVec 8) (k : Fin (2 * n)) : ℤ :=
  if k.val % 2 < 1 then nibLo (w ⟨k.val / 2, by have := k.isLt; omega⟩) else nibHi (w ⟨k.val / 2, by have := k.isLt; omega⟩)
/-- One number of the result: the residual and the product of the row's codes with a column of weights, scaled. -/
def hid (v : Fin 4096 → EReal) (x : EReal) (w : Fin 2048 → BitVec 8) (s : EReal) : EReal :=
  x + (∑ k : Fin (2 * 2048), rowCode v k * ((nib w k : ℝ) : EReal)) * rowScale v * s

/-- The product over all rows of weights is the product over the even ones and that over the odd ones. -/
theorem sum_nib {n : ℕ} (f : Fin (2 * n) → EReal) (w : Fin n → BitVec 8) :
    ∑ k : Fin (2 * n), f k * ((nib w k : ℝ) : EReal)
      = (∑ k : Fin n, f ⟨2 * k.val, by have := k.isLt; omega⟩ * ((nibLo (w k) : ℝ) : EReal))
        + ∑ k : Fin n, f ⟨1 + 2 * k.val, by have := k.isLt; omega⟩ * ((nibHi (w k) : ℝ) : EReal) := by
  have h := sum_even_odd n fun x => if hx : x < 2 * n then f ⟨x, hx⟩ * ((nib w ⟨x, hx⟩ : ℝ) : EReal) else 0
  refine Eq.trans (Finset.sum_congr rfl fun k _ => ?_) (h.trans (congrArg₂ (· + ·) (Finset.sum_congr rfl fun k _ => ?_) (Finset.sum_congr rfl fun k _ => ?_)))
  · rw [dif_pos k.isLt]
  · have hk := k.isLt
    rw [dif_pos (show 2 * k.val < 2 * n by omega)]
    unfold nib
    rw [if_pos (show (2 * k.val) % 2 < 1 by omega)]
    rw [show (⟨2 * k.val / 2, by omega⟩ : Fin n) = k from Fin.ext (show 2 * k.val / 2 = k.val by omega)]
  · have hk := k.isLt
    rw [dif_pos (show 1 + 2 * k.val < 2 * n by omega)]
    unfold nib
    rw [if_neg (show ¬ (1 + 2 * k.val) % 2 < 1 by omega)]
    rw [show (⟨(1 + 2 * k.val) / 2, by omega⟩ : Fin n) = k from Fin.ext (show (1 + 2 * k.val) / 2 = k.val by omega)]

end Cert.OprojSpec
end
end
-- ==== Proof.Oproj.Rows.lean ====
/- The kernel call OprojIdeal over the extended reals: what the first point of a row block stores, number by
   number, as the row functions of `Spec`. -/
module

public import proofs.«01_k».proof.Proof.Oproj.Chunk
public import proofs.«01_k».proof.Proof.Oproj.Spec

@[expose] public section

set_option maxRecDepth 16384

noncomputable section

/-! ## The butterfly -/

namespace Cert.OprojSpec

open Idealize.ShloMosaic Cert.Quant

/-- One stage of the butterfly over 32 numbers, at distance `d`. -/
def bstage {α : Type} [Add α] [Sub α] (d : ℕ) (f : Fin 32 → α) (h : Fin 32) : α :=
  if h.val / d % 2 = 0 then f h + f (Fin.ofNat 32 (h.val + d)) else f (Fin.ofNat 32 (h.val - d)) - f h
/-- The five stages. -/
def bstages {α : Type} [Add α] [Sub α] (f : Fin 32 → α) : Fin 32 → α :=
  bstage 16 (bstage 8 (bstage 4 (bstage 2 (bstage 1 f))))
/-- A stage of sums is the sum of stages. -/
theorem bstage_sum (d : ℕ) (a : Fin 32 → ℝ) (E : Fin 32 → Fin 32 → ℤ) :
    bstage d (fun h => ∑ j, a j * (E j h : ℝ)) = fun h => ∑ j, a j * ((bstage d (E j) h : ℤ) : ℝ) := by
  funext h
  unfold bstage
  split
  · rw [← Finset.sum_add_distrib]
    exact Finset.sum_congr rfl fun j _ => by push_cast; ring
  · rw [← Finset.sum_sub_distrib]
    exact Finset.sum_congr rfl fun j _ => by push_cast; ring
/-- The butterfly of a unit vector is a column of signs. -/
theorem bstages_unit : ∀ j h : Fin 32, bstages (fun k : Fin 32 => if j = k then (1 : ℤ) else 0) h = had h j := by
  decide +kernel
/-- The butterfly is the product with the matrix of signs. -/
theorem bstages_real (a : Fin 32 → ℝ) (h : Fin 32) : bstages a h = ∑ j, a j * (had h j : ℝ) := by
  have e : a = fun h => ∑ j, a j * (((if j = h then (1 : ℤ) else 0 : ℤ)) : ℝ) := by
    funext h
    simp
  unfold bstages
  conv_lhs => rw [e, bstage_sum, bstage_sum, bstage_sum, bstage_sum, bstage_sum]
  refine Finset.sum_congr rfl fun j _ => ?_
  rw [← bstages_unit j h]
  rfl
theorem bstage_coe (d : ℕ) (a : Fin 32 → ℝ) : bstage d (fun h => (a h : EReal)) = fun h => ((bstage d a h : ℝ) : EReal) := by
  funext h
  unfold bstage
  split <;> norm_cast
/-- The same on finite extended reals. -/
theorem bstages_finite (a : Fin 32 → EReal) (ha : ∀ h, ∃ x : ℝ, a h = x) (h : Fin 32) :
    bstages a h = ∑ j, a j * ((had h j : ℝ) : EReal) := by
  choose b hb using ha
  obtain rfl : a = fun h => (b h : EReal) := funext hb
  unfold bstages
  rw [bstage_coe, bstage_coe, bstage_coe, bstage_coe, bstage_coe]
  show ((bstages b h : ℝ) : EReal) = _
  rw [bstages_real]
  push_cast
  rfl

end Cert.OprojSpec

/-! ## A chunk of 64 rows -/

namespace Cert.OprojIdeal.Run

open Idealize.ShloMosaic Idealize.ShloMosaic.TcCoe Idealize.ShloMosaic.Tactic
open Cert.OprojIdeal Cert.OprojIdeal.Gen Cert.Quant Cert.OprojSpec

theorem stage_apply (d : ℕ) (f : Fin 32 → FVec Ideal S64x128 .f32) (h : Fin 32) (i : S64x128.Idx) :
    stage d f h i = bstage (α := EReal) d (fun h => f h i) h := by
  unfold stage bstage
  split <;> rfl
theorem stages_apply (f : Fin 32 → FVec Ideal S64x128 .f32) (h : Fin 32) (i : S64x128.Idx) :
    stages f h i = bstages (α := EReal) (fun h => f h i) h := by
  unfold stages bstages
  simp only [stage_apply]
theorem row_apply (g : Fin 32 → FVec Ideal S64x128 .f32) (r : Fin 64) (l : Fin 4096) :
    row g (ix2 r l) = g (headOf l) (ix2 r ⟨l.val % 128, Nat.mod_lt _ (by decide)⟩) :=
  concatenate_ofFn_apply (t := S64x4096) (s₁ := S64x128) 1 g _ rfl 128 rfl (ix2 r l) (headOf l) rfl _ rfl
    (fun b hb => match b with | ⟨0, _⟩ => rfl | ⟨1, _⟩ => absurd rfl hb)
theorem head_apply (t : Fin cfg0.N) (X : Vec Ideal S512x4096 .f32) (rr : Fin 8) (h : Fin 32) (r : Fin 64) (j : Fin 128) :
    head (F := Ideal) t X rr h (ix2 r j) = X (ix2 ⟨64 * rr.val + r.val, by have := rr.isLt; have := r.isLt; omega⟩ (col h j.val)) := by
  unfold head
  simp only [View.readAt_eq_ld, (hs0_0 t).read_unread]
  pointwise []
  congr 2
  exact Fin.ext (show 128 * h.val + j.val = h.val * 128 + j.val % 128 by have := j.isLt; omega)
/-- A chunk holds the rotated rows. -/
theorem chunk_apply (t : Fin cfg0.N) (X : Vec Ideal S512x4096 .f32) (hX : ∀ i, ∃ x : ℝ, X i = (x : EReal)) (rr : Fin 8) (r : Fin 64) (l : Fin 4096) :
    chunk (F := Ideal) t X rr (ix2 r l) = rot (fun k => X (ix2 ⟨64 * rr.val + r.val, by have := rr.isLt; have := r.isLt; omega⟩ k)) l := by
  show row _ (ix2 r l) * Ideal.ofBits .f32 1043662067#32 = _
  rw [row_apply, stages_apply]
  unfold rot
  congr 1
  rw [bstages_finite _ (fun h => by rw [head_apply]; exact hX _)]
  refine Finset.sum_congr rfl fun h _ => ?_
  rw [head_apply]
  congr 3
  exact Fin.ext (show h.val * 128 + l.val % 128 % 128 = h.val * 128 + l.val % 128 by omega)
theorem scales_apply (o : FVec Ideal S64x4096 .f32) (r : Fin 64) (z : Fin 1) :
    scales o (ix2 r z) = scaleOf (amax fun l => o (ix2 r l)) := by
  obtain rfl : z = 0 := Subsingleton.elim _ _
  pointwise [scales]
  rfl
theorem codes_apply (o : FVec Ideal S64x4096 .f32) (r : Fin 64) (l : Fin 4096) :
    codes o (ix2 r l) = codeR (o (ix2 r l)) (scaleOf (amax fun l => o (ix2 r l))) := by
  rw [← scales_apply o r 0]
  pointwise [codes]
  rw [show (7#32 : BitVec 32).toInt = 7 from by decide, show (4294967289#32 : BitVec 32).toInt = -7 from by decide]
  unfold codeR
  push_cast
  rfl

end Cert.OprojIdeal.Run
end
end
-- ==== Proof.Oproj.Block.lean ====
/- The kernel call OprojIdeal over the extended reals: what each point leaves in its windows, and what its windows
   hold of the arrays. -/
module

public import proofs.«01_k».proof.Proof.Oproj.Rows
public import Idealize.ShloMosaic.Lib.Pipeline.Value
public import Idealize.ShloMosaic.Lib.Pipeline.ValueKit.Geometry

@[expose] public section

set_option maxRecDepth 16384

noncomputable section

namespace Cert.OprojIdeal.Run

open Idealize.ShloMosaic Idealize.ShloMosaic.TcCoe Idealize.ShloMosaic.Tactic
open Cert.OprojIdeal Cert.OprojIdeal.Gen Cert.Quant Cert.OprojSpec

theorem hz : (![0, 0] : Fin 2 → Nat) = fun _ => 0 := funext fun a => by fin_cases a <;> rfl

/-! ## What the points store, for any meaning of the numbers -/

section
variable {F : FTy → Type} [FloatOps F]
variable (m : (ℓ : Loc nD τ sig) → Buf (Elt F) ℓ)

theorem mem_eight {α : Type} {f : Fin 8 → α} {x : α} (h : x ∈ eight f) : ∃ r, x = f r := by
  simp only [eight, List.mem_cons, List.not_mem_nil, or_false] at h
  rcases h with h | h | h | h | h | h | h | h <;> exact ⟨_, h⟩
/-- The first point of a row block stores the product of the codes it has just stored. -/
theorem pieces4A (c : Dev nD) (t : Fin cfg0.N) (h : t.val % 4 = 0) :
    (pointA m c t h).1 = [⟨Rect.unit (s := S512x1024) ![0, 0] S512x1024.size inb_S512x1024_S512x1024_0_0,
      k0_pay1 (scM0_0.view.readCov (pointA m c t h).2.2.2.1 (Rect.unit (s := S512x4096) ![0, 0] S512x4096.size inb_S512x4096_S512x4096_0_0).toLoadRect)
        (View.readAt (Elt F) (ms0_2 t).view (Rect.unit (s := S2048x1024) ![0, 0] S2048x1024.size inb_S2048x1024_S2048x1024_0_0).toLoadRect ((hs0_2 t).unread (iblk m c 2 t)))
        ((ms0_6 t).view.readCov (pointA m c t h).2.2.1 (Rect.unit (s := S512x1) ![0, 0] S512x1.size inb_S512x1_S512x1_0_0).toLoadRect)
        (View.readAt (Elt F) (ms0_3 t).view (Rect.unit (s := S1x1024) ![0, 0] S1x1024.size inb_S1x1024_S1x1024_0_0).toLoadRect ((hs0_3 t).unread (iblk m c 3 t)))
        (View.readAt (Elt F) (ms0_1 t).view (Rect.unit (s := S512x1024) ![0, 0] S512x1024.size inb_S512x1024_S512x1024_0_0).toLoadRect ((hs0_1 t).unread (iblk m c 1 t)))⟩] := by
  sl_kernel_rfl
theorem canon4 (t : Fin cfg0.N) (L6 : List (View.Piece (Elt F) S512x1 .f32)) (LS : List (View.Piece (Elt F) S512x4096 .bf16))
    (h6 : ∀ y, ∃ p ∈ L6, y ∈ p.1.set) (hS : ∀ y, ∃ p ∈ LS, y ∈ p.1.set) (w : Vec F S2048x1024 .i8) (ws : Vec F S1x1024 .f32) (x : Vec F S512x1024 .bf16) :
    View.canon (Val := Elt F) [(⟨Rect.unit (s := S512x1024) ![0, 0] S512x1024.size inb_S512x1024_S512x1024_0_0,
      k0_pay1 (scM0_0.view.readCov LS (Rect.unit (s := S512x4096) ![0, 0] S512x4096.size inb_S512x4096_S512x4096_0_0).toLoadRect)
        (View.readAt (Elt F) (ms0_2 t).view (Rect.unit (s := S2048x1024) ![0, 0] S2048x1024.size inb_S2048x1024_S2048x1024_0_0).toLoadRect ((hs0_2 t).unread w))
        ((ms0_6 t).view.readCov L6 (Rect.unit (s := S512x1) ![0, 0] S512x1.size inb_S512x1_S512x1_0_0).toLoadRect)
        (View.readAt (Elt F) (ms0_3 t).view (Rect.unit (s := S1x1024) ![0, 0] S1x1024.size inb_S1x1024_S1x1024_0_0).toLoadRect ((hs0_3 t).unread ws))
        (View.readAt (Elt F) (ms0_1 t).view (Rect.unit (s := S512x1024) ![0, 0] S512x1024.size inb_S512x1024_S512x1024_0_0).toLoadRect ((hs0_1 t).unread x))⟩ : View.Piece (Elt F) S512x1024 .bf16)]
      = k0_pay1 (View.canon LS) w (View.canon L6) ws x := by
  rw [View.readCov_eq_canon_ld _ _ _ hS, View.readCov_eq_canon_ld _ _ _ h6]
  simp only [View.readAt_eq_ld, (hs0_1 t).read_unread, (hs0_2 t).read_unread, (hs0_3 t).read_unread]
  rw [View.canon_unit_zero hz, View.ld_unit_zero hz, View.ld_unit_zero hz, View.ld_unit_zero hz, View.ld_unit_zero hz, View.ld_unit_zero hz]
theorem outA4_eq (c : Dev nD) (t : Fin cfg0.N) (h : t.val % 4 = 0) :
    outA4 m c t h = k0_pay1 (outAS m c t h) (iblk m c 2 t) (outA6 m c t h) (iblk m c 3 t) (iblk m c 1 t) := by
  have e4 : outA4 m c t h = _ := View.read_writes_eq_canon VO0_4 _ _ (coverA4 m c t h)
  have e6 : outA6 m c t h = _ := View.read_writes_eq_canon VO0_6 _ _ (coverA6 m c t h)
  have eS : outAS m c t h = _ := View.read_writes_eq_canon VS0_0 _ _ (coverAS m c t h)
  rw [e6, eS]
  exact e4.trans ((congrArg View.canon (pieces4A m c t h)).trans (canon4 t _ _ (coverA6 m c t h) (coverAS m c t h) _ _ _))
theorem outB4_eq (c : Dev nD) (t : Fin cfg0.N) (h : ¬ t.val % 4 = 0) :
    outB4 m c t h = k0_pay1 (keptS m c t) (iblk m c 2 t) (kept6 m c t) (iblk m c 3 t) (iblk m c 1 t) := by
  unfold outB4
  rw [View.read_writes_eq_canon _ _ _ (coverB4 m c t h)]
  unfold pointB runB
  dsimp only
  simp only [View.readAt_eq_ld, (hs0_1 t).read_unread, (hs0_2 t).read_unread, (hs0_3 t).read_unread, (hs0_6 t).read_unread, (Memref.isWhole_whole _).read_unread]
  rw [View.canon_unit_zero hz, View.ld_unit_zero hz, View.ld_unit_zero hz, View.ld_unit_zero hz, View.ld_unit_zero hz, View.ld_unit_zero hz]
/-- At every point the result's block is the product of the codes its row block's first point stored. -/
theorem after4 (c : Dev nD) (t : Fin cfg0.N) :
    (dats m 0 c).after 4 t = k0_pay1 (keptS m c t) (iblk m c 2 t) (kept6 m c t) (iblk m c 3 t) (iblk m c 1 t) := by
  rw [after_4]
  by_cases h : t.val % 4 = 0
  · rw [dif_pos h, outA4_eq]
    unfold keptS kept6
    rw [outAS_congr m c _ _ h (at_mod 0 _ t) (at_self 0 (by decide) t h).symm, outA6_congr m c _ _ h (at_mod 0 _ t) (at_self 0 (by decide) t h).symm]
  · rw [dif_neg h, outB4_eq]
end

/-! ## The stored numbers -/

section
variable (m : (ℓ : Loc nD τ sig) → Buf (Elt Ideal) ℓ)

/-- A store into rows `64 rr, …` of a block, whose contents at each index are those of one function of the block's index. -/
theorem piece_rows {e : EltTy} (G : Fin 512 → Fin 4096 → Elt Ideal e) (rr : Fin 8) (w : S64x4096.Idx → Elt Ideal e)
    (hw : ∀ (r : Fin 64) (l : Fin 4096), w (ix2 r l) = G ⟨64 * rr.val + r.val, by have := rr.isLt; have := r.isLt; omega⟩ l)
    (x : S64x4096.Idx) :
    w x = G ((Rect.unit (s := S512x4096) ![64 * rr.val, 0] S64x4096.size (inb_rows rr)).emb x 0) ((Rect.unit (s := S512x4096) ![64 * rr.val, 0] S64x4096.size (inb_rows rr)).emb x 1) := by
  obtain ⟨r, l, rfl⟩ : ∃ (r : Fin 64) (l : Fin 4096), x = ix2 r l := by
    idx_vars x
    exact ⟨_, _, rfl⟩
  rw [hw]
  congr 1
  · exact Fin.ext (Idealize.ShloMosaic.ValueKit.rect_emb_unit_val (s := S512x4096) _ _ (inb_rows rr) (ix2 r l) 0).symm
  · exact Fin.ext ((Idealize.ShloMosaic.ValueKit.rect_emb_unit_val (s := S512x4096) _ _ (inb_rows rr) (ix2 r l) 1).trans (Nat.zero_add _)).symm
theorem piece_col {e : EltTy} (G : Fin 512 → Elt Ideal e) (rr : Fin 8) (w : S64x1.Idx → Elt Ideal e)
    (hw : ∀ (r : Fin 64) (z : Fin 1), w (ix2 r z) = G ⟨64 * rr.val + r.val, by have := rr.isLt; have := r.isLt; omega⟩)
    (x : S64x1.Idx) :
    w x = G ((Rect.unit (s := S512x1) ![64 * rr.val, 0] S64x1.size (inb_col rr)).emb x 0) := by
  obtain ⟨r, l, rfl⟩ : ∃ (r : Fin 64) (l : Fin 1), x = ix2 r l := by
    idx_vars x
    exact ⟨_, _, rfl⟩
  rw [hw]
  congr 1
  exact Fin.ext (Idealize.ShloMosaic.ValueKit.rect_emb_unit_val (s := S512x1) _ _ (inb_col rr) (ix2 r l) 0).symm

variable (t : Fin cfg0.N) (X : Vec Ideal S512x4096 .f32) (hX : ∀ i, ∃ x : ℝ, X i = (x : EReal))
include hX
theorem codes_chunk (rr : Fin 8) (r : Fin 64) (l : Fin 4096) :
    codes (chunk (F := Ideal) t X rr) (ix2 r l) = rowCode (fun k => X (ix2 ⟨64 * rr.val + r.val, by have := rr.isLt; have := r.isLt; omega⟩ k)) l := by
  rw [codes_apply]
  simp only [chunk_apply t X hX]
  rfl
theorem scales_chunk (rr : Fin 8) (r : Fin 64) (z : Fin 1) :
    scales (chunk (F := Ideal) t X rr) (ix2 r z) = rowScale (fun k => X (ix2 ⟨64 * rr.val + r.val, by have := rr.isLt; have := r.isLt; omega⟩ k)) := by
  rw [scales_apply]
  simp only [chunk_apply t X hX]
  rfl
theorem pieceC_apply (rr : Fin 8) (x : S64x4096.Idx) : fptosi 8 (codes (chunk (F := Ideal) t X rr)) x
    = rowByte (fun k => X (ix2 ((pieceC (F := Ideal) t X rr).1.emb x 0) k)) ((pieceC (F := Ideal) t X rr).1.emb x 1) :=
  piece_rows (e := .i8) (fun R l => rowByte (fun k => X (ix2 R k)) l) rr _ (fun r l => by
    show Ideal.fptosi 8 (codes (chunk (F := Ideal) t X rr) (ix2 r l)) = _
    rw [codes_chunk t X hX]
    rfl) x
theorem pieceS_apply (rr : Fin 8) (x : S64x4096.Idx) : (shapeCast S64x4096 (truncf .bf16 (codes (chunk (F := Ideal) t X rr)) bitsLt_bf16_f32) shapeCasts_S64x4096_S64x4096 : FVec Ideal S64x4096 .bf16) x
    = rowCode (fun k => X (ix2 ((pieceS (F := Ideal) t X rr).1.emb x 0) k)) ((pieceS (F := Ideal) t X rr).1.emb x 1) :=
  piece_rows (e := .bf16) (fun R l => rowCode (fun k => X (ix2 R k)) l) rr _ (fun r l => by
    rw [shapeCast_id]
    exact codes_chunk t X hX rr r l) x
theorem pieceZ_apply (rr : Fin 8) (x : S64x1.Idx) : scales (chunk (F := Ideal) t X rr) x
    = rowScale (fun k => X (ix2 ((pieceZ (F := Ideal) t X rr).1.emb x 0) k)) :=
  piece_col (e := .f32) (fun R => rowScale (fun k => X (ix2 R k))) rr _ (fun r z => scales_chunk t X hX rr r z) x
theorem canonC (L : List (View.Piece (Elt Ideal) S512x4096 .i8)) (hL : L = eight (pieceC t X)) (hcov : ∀ y, ∃ p ∈ L, y ∈ p.1.set) (R : Fin 512) (l : Fin 4096) :
    View.canon L (ix2 R l) = rowByte (fun k => X (ix2 R k)) l := by
  refine View.canon_apply_of_pieces (Val := Elt Ideal) (S := S512x4096) (e := .i8) (fun i => rowByte (fun k => X (ix2 (i 0) k)) (i 1)) L ?_ _ (hcov _)
  subst hL
  intro p hp x
  obtain ⟨rr, rfl⟩ := mem_eight hp
  exact pieceC_apply t X hX rr x
theorem canonS (L : List (View.Piece (Elt Ideal) S512x4096 .bf16)) (hL : L = eight (pieceS t X)) (hcov : ∀ y, ∃ p ∈ L, y ∈ p.1.set) (R : Fin 512) (l : Fin 4096) :
    View.canon L (ix2 R l) = rowCode (fun k => X (ix2 R k)) l := by
  refine View.canon_apply_of_pieces (Val := Elt Ideal) (S := S512x4096) (e := .bf16) (fun i => rowCode (fun k => X (ix2 (i 0) k)) (i 1)) L ?_ _ (hcov _)
  subst hL
  intro p hp x
  obtain ⟨rr, rfl⟩ := mem_eight hp
  exact pieceS_apply t X hX rr x
theorem canonZ (L : List (View.Piece (Elt Ideal) S512x1 .f32)) (hL : L = eight (pieceZ t X)) (hcov : ∀ y, ∃ p ∈ L, y ∈ p.1.set) (R : Fin 512) (z : Fin 1) :
    View.canon L (ix2 R z) = rowScale (fun k => X (ix2 R k)) := by
  refine View.canon_apply_of_pieces (Val := Elt Ideal) (S := S512x1) (e := .f32) (fun i => rowScale (fun k => X (ix2 (i 0) k))) L ?_ _ (hcov _)
  subst hL
  intro p hp x
  obtain ⟨rr, rfl⟩ := mem_eight hp
  have e := pieceZ_apply t X hX rr x
  generalize hs : scales (chunk (F := Ideal) t X rr) = v at e
  unfold pieceZ at e ⊢
  rw [hs]
  exact e
omit hX

/-- A point's blocks of the four arguments. -/
def blk0 (c : Dev nD) (t : Fin cfg0.N) : Vec Ideal S512x4096 .f32 := iblk m c 0 t
def blk1 (c : Dev nD) (t : Fin cfg0.N) : Vec Ideal S512x1024 .bf16 := iblk m c 1 t
def blk2 (c : Dev nD) (t : Fin cfg0.N) : Vec Ideal S2048x1024 .i8 := iblk m c 2 t
def blk3 (c : Dev nD) (t : Fin cfg0.N) : Vec Ideal S1x1024 .f32 := iblk m c 3 t

variable (c : Dev nD) (h : t.val % 4 = 0)
theorem outA5_canon : outA5 m c t h = View.canon (pointA m c t h).2.1 := View.read_writes_eq_canon VO0_5 _ _ (coverA5 m c t h)
theorem outA6_canon : outA6 m c t h = View.canon (pointA m c t h).2.2.1 := View.read_writes_eq_canon VO0_6 _ _ (coverA6 m c t h)
theorem outAS_canon : outAS m c t h = View.canon (pointA m c t h).2.2.2.1 := View.read_writes_eq_canon VS0_0 _ _ (coverAS m c t h)

variable (hB : ∀ i, ∃ x : ℝ, blk0 m c t i = (x : EReal))
include hB
/-- The codes the first point stores, as bytes. -/
theorem outA5_apply (R : Fin 512) (l : Fin 4096) :
    outA5 m c t h (ix2 R l) = rowByte (fun k => blk0 m c t (ix2 R k)) l := by
  rw [outA5_canon]
  exact canonC t (blk0 m c t) hB (pointA m c t h).2.1 (pieces5 m c t h) (coverA5 m c t h) R l
/-- The codes the first point stores in the scratch. -/
theorem outAS_apply (R : Fin 512) (l : Fin 4096) :
    outAS m c t h (ix2 R l) = rowCode (fun k => blk0 m c t (ix2 R k)) l := by
  rw [outAS_canon]
  exact canonS t (blk0 m c t) hB (pointA m c t h).2.2.2.1 (piecesS m c t h) (coverAS m c t h) R l
/-- The scales the first point stores. -/
theorem outA6_apply (R : Fin 512) (z : Fin 1) :
    outA6 m c t h (ix2 R z) = rowScale (fun k => blk0 m c t (ix2 R k)) := by
  rw [outA6_canon]
  exact canonZ t (blk0 m c t) hB (pointA m c t h).2.2.1 (pieces6 m c t h) (coverA6 m c t h) R z

end

end Cert.OprojIdeal.Run
end
end
-- ==== Proof.Oproj.Ref.lean ====
/- The reference of the output projection computes the row functions of `Spec`. -/
module

public import proofs.«01_k».proof.Proof.Gen.RefOIdeal.Read
public import proofs.«01_k».proof.Proof.Oproj.Spec

@[expose] public section

set_option maxRecDepth 16384

noncomputable section

namespace Cert.RefOIdeal.Rows

open Idealize.ShloMosaic Idealize.ShloMosaic.TcCoe Idealize.ShloMosaic.Tactic
open Cert.RefOIdeal Cert.RefOIdeal.Gen Cert.RefOIdeal.Read Cert.Quant Cert.OprojSpec

variable (x0 : Vec Ideal S6144x4096 .f32) (x1 : Vec Ideal S6144x4096 .bf16) (x2 : Vec Ideal S2048x4096 .i8) (x3 : Vec Ideal S1x4096 .f32)

/-- The sign matrix. -/
theorem v13_eq (g h : Fin 32) : val_main_v13 (F := Ideal) (ix2 g h) = ((had g h : ℝ) : EReal) := by
  pointwise [val_main_v13, val_main_v12, val_main_v11,val_main_v10, val_main_v9,val_main_v8, val_main_v7,val_main_v6, val_main_v5,val_main_v4, val_main_v3, val_main_v2, val_main_v1, val_main_v0, val_main_c, val_main_c_0, val_main_c_1]
  rfl
/-- The rotated rows. -/
theorem v19_eq (r : Fin 6144) (l : Fin 4096) : val_main_v19 (F := Ideal) x0 (ix2 r l) = rot (fun k => x0 (ix2 r k)) l := by
  pointwise [val_main_v19, val_main_v18, val_main_v17, val_main_v16, val_main_v15, val_main_v14, val_main_cst]
  simp only [v13_eq]
  rfl
/-- The largest magnitudes. -/
theorem v21_eq (r : Fin 6144) : val_main_v21 (F := Ideal) x0 (ix1 r) = amax (rot fun k => x0 (ix2 r k)) := by
  pointwise [val_main_v21, val_main_cst_2, val_main_v20]
  simp only [v19_eq]
  rfl
/-- The scales. -/
theorem v29_eq (r : Fin 6144) : val_main_v29 (F := Ideal) x0 (ix1 r) = rowScale fun k => x0 (ix2 r k) := by
  rw [val_main_v29_apply, val_main_v23_apply, val_main_v24_apply, val_main_v28_apply, val_main_v27_apply, val_main_v26_apply, val_main_v25_apply, val_main_v22_apply, val_main_cst_3_apply, val_main_cst_4_apply, val_main_cst_5_apply, val_main_cst_6_apply, v21_eq]
  unfold rowScale
  generalize amax (rot fun k => x0 (ix2 r k)) = a
  exact select_scale a
/-- The codes. -/
theorem v39_eq (r : Fin 6144) (l : Fin 4096) : val_main_v39 (F := Ideal) x0 (ix2 r l) = rowByte (fun k => x0 (ix2 r k)) l := by
  rw [val_main_v39_apply, val_main_v38_apply, val_main_v37_apply, val_main_v36_apply, val_main_v35_apply, val_main_v34_apply, val_main_v33_apply, val_main_v32_apply, val_main_v31_apply, val_main_v30_apply, val_main_cst_7_apply, val_main_cst_8_apply]
  rw [show idx_main_v30 (idx_main_v31 (ix2 r l)) = ix1 r from funext fun a => match a with | ⟨0, _⟩ => rfl, v19_eq, v29_eq]
  exact host_code _ _
/-- The scales as a column. -/
theorem v75_eq (r : Fin 6144) (z : Fin 1) : val_main_v75 (F := Ideal) x0 (ix2 r z) = rowScale fun k => x0 (ix2 r k) := by
  rw [val_main_v75_apply, show idx_main_v75 (ix2 r z) = ix1 r from funext fun a => match a with | ⟨0, _⟩ => rfl, v29_eq]
theorem v44_eq (r : Fin 6144) (k : Fin 2048) : val_main_v44 (F := Ideal) x0 (ix2 r k) = rowCode (fun k => x0 (ix2 r k)) ⟨2 * k.val, by have := k.isLt; omega⟩ := by
  pointwise [val_main_v44, val_main_v42, val_main_v41, val_main_v40]
  rw [v39_eq]
  exact byte_float _ _
theorem v55_eq (r : Fin 6144) (k : Fin 2048) : val_main_v55 (F := Ideal) x0 (ix2 r k) = rowCode (fun k => x0 (ix2 r k)) ⟨1 + 2 * k.val, by have := k.isLt; omega⟩ := by
  pointwise [val_main_v55, val_main_v42, val_main_v41, val_main_v40]
  rw [v39_eq]
  exact byte_float _ _
theorem v53_eq (k : Fin 2048) (l : Fin 4096) : val_main_v53 (F := Ideal) x2 (ix2 k l) = ((nibLo (x2 (ix2 k l)) : ℝ) : EReal) := by
  pointwise [val_main_v53, val_main_v52, val_main_v51, val_main_v50, val_main_v49, val_main_v48, val_main_v47, val_main_v46, val_main_v45, val_main_v43, val_main_c_9, val_main_c_10, val_main_c_11]
  rw [← lo_select]
  rfl
theorem v64_eq (k : Fin 2048) (l : Fin 4096) : val_main_v64 (F := Ideal) x2 (ix2 k l) = ((nibHi (x2 (ix2 k l)) : ℝ) : EReal) := by
  pointwise [val_main_v64, val_main_v63, val_main_v62, val_main_v61, val_main_v60, val_main_v59, val_main_v58, val_main_v57, val_main_v56, val_main_v43, val_main_c_12, val_main_c_13, val_main_c_14]
  rw [← hi_select]
  rfl
/-- The result. -/
theorem v74_eq (r : Fin 6144) (l : Fin 4096) : val_main_v74 (F := Ideal) x0 x1 x2 x3 (ix2 r l)
    = hid (fun k => x0 (ix2 r k)) (x1 (ix2 r l)) (fun k => x2 (ix2 k l)) (x3 (ix2 0 l)) := by
  rw [val_main_v74_apply, val_main_v73_apply, val_main_v72_apply, val_main_v71_apply, val_main_v70_apply, val_main_v69_apply, val_main_v68_apply, val_main_v67_apply, val_main_v66_apply, val_main_v65_apply, val_main_v54_apply]
  rw [show idx_main_v67 (idx_main_v68 (ix2 r l)) = ix1 r from funext fun a => match a with | ⟨0, _⟩ => rfl, v29_eq]
  rw [show idx_main_v70 (ix2 r l) = ix2 0 l from funext fun a => match a with | ⟨0, _⟩ => rfl | ⟨1, _⟩ => rfl]
  unfold hid
  rw [sum_nib]
  have e (k : Fin 2048) : lidx_main_v54 (ix2 r l) k = ix2 r k := funext fun a => match a with | ⟨0, _⟩ => rfl | ⟨1, _⟩ => rfl
  have e' (k : Fin 2048) : ridx_main_v54 (ix2 r l) k = ix2 k l := funext fun a => match a with | ⟨0, _⟩ => rfl | ⟨1, _⟩ => rfl
  have e2 (k : Fin 2048) : lidx_main_v65 (ix2 r l) k = ix2 r k := funext fun a => match a with | ⟨0, _⟩ => rfl | ⟨1, _⟩ => rfl
  have e2' (k : Fin 2048) : ridx_main_v65 (ix2 r l) k = ix2 k l := funext fun a => match a with | ⟨0, _⟩ => rfl | ⟨1, _⟩ => rfl
  simp only [e, e', e2, e2', v44_eq, v55_eq, v53_eq, v64_eq]
  rfl

end Cert.RefOIdeal.Rows
end
end
-- ==== Proof.Oproj.Value.lean ====
/- The kernel call OprojIdeal over the extended reals: its three result arrays as functions of its arguments, and that
   they are the reference's. -/
module

public import proofs.«01_k».proof.Proof.Oproj.Block
public import proofs.«01_k».proof.Proof.Oproj.Ref
public import proofs.«01_k».proof.Defs
public import proofs.«01_k».proof.Proof.Gen.Pre_finite_attn
public import proofs.«01_k».proof.Proof.Gen.RefOIdeal.Run
public import Idealize.ShloMosaic.Lib.Quiescent

@[expose] public section

set_option maxRecDepth 16384

noncomputable section

namespace Cert.OprojIdeal.Run

open Idealize.ShloMosaic Idealize.ShloMosaic.TcCoe Idealize.ShloMosaic.Tactic Idealize.SL.Sem
open Cert.OprojIdeal Cert.OprojIdeal.Gen Cert.Quant Cert.OprojSpec

/-! ## The windows' places -/

theorem ind0 : ∀ t : Fin cfg0.N, win0_0.index t = ![t.val / 4, 0] := (by decide +kernel : ∀ t : Fin grid0.N, win0_0.index t = ![t.val / 4, 0])
theorem ind1 : ∀ t : Fin cfg0.N, win0_1.index t = ![t.val / 4, t.val % 4] := (by decide +kernel : ∀ t : Fin grid0.N, win0_1.index t = ![t.val / 4, t.val % 4])
theorem ind2 : ∀ t : Fin cfg0.N, win0_2.index t = ![0, t.val % 4] := (by decide +kernel : ∀ t : Fin grid0.N, win0_2.index t = ![0, t.val % 4])
theorem ind3 : ∀ t : Fin cfg0.N, win0_3.index t = ![0, t.val % 4] := (by decide +kernel : ∀ t : Fin grid0.N, win0_3.index t = ![0, t.val % 4])
theorem ind4 : ∀ t : Fin cfg0.N, win0_4.index t = ![t.val / 4, t.val % 4] := (by decide +kernel : ∀ t : Fin grid0.N, win0_4.index t = ![t.val / 4, t.val % 4])
theorem ind5 : ∀ t : Fin cfg0.N, win0_5.index t = ![t.val / 4, 0] := (by decide +kernel : ∀ t : Fin grid0.N, win0_5.index t = ![t.val / 4, 0])
theorem ind6 : ∀ t : Fin cfg0.N, win0_6.index t = ![t.val / 4, 0] := (by decide +kernel : ∀ t : Fin grid0.N, win0_6.index t = ![t.val / 4, 0])

/-- The array row of row `R` of a point's row block, and the array column of column `l` of its column block. -/
def rowOf (t : Fin cfg0.N) (R : Fin 512) : Fin 6144 := ⟨t.val / 4 * 512 + R.val, by have h : t.val < 48 := lt_of_lt_of_eq t.isLt N_0; have := R.isLt; omega⟩
def colOf (t : Fin cfg0.N) (l : Fin 1024) : Fin 4096 := ⟨t.val % 4 * 1024 + l.val, by have := l.isLt; omega⟩
theorem rowOf_at (t : Fin cfg0.N) (R : Fin 512) : rowOf (at_ 0 (by decide) t) R = rowOf t R := by
  apply Fin.ext
  show (t.val / 4 * 4 + 0) / 4 * 512 + R.val = t.val / 4 * 512 + R.val
  omega

variable (m : (ℓ : Loc nD τ sig) → Buf (Elt Ideal) ℓ)

/-- The four arguments of core `c`. -/
abbrev in0 (c : Dev nD) : Vec Ideal S6144x4096 .f32 := m ((c.tc : Thread nD τ).loc main_arg0)
abbrev in1 (c : Dev nD) : Vec Ideal S6144x4096 .bf16 := m ((c.tc : Thread nD τ).loc main_arg1)
abbrev in2 (c : Dev nD) : Vec Ideal S2048x4096 .i8 := m ((c.tc : Thread nD τ).loc main_arg2)
abbrev in3 (c : Dev nD) : Vec Ideal S1x4096 .f32 := m ((c.tc : Thread nD τ).loc main_arg3)

theorem blk0_apply (c : Dev nD) (t : Fin cfg0.N) (R : Fin 512) (k : Fin 4096) : blk0 m c t (ix2 R k) = in0 m c (ix2 (rowOf t R) k) := by
  unfold blk0 rowOf
  blk_ext [iblk, V, ind0]
theorem blk1_apply (c : Dev nD) (t : Fin cfg0.N) (R : Fin 512) (l : Fin 1024) : blk1 m c t (ix2 R l) = in1 m c (ix2 (rowOf t R) (colOf t l)) := by
  unfold blk1 rowOf colOf
  blk_ext [iblk, V, ind1]
theorem blk2_apply (c : Dev nD) (t : Fin cfg0.N) (k : Fin 2048) (l : Fin 1024) : blk2 m c t (ix2 k l) = in2 m c (ix2 k (colOf t l)) := by
  unfold blk2 colOf
  blk_ext [iblk, V, ind2]
theorem blk3_apply (c : Dev nD) (t : Fin cfg0.N) (l : Fin 1024) : blk3 m c t (ix2 0 l) = in3 m c (ix2 0 (colOf t l)) := by
  unfold blk3 colOf
  blk_ext [iblk, V, ind3]

/-! ## The result arrays -/

/-- The hidden rows, the codes and the scales, each as a function of the arguments. -/
def out4 (c : Dev nD) : Vec Ideal S6144x4096 .bf16 := fun i => hid (fun k => in0 m c (ix2 (i 0) k)) (in1 m c i) (fun k => in2 m c (ix2 k (i 1))) (in3 m c (ix2 0 (i 1)))
def out5 (c : Dev nD) : Vec Ideal S6144x4096 .i8 := fun i => rowByte (fun k => in0 m c (ix2 (i 0) k)) (i 1)
def out6 (c : Dev nD) : Vec Ideal S6144x1 .f32 := fun i => rowScale (fun k => in0 m c (ix2 (i 0) k))

/-- The product's value at a row and a column. -/
theorem product_apply (x : Vec Ideal S512x4096 .bf16) (w : Vec Ideal S2048x1024 .i8) (s : Vec Ideal S512x1 .f32) (ws : Vec Ideal S1x1024 .f32) (y : Vec Ideal S512x1024 .bf16)
    (R : Fin 512) (l : Fin 1024) :
    k0_pay1 x w s ws y (ix2 R l)
      = (y (ix2 R l) : EReal) + (∑ k : Fin (2 * 2048), (x (ix2 R k) : EReal) * ((nib (fun k => w (ix2 k l)) k : ℝ) : EReal)) * (s (ix2 R 0) : EReal) * (ws (ix2 0 l) : EReal) := by
  pointwise [k0_pay1]
  refine congrArg₂ (· + ·) rfl (congrArg₂ (· * ·) (congrArg₂ (· * ·) (Finset.sum_congr rfl fun k _ => congrArg₂ (· * ·) rfl ?_) rfl) rfl)
  unfold nib
  by_cases h : k.val % 2 < 1
  · rw [dif_pos h, if_pos h, ← lo_shift]
    rfl
  · rw [dif_neg h, if_neg h, ← hi_shift]
    rfl

variable (hfin : ∀ (c : Dev nD) i, ∃ x : ℝ, in0 m c i = (x : EReal))
include hfin
theorem blk0_fin (c : Dev nD) (t : Fin cfg0.N) (i : S512x4096.Idx) : ∃ x : ℝ, blk0 m c t i = (x : EReal) := by
  obtain ⟨r, l, rfl⟩ : ∃ (r : Fin 512) (l : Fin 4096), i = ix2 r l := by
    idx_vars i
    exact ⟨_, _, rfl⟩
  rw [blk0_apply]
  exact hfin c _
theorem kept5_apply (c : Dev nD) (t : Fin cfg0.N) (R : Fin 512) (l : Fin 4096) :
    kept5 m c t (ix2 R l) = rowByte (fun k => in0 m c (ix2 (rowOf t R) k)) l := by
  unfold kept5
  rw [outA5_apply m _ c _ (blk0_fin m hfin c _)]
  simp only [blk0_apply, rowOf_at]
theorem kept6_apply (c : Dev nD) (t : Fin cfg0.N) (R : Fin 512) (z : Fin 1) :
    kept6 m c t (ix2 R z) = rowScale (fun k => in0 m c (ix2 (rowOf t R) k)) := by
  unfold kept6
  rw [outA6_apply m _ c _ (blk0_fin m hfin c _)]
  simp only [blk0_apply, rowOf_at]
theorem keptS_apply (c : Dev nD) (t : Fin cfg0.N) (R : Fin 512) (l : Fin 4096) :
    keptS m c t (ix2 R l) = rowCode (fun k => in0 m c (ix2 (rowOf t R) k)) l := by
  unfold keptS
  rw [outAS_apply m _ c _ (blk0_fin m hfin c _)]
  simp only [blk0_apply, rowOf_at]
/-- What a point leaves in the result's window. -/
theorem after4_apply (c : Dev nD) (t : Fin cfg0.N) (R : Fin 512) (l : Fin 1024) :
    k0_pay1 (keptS m c t) (blk2 m c t) (kept6 m c t) (blk3 m c t) (blk1 m c t) (ix2 R l) = out4 m c (ix2 (rowOf t R) (colOf t l)) := by
  rw [product_apply, blk1_apply, blk3_apply, kept6_apply m hfin]
  simp only [blk2_apply, keptS_apply m hfin]
  rfl
theorem final4 (c : Dev nD) : (dats m 0 c).arrAt 4 cfg0.N = out4 m c := by
  refine (dats m 0 c).arrAt_eq_of_covers 4 _ (by decide +kernel) fun t hf y => ?_
  blk_simp
  rw [after4]
  revert y
  suffices H : ∀ y : S512x1024.Idx, k0_pay1 (keptS m c t) (blk2 m c t) (kept6 m c t) (blk3 m c t) (blk1 m c t) y = out4 m c ((win0_4.blk t).view.emb y) from H
  intro y
  obtain ⟨r, l, rfl⟩ : ∃ (r : Fin 512) (l : Fin 1024), y = ix2 r l := by
    idx_vars y
    exact ⟨_, _, rfl⟩
  rw [after4_apply m hfin]
  unfold rowOf colOf
  blk_ext [ind4]
theorem final5 (c : Dev nD) : (dats m 0 c).arrAt 5 cfg0.N = out5 m c := by
  refine (dats m 0 c).arrAt_eq_of_covers 5 _ (by decide +kernel) fun t hf y => ?_
  blk_simp
  rw [after_5]
  revert y
  suffices H : ∀ y : S512x4096.Idx, kept5 m c t y = out5 m c ((win0_5.blk t).view.emb y) from H
  intro y
  obtain ⟨r, l, rfl⟩ : ∃ (r : Fin 512) (l : Fin 4096), y = ix2 r l := by
    idx_vars y
    exact ⟨_, _, rfl⟩
  rw [kept5_apply m hfin]
  refine (show _ = out5 m c (ix2 (rowOf t r) l) from rfl).trans ?_
  unfold rowOf
  blk_ext [ind5]
theorem final6 (c : Dev nD) : (dats m 0 c).arrAt 6 cfg0.N = out6 m c := by
  refine (dats m 0 c).arrAt_eq_of_covers 6 _ (by decide +kernel) fun t hf y => ?_
  blk_simp
  rw [after_6]
  revert y
  suffices H : ∀ y : S512x1.Idx, kept6 m c t y = out6 m c ((win0_6.blk t).view.emb y) from H
  intro y
  obtain ⟨r, l, rfl⟩ : ∃ (r : Fin 512) (l : Fin 1), y = ix2 r l := by
    idx_vars y
    exact ⟨_, _, rfl⟩
  rw [kept6_apply m hfin]
  refine (show _ = out6 m c (ix2 (rowOf t r) l) from rfl).trans ?_
  unfold rowOf
  blk_ext [ind6]
omit hfin

end Cert.OprojIdeal.Run

namespace Cert.Proof

open Idealize.ShloMosaic Idealize.SL.Sem Cert.OprojIdeal.Run Cert.Quant

/-- The precondition says that the attention output is finite. -/
theorem finite_attn_apply (m : (ℓ : Loc Cert.OprojIdeal.nD Cert.OprojIdeal.τ Cert.OprojIdeal.sig) → Buf (Elt Ideal) ℓ)
    (h : Cert.Pre_OprojIdeal_finite_attn (hPre_finite_attn := Cert.Pre_finite_attn.Gen.facts) m) (c : Dev Cert.OprojIdeal.nD) (i) : ∃ x : ℝ, in0 m c i = (x : EReal) := by
  exact real_of_abs_lt _ (congrFun (h c) i)

theorem oproj_algebraic : Cert.algebraic_OprojIdeal_RefOIdeal_pre_finite_attn (hOprojIdeal := Cert.OprojIdeal.Gen.facts) (hRefOIdeal := Cert.RefOIdeal.Gen.facts) (hPre_finite_attn := Cert.Pre_finite_attn.Gen.facts) := by
  intro m g m' g' hpre hagree
  have hfin := finite_attn_apply m hpre
  refine ⟨out4 m, out5 m, out6 m, ?_, ?_⟩
  · exact (θ_run Cert.OprojIdeal.defs _ _).mono (fun r h c => ⟨((h c).1 4).trans (final4 m hfin c), ((h c).1 5).trans (final5 m hfin c), ((h c).1 6).trans (final6 m hfin c),
      ((h c).1 0).trans (((dats m 0 c).arrAt_in 0 rfl _).trans ((A_eq m c 0).trans (Cert.OprojIdeal.Gen.V_main_arg0 m c))),
      ((h c).1 1).trans (((dats m 0 c).arrAt_in 1 rfl _).trans ((A_eq m c 1).trans (Cert.OprojIdeal.Gen.V_main_arg1 m c))),
      ((h c).1 2).trans (((dats m 0 c).arrAt_in 2 rfl _).trans ((A_eq m c 2).trans (Cert.OprojIdeal.Gen.V_main_arg2 m c))),
      ((h c).1 3).trans (((dats m 0 c).arrAt_in 3 rfl _).trans ((A_eq m c 3).trans (Cert.OprojIdeal.Gen.V_main_arg3 m c)))⟩) (run_main m g)
  · refine (θ_run Cert.RefOIdeal.defs _ _).mono (fun r h c => ?_) (Cert.RefOIdeal.Value.run (F := Ideal) m' g')
    obtain ⟨h0, h1, h2, ha⟩ := h c
    obtain ⟨g0, g1, g2, g3⟩ := hagree c
    refine ⟨h0.trans ((Cert.RefOIdeal.Read.val_main_v74_eq m' c).trans ?_), h1.trans ((Cert.RefOIdeal.Read.val_main_v39_eq _).trans ?_), h2.trans ((Cert.RefOIdeal.Read.val_main_v75_eq _).trans ?_), ha⟩
    · rw [g0, g1, g2, g3]
      funext i
      obtain ⟨r, l, rfl⟩ : ∃ (r : Fin 6144) (l : Fin 4096), i = ix2 r l := by
        idx_vars i
        exact ⟨_, _, rfl⟩
      exact Cert.RefOIdeal.Rows.v74_eq _ _ _ _ r l
    · rw [g0]
      funext i
      obtain ⟨r, l, rfl⟩ : ∃ (r : Fin 6144) (l : Fin 4096), i = ix2 r l := by
        idx_vars i
        exact ⟨_, _, rfl⟩
      exact Cert.RefOIdeal.Rows.v39_eq _ r l
    · rw [g0]
      funext i
      obtain ⟨r, l, rfl⟩ : ∃ (r : Fin 6144) (l : Fin 1), i = ix2 r l := by
        idx_vars i
        exact ⟨_, _, rfl⟩
      exact Cert.RefOIdeal.Rows.v75_eq _ r l

end Cert.Proof
end
end
-- ==== Proof.Qkv.Tile.lean ====
/- The kernel call QkvIdeal: what its points store, as one formula for the eight heads of a tile of columns. -/
module

public import proofs.«01_k».proof.Proof.Qkv.Frame
public import Idealize.ShloMosaic.Lib.Pipeline.Value
public import Idealize.ShloMosaic.Lib.Pipeline.ValueKit.Geometry

@[expose] public section

set_option maxRecDepth 16384

noncomputable section

namespace Cert.QkvIdeal.Run

open Idealize.ShloMosaic Idealize.ShloMosaic.TcCoe Idealize.ShloMosaic.Tactic
open Cert.QkvIdeal Cert.QkvIdeal.Gen

variable {F : FTy → Type} [FloatOps F]
variable (m : (ℓ : Loc nD τ sig) → Buf (Elt F) ℓ)

/-! ## The formulas -/

theorem slices_head (h : Fin 8) : S512x1024.Slices ![0, 128 * h.val] S512x128 := by revert h; decide
/-- Head `h` of a tile of columns. -/
def headOf (A : FVec F S512x1024 .f32) (h : Fin 8) : FVec F S512x128 .f32 :=
  extractStridedSlice S512x128 ![0, 128 * h.val] A (slices_head h)
/-- A head rotated by position. -/
def turned (v : FVec F S512x128 .f32) (cos sin : FVec F S512x64 .f32) : FVec F S512x128 .f32 :=
  addf (mulf v (concatenate S512x128 1 [⟨S512x64, cos⟩, ⟨S512x64, cos⟩] concatenates_S512x64_S512x64_S512x128_d1))
    (mulf (dynamicRotate 1 64#32 none v rotates_S512x128_d1)
      (concatenate S512x128 1 [⟨S512x64, subf (broadcast S512x64 (Scalar.ofBits .f32 0x00000000#32)) sin⟩, ⟨S512x64, sin⟩] concatenates_S512x64_S512x64_S512x128_d1))
/-- The product with the signs of the Hadamard transform. -/
def signs (x : FVec F S512x128 .bf16) (H : FVec F S128x128 .bf16) : FVec F S512x128 .f32 :=
  matmul dot_S512x128_S128x128_S512x128_1_0_0_1_n_n none x H (constant S512x128 .f32 0x00000000#32)
/-- What is left of a number after its first and second parts. -/
def rest (t : FVec F S512x128 .f32) : FVec F S512x128 .f32 := subf t (extf .f32 (truncf .bf16 t bitsLt_bf16_f32) bitsLt_bf16_f32)
/-- The Hadamard transform of a head, the head in three parts. -/
def spun (t : FVec F S512x128 .f32) (H : FVec F S128x128 .bf16) : FVec F S512x128 .f32 :=
  mulf (addf (addf (signs (truncf .bf16 (rest (rest t)) bitsLt_bf16_f32) H) (signs (truncf .bf16 (rest t) bitsLt_bf16_f32) H)) (signs (truncf .bf16 t bitsLt_bf16_f32) H))
    (broadcast S512x128 (Scalar.ofBits .f32 0x3DB504F3#32))
/-- Head `h` rotated and transformed. -/
def spunOf (A : FVec F S512x1024 .f32) (cos sin : FVec F S512x64 .f32) (H : FVec F S128x128 .bf16) (h : Fin 8) : FVec F S512x128 .f32 :=
  spun (turned (headOf A h) cos sin) H
/-- The zero points of a head. -/
def zeros (t : FVec F S512x128 .f32) : FVec F S512x1 .f32 :=
  mulf (broadcast S512x1 (Scalar.ofBits .f32 0x3F733333#32)) (shapeCast S512x1 (multiReduction .minimumf [1] S512 t 0x7F800000#32 reduces_S512x128_S512 (.inl rfl) rfl) shapeCasts_S512_S512x1)
/-- The tops of a head. -/
def tops (t : FVec F S512x128 .f32) : FVec F S512x1 .f32 :=
  mulf (broadcast S512x1 (Scalar.ofBits .f32 0x3F733333#32)) (shapeCast S512x1 (multiReduction .maximumf [1] S512 t 0xFF800000#32 reduces_S512x128_S512 (.inl rfl) rfl) shapeCasts_S512_S512x1)
/-- The steps of a head. -/
def steps (t : FVec F S512x128 .f32) : FVec F S512x1 .f32 :=
  select (cmpf .oeq (tops t) (zeros t)) (broadcast S512x1 (Scalar.ofBits .f32 0x3F800000#32)) (divf (subf (tops t) (zeros t)) (broadcast S512x1 (Scalar.ofBits .f32 0x41700000#32)))
/-- The codes of a head. -/
def kvCodes (t : FVec F S512x128 .f32) : FVec F S512x128 .bf16 :=
  truncf .bf16 (minimumf (broadcast S512x128 (Scalar.sitofp .f32 15#32)) (maximumf (broadcast S512x128 (Scalar.sitofp .f32 0#32))
    (roundeven (divf (subf t (broadcastTo S512x128 (zeros t) broadcasts_S512x1_S512x128)) (broadcastTo S512x128 (steps t) broadcasts_S512x1_S512x128))))) bitsLt_bf16_f32
/-- The product that puts two codes in a byte. -/
def pairs (x : FVec F S512x128 .bf16) (P : FVec F S128x64 .bf16) : FVec F S512x64 .f32 :=
  matmul dot_S512x128_S128x64_S512x64_1_0_0_1_n_n none x P (constant S512x64 .f32 0x00000000#32)
/-- The packed codes of a head. -/
def packed (t : FVec F S512x128 .f32) (P : FVec F S128x64 .bf16) : IVec S512x64 8 :=
  trunci 8 (fptosi 32 (pairs (kvCodes t) P)) natLt_8_32
/-- A column put in lane `h`. -/
def lane (h : Fin 8) (x : FVec F S512x1 .f32) (prev : FVec F S512x8 .f32) : FVec F S512x8 .f32 :=
  select (cmpi .eq (iota .tc S512x8 32 [1] iota_S512x8_d1_w32) (broadcast S512x8 (BitVec.ofNat 32 h.val)))
    (broadcastTo S512x8 (shapeCast S512x1 x shapeCasts_S512x1_S512x1) broadcasts_S512x1_S512x8) prev
/-- Eight columns side by side. -/
def lanes (f : Fin 8 → FVec F S512x1 .f32) : FVec F S512x8 .f32 :=
  lane 7 (f 7) (lane 6 (f 6) (lane 5 (f 5) (lane 4 (f 4) (lane 3 (f 3) (lane 2 (f 2) (lane 1 (f 1) (lane 0 (f 0) (broadcast S512x8 (Scalar.ofBits .f32 0x00000000#32)))))))))

/-! ## The stores -/

theorem inb_head (h : Fin 8) : ∀ a, (![0, 128 * h.val] : Fin 2 → Nat) a + S512x128.size a ≤ S512x1024.size a := by
  intro a
  have hh := h.isLt
  match a with
  | ⟨0, _⟩ => show 0 + 512 ≤ 512; omega
  | ⟨1, _⟩ => show 128 * h.val + 128 ≤ 1024; omega
theorem inb_half (h : Fin 8) : ∀ a, (![0, 64 * h.val] : Fin 2 → Nat) a + S512x64.size a ≤ S512x512.size a := by
  intro a
  have hh := h.isLt
  match a with
  | ⟨0, _⟩ => show 0 + 512 ≤ 512; omega
  | ⟨1, _⟩ => show 64 * h.val + 64 ≤ 512; omega
/-- The store of one head of a tile. -/
def pieceH (f : Fin 8 → FVec F S512x128 .bf16) (h : Fin 8) : View.Piece (Elt F) S512x1024 .bf16 :=
  ⟨Rect.unit (s := S512x1024) ![0, 128 * h.val] S512x128.size (inb_head h), f h⟩
/-- The store of one head's packed codes. -/
def pieceP (f : Fin 8 → IVec S512x64 8) (h : Fin 8) : View.Piece (Elt F) S512x512 .i8 :=
  ⟨Rect.unit (s := S512x512) ![0, 64 * h.val] S512x64.size (inb_half h), f h⟩
/-- The store of a whole block of eight columns. -/
def piece8 (x : FVec F S512x8 .f32) : View.Piece (Elt F) S512x8 .f32 :=
  ⟨Rect.unit (s := S512x8) ![0, 0] S512x8.size inb_S512x8_S512x8_0_0, x⟩
/-- The eight heads, the last first. -/
def eight {α : Type} (f : Fin 8 → α) : List α := [f 7, f 6, f 5, f 4, f 3, f 2, f 1, f 0]

/-! ## What the points read -/

def rd0 (t : Fin cfg0.N) (X : Vec F S512x4096 .bf16) : Vec F S512x4096 .bf16 :=
  View.readAt (Elt F) (ms0_0 t).view (Rect.unit (s := S512x4096) ![0, 0] S512x4096.size inb_S512x4096_S512x4096_0_0).toLoadRect ((hs0_0 t).unread X)
def rd1 (t : Fin cfg0.N) (X : Vec F S2048x1024 .i8) : Vec F S2048x1024 .i8 :=
  View.readAt (Elt F) (ms0_1 t).view (Rect.unit (s := S2048x1024) ![0, 0] S2048x1024.size inb_S2048x1024_S2048x1024_0_0).toLoadRect ((hs0_1 t).unread X)
def rd2 (t : Fin cfg0.N) (X : Vec F S1x1024 .f32) : Vec F S1x1024 .f32 :=
  View.readAt (Elt F) (ms0_2 t).view (Rect.unit (s := S1x1024) ![0, 0] S1x1024.size inb_S1x1024_S1x1024_0_0).toLoadRect ((hs0_2 t).unread X)
def rd3 (t : Fin cfg0.N) (X : Vec F S512x64 .f32) : Vec F S512x64 .f32 :=
  View.readAt (Elt F) (ms0_3 t).view (Rect.unit (s := S512x64) ![0, 0] S512x64.size inb_S512x64_S512x64_0_0).toLoadRect ((hs0_3 t).unread X)
def rd4 (t : Fin cfg0.N) (X : Vec F S512x64 .f32) : Vec F S512x64 .f32 :=
  View.readAt (Elt F) (ms0_4 t).view (Rect.unit (s := S512x64) ![0, 0] S512x64.size inb_S512x64_S512x64_0_0).toLoadRect ((hs0_4 t).unread X)
def rd5 (t : Fin cfg0.N) (X : Vec F S128x128 .bf16) : Vec F S128x128 .bf16 :=
  View.readAt (Elt F) (ms0_5 t).view (Rect.unit (s := S128x128) ![0, 0] S128x128.size inb_S128x128_S128x128_0_0).toLoadRect ((hs0_5 t).unread X)
def rd6 (t : Fin cfg0.N) (X : Vec F S128x64 .bf16) : Vec F S128x64 .bf16 :=
  View.readAt (Elt F) (ms0_6 t).view (Rect.unit (s := S128x64) ![0, 0] S128x64.size inb_S128x64_S128x64_0_0).toLoadRect ((hs0_6 t).unread X)
def rd8 (t : Fin cfg0.N) (X : Vec F S512x1 .f32) : Vec F S512x1 .f32 :=
  View.readAt (Elt F) (ms0_8 t).view (Rect.unit (s := S512x1) ![0, 0] S512x1.size inb_S512x1_S512x1_0_0).toLoadRect ((hs0_8 t).unread X)
def rdS (X : Vec F S512x4096 .bf16) : Vec F S512x4096 .bf16 :=
  View.readAt (Elt F) scM0_0.view (Rect.unit (s := S512x4096) ![0, 0] S512x4096.size inb_S512x4096_S512x4096_0_0).toLoadRect ((Memref.isWhole_whole _ : scM0_0.IsWhole).unread X)

theorem hz : (![0, 0] : Fin 2 → Nat) = fun _ => 0 := funext fun a => by fin_cases a <;> rfl
theorem rd0_eq (t : Fin cfg0.N) (X : Vec F S512x4096 .bf16) : rd0 t X = X := by
  unfold rd0; rw [View.readAt_eq_ld, (hs0_0 t).read_unread, View.ld_unit_zero hz]
theorem rd1_eq (t : Fin cfg0.N) (X : Vec F S2048x1024 .i8) : rd1 t X = X := by
  unfold rd1; rw [View.readAt_eq_ld, (hs0_1 t).read_unread, View.ld_unit_zero hz]
theorem rd2_eq (t : Fin cfg0.N) (X : Vec F S1x1024 .f32) : rd2 t X = X := by
  unfold rd2; rw [View.readAt_eq_ld, (hs0_2 t).read_unread, View.ld_unit_zero hz]
theorem rd3_eq (t : Fin cfg0.N) (X : Vec F S512x64 .f32) : rd3 t X = X := by
  unfold rd3; rw [View.readAt_eq_ld, (hs0_3 t).read_unread, View.ld_unit_zero hz]
theorem rd4_eq (t : Fin cfg0.N) (X : Vec F S512x64 .f32) : rd4 t X = X := by
  unfold rd4; rw [View.readAt_eq_ld, (hs0_4 t).read_unread, View.ld_unit_zero hz]
theorem rd5_eq (t : Fin cfg0.N) (X : Vec F S128x128 .bf16) : rd5 t X = X := by
  unfold rd5; rw [View.readAt_eq_ld, (hs0_5 t).read_unread, View.ld_unit_zero hz]
theorem rd6_eq (t : Fin cfg0.N) (X : Vec F S128x64 .bf16) : rd6 t X = X := by
  unfold rd6; rw [View.readAt_eq_ld, (hs0_6 t).read_unread, View.ld_unit_zero hz]
theorem rd8_eq (t : Fin cfg0.N) (X : Vec F S512x1 .f32) : rd8 t X = X := by
  unfold rd8; rw [View.readAt_eq_ld, (hs0_8 t).read_unread, View.ld_unit_zero hz]
theorem rdS_eq (X : Vec F S512x4096 .bf16) : rdS X = X := by
  unfold rdS; rw [View.readAt_eq_ld, (Memref.isWhole_whole _).read_unread, View.ld_unit_zero hz]

/-- The tile a point makes of the kept codes and scales of its rows. -/
def tile (c : Dev nD) (t : Fin cfg0.N) : FVec F S512x1024 .f32 :=
  k0_pay157 (rdS (keptS m c t)) (rd1 t (iblk m c 1 t)) (rd8 t (kept8 m c t)) (rd2 t (iblk m c 2 t))
/-- Head `h` of the point's tile, rotated and transformed. -/
def tileSpun (c : Dev nD) (t : Fin cfg0.N) (h : Fin 8) : FVec F S512x128 .f32 :=
  spunOf (tile m c t) (rd3 t (iblk m c 3 t)) (rd4 t (iblk m c 4 t)) (rd5 t (iblk m c 5 t)) h

/-! ## The points' stores -/

theorem pieces7A (c : Dev nD) (t : Fin cfg0.N) (h : t.val % 6 = 0) :
    (pointA m c t h).1 = [⟨Rect.unit (s := S512x4096) ![0, 0] S512x4096.size inb_S512x4096_S512x4096_0_0, k0_pay7 (rd0 t (iblk m c 0 t))⟩] := by sl_kernel_rfl
theorem pieces8A (c : Dev nD) (t : Fin cfg0.N) (h : t.val % 6 = 0) :
    (pointA m c t h).2.1 = [⟨Rect.unit (s := S512x1) ![0, 0] S512x1.size inb_S512x1_S512x1_0_0, k0_pay4 (rd0 t (iblk m c 0 t))⟩] := by sl_kernel_rfl
theorem piecesSA (c : Dev nD) (t : Fin cfg0.N) (h : t.val % 6 = 0) :
    (pointA m c t h).2.2.2.1 = [⟨Rect.unit (s := S512x4096) ![0, 0] S512x4096.size inb_S512x4096_S512x4096_0_0, k0_pay6 (rd0 t (iblk m c 0 t))⟩] := by sl_kernel_rfl
theorem pieces9A (c : Dev nD) (t : Fin cfg0.N) (h : t.val % 6 = 0) :
    (pointA m c t h).2.2.1 = eight (pieceH fun g => truncf .bf16 (spunOf
      (k0_pay157 (scM0_0.view.readCov (pointA m c t h).2.2.2.1 (Rect.unit (s := S512x4096) ![0, 0] S512x4096.size inb_S512x4096_S512x4096_0_0).toLoadRect) (rd1 t (iblk m c 1 t))
        ((ms0_8 t).view.readCov (pointA m c t h).2.1 (Rect.unit (s := S512x1) ![0, 0] S512x1.size inb_S512x1_S512x1_0_0).toLoadRect) (rd2 t (iblk m c 2 t)))
      (rd3 t (iblk m c 3 t)) (rd4 t (iblk m c 4 t)) (rd5 t (iblk m c 5 t)) g) bitsLt_bf16_f32) := by sl_kernel_rfl
theorem pieces9B (c : Dev nD) (t : Fin cfg0.N) (h : t.val % 6 ≠ 0 ∧ t.val % 6 ≤ 3) :
    (pointB m c t h).1 = eight (pieceH fun g => truncf .bf16 (tileSpun m c t g) bitsLt_bf16_f32) := by sl_kernel_rfl
theorem pieces10 (c : Dev nD) (t : Fin cfg0.N) (h : t.val % 6 = 4) :
    (pointC m c t h).1 = eight (pieceH fun g => kvCodes (tileSpun m c t g)) := by sl_kernel_rfl
theorem pieces12 (c : Dev nD) (t : Fin cfg0.N) (h : t.val % 6 = 4) :
    (pointC m c t h).2.1 = eight (pieceP fun g => packed (tileSpun m c t g) (rd6 t (iblk m c 6 t))) := by sl_kernel_rfl
theorem pieces14 (c : Dev nD) (t : Fin cfg0.N) (h : t.val % 6 = 4) :
    (pointC m c t h).2.2.1 = [piece8 (lanes fun g => steps (tileSpun m c t g))] := by sl_kernel_rfl
theorem pieces15 (c : Dev nD) (t : Fin cfg0.N) (h : t.val % 6 = 4) :
    (pointC m c t h).2.2.2.1 = [piece8 (lanes fun g => zeros (tileSpun m c t g))] := by sl_kernel_rfl
theorem pieces11 (c : Dev nD) (t : Fin cfg0.N) (h : t.val % 6 = 5) :
    (pointD m c t h).1 = eight (pieceH fun g => kvCodes (headOf (tile m c t) g)) := by sl_kernel_rfl
theorem pieces13 (c : Dev nD) (t : Fin cfg0.N) (h : t.val % 6 = 5) :
    (pointD m c t h).2.1 = eight (pieceP fun g => packed (headOf (tile m c t) g) (rd6 t (iblk m c 6 t))) := by sl_kernel_rfl
theorem pieces16 (c : Dev nD) (t : Fin cfg0.N) (h : t.val % 6 = 5) :
    (pointD m c t h).2.2.1 = [piece8 (lanes fun g => steps (headOf (tile m c t) g))] := by sl_kernel_rfl
theorem pieces17 (c : Dev nD) (t : Fin cfg0.N) (h : t.val % 6 = 5) :
    (pointD m c t h).2.2.2.1 = [piece8 (lanes fun g => zeros (headOf (tile m c t) g))] := by sl_kernel_rfl

end Cert.QkvIdeal.Run
end
end
-- ==== Proof.Qkv.Block.lean ====
/- The kernel call QkvIdeal: what each point leaves in its windows, head by head. -/
module

public import proofs.«01_k».proof.Proof.Qkv.Tile
public import Idealize.ShloMosaic.Lib.Pointwise
public import Idealize.ShloMosaic.Lib.KernelVsHost

@[expose] public section

set_option maxRecDepth 16384

noncomputable section

namespace Cert.QkvIdeal.Run

open Idealize.ShloMosaic Idealize.ShloMosaic.TcCoe Idealize.ShloMosaic.Tactic
open Cert.QkvIdeal Cert.QkvIdeal.Gen

variable {F : FTy → Type} [FloatOps F]

/-! ## Eight stores side by side -/

theorem mem_eight {α : Type} {f : Fin 8 → α} {x : α} (h : x ∈ eight f) : ∃ r, x = f r := by
  simp only [eight, List.mem_cons, List.not_mem_nil, or_false] at h
  rcases h with h | h | h | h | h | h | h | h <;> exact ⟨_, h⟩
/-- The head of a column of a tile, and its column in the head; the same of columns of packed codes. -/
def hof (l : Fin 1024) : Fin 8 := ⟨l.val / 128, by have := l.isLt; omega⟩
def dof (l : Fin 1024) : Fin 128 := ⟨l.val % 128, Nat.mod_lt _ (by decide)⟩
def hofP (l : Fin 512) : Fin 8 := ⟨l.val / 64, by have := l.isLt; omega⟩
def dofP (l : Fin 512) : Fin 64 := ⟨l.val % 64, Nat.mod_lt _ (by decide)⟩
theorem pieceH_apply (f : Fin 8 → FVec F S512x128 .bf16) (h : Fin 8) (x : S512x128.Idx) :
    f h x = f (hof ((Rect.unit (s := S512x1024) ![0, 128 * h.val] S512x128.size (inb_head h)).emb x 1))
      (ix2 ((Rect.unit (s := S512x1024) ![0, 128 * h.val] S512x128.size (inb_head h)).emb x 0) (dof ((Rect.unit (s := S512x1024) ![0, 128 * h.val] S512x128.size (inb_head h)).emb x 1))) := by
  obtain ⟨r, l, rfl⟩ : ∃ (r : Fin 512) (l : Fin 128), x = ix2 r l := by
    idx_vars x
    exact ⟨_, _, rfl⟩
  have hl := l.isLt
  have e0 : (Rect.unit (s := S512x1024) ![0, 128 * h.val] S512x128.size (inb_head h)).emb (ix2 r l) 0 = r :=
    Fin.ext ((Idealize.ShloMosaic.ValueKit.rect_emb_unit_val (s := S512x1024) _ _ (inb_head h) (ix2 r l) 0).trans (Nat.zero_add _))
  have e1 : ((Rect.unit (s := S512x1024) ![0, 128 * h.val] S512x128.size (inb_head h)).emb (ix2 r l) 1).val = 128 * h.val + l.val :=
    Idealize.ShloMosaic.ValueKit.rect_emb_unit_val (s := S512x1024) _ _ (inb_head h) (ix2 r l) 1
  generalize (Rect.unit (s := S512x1024) ![0, 128 * h.val] S512x128.size (inb_head h)).emb (ix2 r l) = y at e0 e1
  have a1 : hof (y 1) = h := Fin.ext (by show (y 1).val / 128 = h.val; omega)
  have a2 : dof (y 1) = l := Fin.ext (by show (y 1).val % 128 = l.val; omega)
  rw [a1, a2, e0]
theorem pieceP_apply (f : Fin 8 → IVec S512x64 8) (h : Fin 8) (x : S512x64.Idx) :
    f h x = f (hofP ((Rect.unit (s := S512x512) ![0, 64 * h.val] S512x64.size (inb_half h)).emb x 1))
      (ix2 ((Rect.unit (s := S512x512) ![0, 64 * h.val] S512x64.size (inb_half h)).emb x 0) (dofP ((Rect.unit (s := S512x512) ![0, 64 * h.val] S512x64.size (inb_half h)).emb x 1))) := by
  obtain ⟨r, l, rfl⟩ : ∃ (r : Fin 512) (l : Fin 64), x = ix2 r l := by
    idx_vars x
    exact ⟨_, _, rfl⟩
  have hl := l.isLt
  have e0 : (Rect.unit (s := S512x512) ![0, 64 * h.val] S512x64.size (inb_half h)).emb (ix2 r l) 0 = r :=
    Fin.ext ((Idealize.ShloMosaic.ValueKit.rect_emb_unit_val (s := S512x512) _ _ (inb_half h) (ix2 r l) 0).trans (Nat.zero_add _))
  have e1 : ((Rect.unit (s := S512x512) ![0, 64 * h.val] S512x64.size (inb_half h)).emb (ix2 r l) 1).val = 64 * h.val + l.val :=
    Idealize.ShloMosaic.ValueKit.rect_emb_unit_val (s := S512x512) _ _ (inb_half h) (ix2 r l) 1
  generalize (Rect.unit (s := S512x512) ![0, 64 * h.val] S512x64.size (inb_half h)).emb (ix2 r l) = y at e0 e1
  have a1 : hofP (y 1) = h := Fin.ext (by show (y 1).val / 64 = h.val; omega)
  have a2 : dofP (y 1) = l := Fin.ext (by show (y 1).val % 64 = l.val; omega)
  rw [a1, a2, e0]
/-- A block written head by head holds, in each column, what its head's store put there. -/
theorem canonH (f : Fin 8 → FVec F S512x128 .bf16) (L : List (View.Piece (Elt F) S512x1024 .bf16)) (hL : L = eight (pieceH f)) (hcov : ∀ y, ∃ p ∈ L, y ∈ p.1.set)
    (R : Fin 512) (l : Fin 1024) : View.canon L (ix2 R l) = f (hof l) (ix2 R (dof l)) := by
  refine View.canon_apply_of_pieces (Val := Elt F) (S := S512x1024) (e := .bf16) (fun i => f (hof (i 1)) (ix2 (i 0) (dof (i 1)))) L ?_ _ (hcov _)
  subst hL
  intro p hp x
  obtain ⟨rr, rfl⟩ := mem_eight hp
  exact pieceH_apply f rr x
theorem canonP (f : Fin 8 → IVec S512x64 8) (L : List (View.Piece (Elt F) S512x512 .i8)) (hL : L = eight (pieceP (F := F) f)) (hcov : ∀ y, ∃ p ∈ L, y ∈ p.1.set)
    (R : Fin 512) (l : Fin 512) : View.canon L (ix2 R l) = f (hofP l) (ix2 R (dofP l)) := by
  refine View.canon_apply_of_pieces (Val := Elt F) (S := S512x512) (e := .i8) (fun i => f (hofP (i 1)) (ix2 (i 0) (dofP (i 1)))) L ?_ _ (hcov _)
  subst hL
  intro p hp x
  obtain ⟨rr, rfl⟩ := mem_eight hp
  exact pieceP_apply f rr x
theorem canon8 (x : FVec F S512x8 .f32) : View.canon (Val := Elt F) [piece8 x] = x := by
  unfold piece8
  rw [View.canon_unit_zero hz]

/-! ## The first point of a row block -/

variable (m : (ℓ : Loc nD τ sig) → Buf (Elt F) ℓ)

theorem whole7 (t : Fin cfg0.N) (X : Vec F S512x4096 .bf16) :
    View.canon (Val := Elt F) [(⟨Rect.unit (s := S512x4096) ![0, 0] S512x4096.size inb_S512x4096_S512x4096_0_0, k0_pay7 (rd0 t X)⟩ : View.Piece (Elt F) S512x4096 .i8)] = k0_pay7 X := by
  rw [View.canon_unit_zero hz, rd0_eq]
theorem whole8 (t : Fin cfg0.N) (X : Vec F S512x4096 .bf16) :
    View.canon (Val := Elt F) [(⟨Rect.unit (s := S512x1) ![0, 0] S512x1.size inb_S512x1_S512x1_0_0, k0_pay4 (rd0 t X)⟩ : View.Piece (Elt F) S512x1 .f32)] = k0_pay4 X := by
  rw [View.canon_unit_zero hz, rd0_eq]
theorem wholeS (t : Fin cfg0.N) (X : Vec F S512x4096 .bf16) :
    View.canon (Val := Elt F) [(⟨Rect.unit (s := S512x4096) ![0, 0] S512x4096.size inb_S512x4096_S512x4096_0_0, k0_pay6 (rd0 t X)⟩ : View.Piece (Elt F) S512x4096 .bf16)] = k0_pay6 X := by
  rw [View.canon_unit_zero hz, rd0_eq]
theorem outA7_canon (c : Dev nD) (t : Fin cfg0.N) (h : t.val % 6 = 0) : outA7 m c t h = View.canon (pointA m c t h).1 := View.read_writes_eq_canon VO0_7 _ _ (coverA7 m c t h)
theorem outA8_canon (c : Dev nD) (t : Fin cfg0.N) (h : t.val % 6 = 0) : outA8 m c t h = View.canon (pointA m c t h).2.1 := View.read_writes_eq_canon VO0_8 _ _ (coverA8 m c t h)
theorem outAS_canon (c : Dev nD) (t : Fin cfg0.N) (h : t.val % 6 = 0) : outAS m c t h = View.canon (pointA m c t h).2.2.2.1 := View.read_writes_eq_canon VS0_0 _ _ (coverAS m c t h)
theorem outA9_canon (c : Dev nD) (t : Fin cfg0.N) (h : t.val % 6 = 0) : outA9 m c t h = View.canon (pointA m c t h).2.2.1 := View.read_writes_eq_canon VO0_9 _ _ (coverA9 m c t h)
theorem outA7_eq (c : Dev nD) (t : Fin cfg0.N) (h : t.val % 6 = 0) : outA7 m c t h = k0_pay7 (iblk m c 0 t) :=
  (outA7_canon m c t h).trans ((congrArg View.canon (pieces7A m c t h)).trans (whole7 t _))
theorem outA8_eq (c : Dev nD) (t : Fin cfg0.N) (h : t.val % 6 = 0) : outA8 m c t h = k0_pay4 (iblk m c 0 t) :=
  (outA8_canon m c t h).trans ((congrArg View.canon (pieces8A m c t h)).trans (whole8 t _))
theorem outAS_eq (c : Dev nD) (t : Fin cfg0.N) (h : t.val % 6 = 0) : outAS m c t h = k0_pay6 (iblk m c 0 t) :=
  (outAS_canon m c t h).trans ((congrArg View.canon (piecesSA m c t h)).trans (wholeS t _))
/-- What the first point reads back of its codes and scales. -/
theorem backS (L : List (View.Piece (Elt F) S512x4096 .bf16)) (hL : ∀ y, ∃ p ∈ L, y ∈ p.1.set) :
    scM0_0.view.readCov L (Rect.unit (s := S512x4096) ![0, 0] S512x4096.size inb_S512x4096_S512x4096_0_0).toLoadRect = rdS (View.canon L) := by
  rw [View.readCov_eq_canon_ld _ _ _ hL, View.ld_unit_zero hz, rdS_eq]
theorem back8 (t : Fin cfg0.N) (L : List (View.Piece (Elt F) S512x1 .f32)) (hL : ∀ y, ∃ p ∈ L, y ∈ p.1.set) :
    (ms0_8 t).view.readCov L (Rect.unit (s := S512x1) ![0, 0] S512x1.size inb_S512x1_S512x1_0_0).toLoadRect = rd8 t (View.canon L) := by
  rw [View.readCov_eq_canon_ld _ _ _ hL, View.ld_unit_zero hz, rd8_eq]
theorem keptS_self (c : Dev nD) (t : Fin cfg0.N) (h : t.val % 6 = 0) : keptS m c t = View.canon (pointA m c t h).2.2.2.1 := by
  rw [← outAS_canon]
  unfold keptS
  exact outAS_congr m c _ _ _ h (at_self 0 (by decide) t h)
theorem kept8_self (c : Dev nD) (t : Fin cfg0.N) (h : t.val % 6 = 0) : kept8 m c t = View.canon (pointA m c t h).2.1 := by
  rw [← outA8_canon]
  unfold kept8
  exact outA8_congr m c _ _ _ h (at_self 0 (by decide) t h)
/-- The first point's tile is that of the codes and scales it has just stored. -/
theorem tileA (c : Dev nD) (t : Fin cfg0.N) (h : t.val % 6 = 0) :
    k0_pay157 (scM0_0.view.readCov (pointA m c t h).2.2.2.1 (Rect.unit (s := S512x4096) ![0, 0] S512x4096.size inb_S512x4096_S512x4096_0_0).toLoadRect) (rd1 t (iblk m c 1 t))
        ((ms0_8 t).view.readCov (pointA m c t h).2.1 (Rect.unit (s := S512x1) ![0, 0] S512x1.size inb_S512x1_S512x1_0_0).toLoadRect) (rd2 t (iblk m c 2 t)) = tile m c t := by
  unfold tile
  rw [keptS_self m c t h, kept8_self m c t h]
  exact congrArg₂ (fun a b => k0_pay157 a (rd1 t (iblk m c 1 t)) b (rd2 t (iblk m c 2 t))) (backS (pointA m c t h).2.2.2.1 (coverAS m c t h)) (back8 t (pointA m c t h).2.1 (coverA8 m c t h))
theorem outA9_apply (c : Dev nD) (t : Fin cfg0.N) (h : t.val % 6 = 0) (R : Fin 512) (l : Fin 1024) :
    outA9 m c t h (ix2 R l) = truncf .bf16 (tileSpun m c t (hof l)) bitsLt_bf16_f32 (ix2 R (dof l)) := by
  rw [outA9_canon]
  refine (canonH _ (pointA m c t h).2.2.1 (pieces9A m c t h) (coverA9 m c t h) R l).trans ?_
  rw [tileA]
  rfl

/-! ## The later points -/

theorem outB9_canon (c : Dev nD) (t : Fin cfg0.N) (h : t.val % 6 ≠ 0 ∧ t.val % 6 ≤ 3) : outB9 m c t h = View.canon (pointB m c t h).1 := View.read_writes_eq_canon VO0_9 _ _ (coverB9 m c t h)
theorem outB9_apply (c : Dev nD) (t : Fin cfg0.N) (h : t.val % 6 ≠ 0 ∧ t.val % 6 ≤ 3) (R : Fin 512) (l : Fin 1024) : outB9 m c t h (ix2 R l) = (truncf .bf16 (tileSpun m c t (hof l)) bitsLt_bf16_f32) (ix2 R (dof l)) := by
  rw [outB9_canon]
  exact canonH (fun g => truncf .bf16 (tileSpun m c t g) bitsLt_bf16_f32) (pointB m c t h).1 (pieces9B m c t h) (coverB9 m c t h) R l
theorem outC10_canon (c : Dev nD) (t : Fin cfg0.N) (h : t.val % 6 = 4) : outC10 m c t h = View.canon (pointC m c t h).1 := View.read_writes_eq_canon VO0_10 _ _ (coverC10 m c t h)
theorem outC10_apply (c : Dev nD) (t : Fin cfg0.N) (h : t.val % 6 = 4) (R : Fin 512) (l : Fin 1024) : outC10 m c t h (ix2 R l) = (kvCodes (tileSpun m c t (hof l))) (ix2 R (dof l)) := by
  rw [outC10_canon]
  exact canonH (fun g => kvCodes (tileSpun m c t g)) (pointC m c t h).1 (pieces10 m c t h) (coverC10 m c t h) R l
theorem outC12_canon (c : Dev nD) (t : Fin cfg0.N) (h : t.val % 6 = 4) : outC12 m c t h = View.canon (pointC m c t h).2.1 := View.read_writes_eq_canon VO0_12 _ _ (coverC12 m c t h)
theorem outC12_apply (c : Dev nD) (t : Fin cfg0.N) (h : t.val % 6 = 4) (R : Fin 512) (l : Fin 512) : outC12 m c t h (ix2 R l) = (packed (tileSpun m c t (hofP l)) (rd6 t (iblk m c 6 t))) (ix2 R (dofP l)) := by
  rw [outC12_canon]
  exact canonP (fun g => packed (tileSpun m c t g) (rd6 t (iblk m c 6 t))) (pointC m c t h).2.1 (pieces12 m c t h) (coverC12 m c t h) R l
theorem outC14_canon (c : Dev nD) (t : Fin cfg0.N) (h : t.val % 6 = 4) : outC14 m c t h = View.canon (pointC m c t h).2.2.1 := View.read_writes_eq_canon VO0_14 _ _ (coverC14 m c t h)
theorem outC14_eq (c : Dev nD) (t : Fin cfg0.N) (h : t.val % 6 = 4) : outC14 m c t h = lanes (fun g => steps (tileSpun m c t g)) :=
  (outC14_canon m c t h).trans ((congrArg View.canon (pieces14 m c t h)).trans (canon8 _))
theorem outC15_canon (c : Dev nD) (t : Fin cfg0.N) (h : t.val % 6 = 4) : outC15 m c t h = View.canon (pointC m c t h).2.2.2.1 := View.read_writes_eq_canon VO0_15 _ _ (coverC15 m c t h)
theorem outC15_eq (c : Dev nD) (t : Fin cfg0.N) (h : t.val % 6 = 4) : outC15 m c t h = lanes (fun g => zeros (tileSpun m c t g)) :=
  (outC15_canon m c t h).trans ((congrArg View.canon (pieces15 m c t h)).trans (canon8 _))
theorem outD11_canon (c : Dev nD) (t : Fin cfg0.N) (h : t.val % 6 = 5) : outD11 m c t h = View.canon (pointD m c t h).1 := View.read_writes_eq_canon VO0_11 _ _ (coverD11 m c t h)
theorem outD11_apply (c : Dev nD) (t : Fin cfg0.N) (h : t.val % 6 = 5) (R : Fin 512) (l : Fin 1024) : outD11 m c t h (ix2 R l) = (kvCodes (headOf (tile m c t) (hof l))) (ix2 R (dof l)) := by
  rw [outD11_canon]
  exact canonH (fun g => kvCodes (headOf (tile m c t) g)) (pointD m c t h).1 (pieces11 m c t h) (coverD11 m c t h) R l
theorem outD13_canon (c : Dev nD) (t : Fin cfg0.N) (h : t.val % 6 = 5) : outD13 m c t h = View.canon (pointD m c t h).2.1 := View.read_writes_eq_canon VO0_13 _ _ (coverD13 m c t h)
theorem outD13_apply (c : Dev nD) (t : Fin cfg0.N) (h : t.val % 6 = 5) (R : Fin 512) (l : Fin 512) : outD13 m c t h (ix2 R l) = (packed (headOf (tile m c t) (hofP l)) (rd6 t (iblk m c 6 t))) (ix2 R (dofP l)) := by
  rw [outD13_canon]
  exact canonP (fun g => packed (headOf (tile m c t) g) (rd6 t (iblk m c 6 t))) (pointD m c t h).2.1 (pieces13 m c t h) (coverD13 m c t h) R l
theorem outD16_canon (c : Dev nD) (t : Fin cfg0.N) (h : t.val % 6 = 5) : outD16 m c t h = View.canon (pointD m c t h).2.2.1 := View.read_writes_eq_canon VO0_16 _ _ (coverD16 m c t h)
theorem outD16_eq (c : Dev nD) (t : Fin cfg0.N) (h : t.val % 6 = 5) : outD16 m c t h = lanes (fun g => steps (headOf (tile m c t) g)) :=
  (outD16_canon m c t h).trans ((congrArg View.canon (pieces16 m c t h)).trans (canon8 _))
theorem outD17_canon (c : Dev nD) (t : Fin cfg0.N) (h : t.val % 6 = 5) : outD17 m c t h = View.canon (pointD m c t h).2.2.2.1 := View.read_writes_eq_canon VO0_17 _ _ (coverD17 m c t h)
theorem outD17_eq (c : Dev nD) (t : Fin cfg0.N) (h : t.val % 6 = 5) : outD17 m c t h = lanes (fun g => zeros (headOf (tile m c t) g)) :=
  (outD17_canon m c t h).trans ((congrArg View.canon (pieces17 m c t h)).trans (canon8 _))

end Cert.QkvIdeal.Run
end
end
-- ==== Proof.Qkv.Spec.lean ====
/- The projections to q, k and v, one row at a time: the normalised row, its scale and codes, the product with a
   column of weights, the rotation of a head by position, its Hadamard transform, and the quantiser of keys and
   values. Kernel and reference are both shown to be this. -/
module

public import proofs.«01_k».proof.Proof.Oproj.Spec

@[expose] public section

set_option maxRecDepth 16384

noncomputable section

namespace Cert.QkvSpec

open Idealize.ShloMosaic Cert.Quant Cert.OprojSpec

/-! ## The row functions -/

/-- A row divided by the root of its mean square. -/
def normRow (x : Fin 4096 → EReal) (l : Fin 4096) : EReal :=
  Ideal.div (x l) (Ideal.sqrt (Ideal.div (∑ k, x k * x k) (Ideal.ofBits .f32 0x45800000#32) + Ideal.ofBits .f32 0x3727C5AC#32))
/-- The scale of a row. -/
def xScale (x : Fin 4096 → EReal) : EReal := scaleOf (amax (normRow x))
/-- The codes of a row, as numbers. -/
def xCode (x : Fin 4096 → EReal) (l : Fin 4096) : EReal := codeR (normRow x l) (xScale x)
/-- The codes of a row, as bytes. -/
def xByte (x : Fin 4096 → EReal) (l : Fin 4096) : BitVec 8 := code8 (normRow x l) (xScale x)
/-- The product of a row with a column of weights. -/
def acc (x : Fin 4096 → EReal) (w : Fin 2048 → BitVec 8) (s : EReal) : EReal :=
  (∑ k : Fin (2 * 2048), xCode x k * ((nib w k : ℝ) : EReal)) * xScale x * s
/-- A head rotated by its position, whose cosines and sines are given for the 64 pairs of columns `d`, `d + 64`. -/
def turn (a : Fin 128 → EReal) (cos sin : Fin 64 → EReal) (d : Fin 128) : EReal :=
  if h : d.val < 64 then a d * cos ⟨d.val, h⟩ - a ⟨d.val + 64, by omega⟩ * sin ⟨d.val, h⟩
  else a d * cos ⟨d.val - 64, by have := d.isLt; omega⟩ + a ⟨d.val - 64, by have := d.isLt; omega⟩ * sin ⟨d.val - 64, by have := d.isLt; omega⟩
/-- The sign in row `g` and column `h`: −1 when `g` and `h` have an odd number of common bits, else 1. -/
def sgn (g h : Fin 128) : ℤ :=
  (IntOp.subi (1#32) (IntOp.muli (2#32) (IntOp.andi (IntOp.ctpop (IntOp.andi (BitVec.ofNat 32 g.val) (BitVec.ofNat 32 h.val))) 1#32))).toInt
/-- The Hadamard transform of a head. -/
def spin (a : Fin 128 → EReal) (e : Fin 128) : EReal :=
  (∑ k : Fin 128, a k * ((sgn k e : ℝ) : EReal)) * Ideal.ofBits .f32 0x3DB504F3#32
/-- The zero point of a head: its smallest number, shrunk. -/
def zeroOf (a : Fin 128 → EReal) : EReal :=
  Ideal.ofBits .f32 0x3F733333#32 * Finset.univ.fold min (Ideal.ofBits .f32 0x7F800000#32) a
/-- Its largest number, shrunk. -/
def topOf (a : Fin 128 → EReal) : EReal :=
  Ideal.ofBits .f32 0x3F733333#32 * Finset.univ.fold max (Ideal.ofBits .f32 0xFF800000#32) a
/-- The step between codes, from the two ends of the range. -/
def stepOf (hi lo : EReal) : EReal :=
  if hi = lo then 1 else Ideal.div (hi - lo) (Ideal.ofBits .f32 0x41700000#32)
/-- The step of a head. -/
def kvScale (a : Fin 128 → EReal) : EReal := stepOf (topOf a) (zeroOf a)
/-- A code of keys and values: rounded to nearest even and clipped to 0, …, 15. -/
def code4 (v s : EReal) : EReal :=
  min ((15 : ℝ) : EReal) (max ((0 : ℝ) : EReal) (Ideal.liftRound Ideal.roundHalfEven (Ideal.div v s)))
/-- The codes of a head. -/
def kvCode (a : Fin 128 → EReal) (d : Fin 128) : EReal := code4 (a d - zeroOf a) (kvScale a)
/-- Two codes in a byte, the first in the low bits. -/
def pack (a b : EReal) : BitVec 8 :=
  BitVec.setWidth 8 (IntOp.ori (Ideal.fptosi 32 a) (IntOp.shli .host (Ideal.fptosi 32 b) 4#32))
/-- The packed codes of a head. -/
def kvByte (a : Fin 128 → EReal) (j : Fin 64) : BitVec 8 :=
  pack (kvCode a ⟨2 * j.val, by have := j.isLt; omega⟩) (kvCode a ⟨1 + 2 * j.val, by have := j.isLt; omega⟩)

/-! ## The heads of a row: 32 of q, 8 of k, 8 of v -/

/-- Column `d` of head `g` in a row of the product. -/
def colOf (g : Fin 48) (d : Fin 128) : Fin 6144 := ⟨128 * g.val + d.val, by have := g.isLt; have := d.isLt; omega⟩
/-- Head `g` of the product of a row with the weights. -/
def head (x : Fin 4096 → EReal) (w : Fin 2048 → Fin 6144 → BitVec 8) (s : Fin 6144 → EReal) (g : Fin 48) (d : Fin 128) : EReal :=
  acc x (fun k => w k (colOf g d)) (s (colOf g d))
/-- Head `g` rotated and transformed. -/
def spunHead (x : Fin 4096 → EReal) (w : Fin 2048 → Fin 6144 → BitVec 8) (s : Fin 6144 → EReal) (cos sin : Fin 64 → EReal) (g : Fin 48) : Fin 128 → EReal :=
  spin (turn (head x w s g) cos sin)
/-- The number of the head of q, k or v. -/
def gq (h : Fin 32) : Fin 48 := ⟨h.val, by have := h.isLt; omega⟩
def gk (h : Fin 8) : Fin 48 := ⟨32 + h.val, by have := h.isLt; omega⟩
def gv (h : Fin 8) : Fin 48 := ⟨40 + h.val, by have := h.isLt; omega⟩

/-! ## The constants -/

theorem fifteen : Ideal.ofBits .f32 1097859072#32 = ((15 : ℝ) : EReal) := by
  norm_num [Ideal.ofBits, Ideal.ieee, Nat.shiftRight_eq_div_pow, show BitVec.extractLsb' 31 1 1097859072#32 = 0#1 by decide]
theorem width : Ideal.ofBits .f32 0x45800000#32 = ((4096 : ℝ) : EReal) := by
  norm_num [Ideal.ofBits, Ideal.ieee, Nat.shiftRight_eq_div_pow, show BitVec.extractLsb' 31 1 0x45800000#32 = 0#1 by decide]
theorem bot : Ideal.ofBits .f32 0xFF800000#32 = ⊥ := by simp [Ideal.ofBits, Ideal.ieee]

/-! ## Codes of keys and values are whole numbers -/

theorem code4_int (v s : EReal) : ∃ k : ℤ, 0 ≤ k ∧ k ≤ 15 ∧ code4 v s = ((k : ℝ) : EReal) := by
  unfold code4
  induction Ideal.div v s with
  | bot =>
    refine ⟨0, by norm_num, by norm_num, ?_⟩
    rw [show Ideal.liftRound Ideal.roundHalfEven ⊥ = ⊥ from rfl, max_eq_left bot_le, min_eq_right (EReal.coe_le_coe_iff.2 (by norm_num))]
    norm_num
  | top =>
    refine ⟨15, by norm_num, by norm_num, ?_⟩
    rw [show Ideal.liftRound Ideal.roundHalfEven ⊤ = ⊤ from rfl, max_eq_right le_top, min_eq_left le_top]
    norm_num
  | coe x =>
    refine ⟨min 15 (max 0 (Ideal.roundHalfEven x)), by simp, by simp, ?_⟩
    rw [show Ideal.liftRound Ideal.roundHalfEven (x : EReal) = ((Ideal.roundHalfEven x : ℝ) : EReal) from rfl]
    have h1 : ∀ a b : ℝ, max (a : EReal) b = ((max a b : ℝ) : EReal) := fun a b =>
      (Monotone.map_max (f := ((↑) : ℝ → EReal)) fun _ _ h => EReal.coe_le_coe_iff.2 h).symm
    have h2 : ∀ a b : ℝ, min (a : EReal) b = ((min a b : ℝ) : EReal) := fun a b =>
      (Monotone.map_min (f := ((↑) : ℝ → EReal)) fun _ _ h => EReal.coe_le_coe_iff.2 h).symm
    rw [h1, h2]
    push_cast
    rfl
/-- Two codes added, the second sixteenfold, are the two codes in a byte. -/
theorem pack_sum (v s v' s' : EReal) :
    BitVec.setWidth 8 (Ideal.fptosi 32 (code4 v s * 1 + code4 v' s' * ((16 : ℝ) : EReal))) = pack (code4 v s) (code4 v' s') := by
  obtain ⟨a, a1, a2, ha⟩ := code4_int v s
  obtain ⟨b, b1, b2, hb⟩ := code4_int v' s'
  unfold pack
  rw [ha, hb, show (((a : ℝ) : EReal) * 1 + ((b : ℝ) : EReal) * ((16 : ℝ) : EReal)) = (((a + b * 16 : ℤ) : ℝ) : EReal) by push_cast; rw [mul_one],
    fptosi_int 32 _ (by norm_num; omega) (by norm_num; omega), fptosi_int 32 _ (by norm_num; omega) (by norm_num; omega), fptosi_int 32 _ (by norm_num; omega) (by norm_num; omega)]
  interval_cases a <;> interval_cases b <;> decide
/-- A code of keys and values as an integer and back is the code. -/
theorem code4_back (v s : EReal) : (((Ideal.fptosi 32 (code4 v s)).toInt : ℝ) : EReal) = code4 v s := by
  obtain ⟨k, h1, h2, hk⟩ := code4_int v s
  rw [hk, fptosi_int 32 k (by norm_num; omega) (by norm_num; omega)]
  have : (BitVec.ofInt 32 k).toInt = k := by interval_cases k <;> decide
  rw [this]
/-- The step as programs write it. -/
theorem select_step (hi lo : EReal) :
    Scalar.select (FloatOps.cmpf (F := Ideal) (φ := .f32) .oeq hi lo) (FloatOps.ofBits (F := Ideal) .f32 1065353216#32)
      (Ideal.div (hi - lo) (Ideal.ofBits .f32 1097859072#32)) = stepOf hi lo := by
  unfold stepOf
  rw [show FloatOps.ofBits (F := Ideal) .f32 1065353216#32 = 1 from Ideal.ofBits_one_f32]
  by_cases h : hi = lo
  · rw [if_pos h, h]
    simp [Scalar.select, Ideal.cmpf_def, Ideal.cmp]
  · rw [if_neg h]
    simp [Scalar.select, Ideal.cmpf_def, Ideal.cmp, h]

/-- The code as the host writes it. -/
theorem host_code4 (v s : EReal) :
    FloatOps.fptosi (F := Ideal) (φ := .f32) 32 (FloatOps.minimumf (F := Ideal) (φ := .f32)
      (FloatOps.maximumf (F := Ideal) (φ := .f32) (FloatOps.hostUnary (F := Ideal) (φ := .f32) .roundeven (FloatOps.hostDivf (F := Ideal) (φ := .f32) v s))
        (FloatOps.ofBits .f32 0#32)) (FloatOps.ofBits .f32 1097859072#32)) = Ideal.fptosi 32 (code4 v s) := by
  unfold code4
  rw [← fifteen, show ((0 : ℝ) : EReal) = Ideal.ofBits .f32 0#32 from Ideal.ofBits_zero_f32.symm, min_comm, max_comm]
  rfl

/-! ## Real numbers -/

/-- Being a real number. -/
def IsReal (x : EReal) : Prop := ∃ r : ℝ, x = (r : EReal)

theorem IsReal.mul {a b : EReal} : IsReal a → IsReal b → IsReal (a * b) := by
  rintro ⟨x, rfl⟩ ⟨y, rfl⟩
  exact ⟨x * y, by norm_cast⟩
theorem IsReal.add {a b : EReal} : IsReal a → IsReal b → IsReal (a + b) := by
  rintro ⟨x, rfl⟩ ⟨y, rfl⟩
  exact ⟨x + y, by norm_cast⟩
theorem IsReal.sub {a b : EReal} : IsReal a → IsReal b → IsReal (a - b) := by
  rintro ⟨x, rfl⟩ ⟨y, rfl⟩
  exact ⟨x - y, by norm_cast⟩
/-- The sum of reals, read as extended reals. -/
theorem coe_sum {ι : Type} (s : Finset ι) (g : ι → ℝ) : ((∑ i ∈ s, g i : ℝ) : EReal) = ∑ i ∈ s, (g i : EReal) := by
  induction s using Finset.cons_induction with
  | empty => simp
  | cons a s ha ih => rw [Finset.sum_cons, Finset.sum_cons, ← ih]; norm_cast
theorem IsReal.sum {ι : Type} (s : Finset ι) (f : ι → EReal) (h : ∀ i, IsReal (f i)) : IsReal (∑ i ∈ s, f i) := by
  choose g hg using h
  refine ⟨∑ i ∈ s, g i, ?_⟩
  simp only [hg, coe_sum]
theorem IsReal.max {a b : EReal} (ha : IsReal a) (hb : IsReal b) : IsReal (max a b) := by
  rcases max_choice a b with h | h <;> rw [h] <;> assumption
theorem IsReal.div {a b : EReal} (ha : IsReal a) (hb : IsReal b) (h0 : b ≠ 0) : IsReal (Ideal.div a b) := by
  obtain ⟨x, rfl⟩ := ha
  obtain ⟨y, rfl⟩ := hb
  unfold Ideal.div
  rw [if_neg h0]
  exact ⟨x * y⁻¹, by norm_cast⟩
theorem real_of {x : EReal} (h1 : x ≠ ⊥) (h2 : x ≠ ⊤) : IsReal x := by
  induction x using EReal.rec with
  | bot => exact absurd rfl h1
  | top => exact absurd rfl h2
  | coe r => exact ⟨r, rfl⟩

theorem ofBits_clip : IsReal (Ideal.ofBits .f32 1063679181#32) := by
  refine ⟨15103181 / 16777216, ?_⟩
  norm_num [Ideal.ofBits, Ideal.ieee, Nat.shiftRight_eq_div_pow, show BitVec.extractLsb' 31 1 1063679181#32 = 0#1 by decide]
theorem ofBits_eps : ∃ e : ℝ, 0 < e ∧ Ideal.ofBits .f32 0x3727C5AC#32 = (e : EReal) := by
  refine ⟨2748779 / 274877906944, by norm_num, ?_⟩
  norm_num [Ideal.ofBits, Ideal.ieee, Nat.shiftRight_eq_div_pow, show BitVec.extractLsb' 31 1 0x3727C5AC#32 = 0#1 by decide]

theorem square_nonneg (x : EReal) : 0 ≤ x * x := by
  induction x using EReal.rec with
  | bot => simp
  | top => simp
  | coe r => exact_mod_cast mul_self_nonneg r

/-- Every number of a normalised row is real, infinities in the row or not. -/
theorem normRow_real (x : Fin 4096 → EReal) (l : Fin 4096) : IsReal (normRow x l) := by
  unfold normRow
  obtain ⟨e, he, hE⟩ := ofBits_eps
  rw [hE, width]
  by_cases h : ∀ k, IsReal (x k)
  · choose y hy using h
    have hs : (∑ k, x k * x k) = ((∑ k, y k * y k : ℝ) : EReal) := by
      rw [coe_sum]
      exact Finset.sum_congr rfl fun k _ => by rw [hy]; norm_cast
    have hn : 0 ≤ ∑ k, y k * y k := Finset.sum_nonneg fun k _ => mul_self_nonneg _
    have hp : 0 < (∑ k, y k * y k) * (4096 : ℝ)⁻¹ + e := by positivity
    have hd : Ideal.div ((∑ k, y k * y k : ℝ) : EReal) ((4096 : ℝ) : EReal) + (e : EReal) = (((∑ k, y k * y k) * (4096 : ℝ)⁻¹ + e : ℝ) : EReal) := by
      unfold Ideal.div
      rw [if_neg (by norm_cast)]
      norm_cast
    rw [hs, hd, Ideal.sqrt_coe, if_neg (not_lt.2 hp.le), hy]
    exact IsReal.div ⟨_, rfl⟩ ⟨_, rfl⟩ (by norm_cast; exact (Real.sqrt_pos.2 hp).ne')
  · push Not at h
    obtain ⟨j, hj⟩ := h
    have hjj : x j * x j = ⊤ := by
      rcases eq_or_ne (x j) ⊥ with h1 | h1
      · rw [h1]; rfl
      · rcases eq_or_ne (x j) ⊤ with h2 | h2
        · rw [h2]; rfl
        · exact absurd (real_of h1 h2) hj
    have ht : (∑ k, x k * x k) = ⊤ :=
      top_le_iff.1 (hjj ▸ Finset.single_le_sum (f := fun k => x k * x k) (fun k _ => square_nonneg _) (Finset.mem_univ j))
    have hd : Ideal.div ⊤ ((4096 : ℝ) : EReal) = ⊤ := by
      unfold Ideal.div
      rw [if_neg (by norm_cast), ← EReal.coe_inv, EReal.top_mul_coe_of_pos (by norm_num)]
    rw [ht, hd, EReal.top_add_coe, Ideal.sqrt_top]
    unfold Ideal.div
    rw [if_neg (by simp), EReal.inv_top, mul_zero]
    exact ⟨0, rfl⟩
/-- So is its scale. -/
theorem xScale_real (x : Fin 4096 → EReal) : IsReal (xScale x) := by
  have ha : IsReal (amax (normRow x)) := by
    have hr (l : Fin 4096) : IsReal (FloatOps.absf (F := Ideal) (φ := .f32) (normRow x l)) := by
      show IsReal (max _ _)
      refine (normRow_real x l).max ?_
      obtain ⟨r, hr⟩ := normRow_real x l
      exact ⟨-r, by rw [hr]; norm_cast⟩
    refine real_of ?_ ?_
    · refine ne_of_gt (lt_of_lt_of_le ?_ (Finset.le_fold_max _ |>.2 (Or.inr ⟨0, Finset.mem_univ _, le_refl _⟩)))
      obtain ⟨r, hr⟩ := hr 0
      rw [hr]
      exact EReal.bot_lt_coe r
    · refine ne_of_lt (Finset.fold_max_lt _ |>.2 ⟨by rw [bot]; exact bot_lt_top, fun l _ => ?_⟩)
      obtain ⟨r, hr⟩ := hr l
      rw [hr]
      exact EReal.coe_lt_top r
  unfold xScale scaleOf
  split
  · exact ⟨1, rfl⟩
  · exact (ha.mul ofBits_clip).div ⟨7, seven⟩ (by rw [seven]; norm_cast)
theorem code_real (v s : EReal) : IsReal (codeR v s) := by
  obtain ⟨k, _, _, h⟩ := codeR_int v s
  exact ⟨k, h⟩
/-- So are the products with weights, the weights' scales being real. -/
theorem acc_real (x : Fin 4096 → EReal) (w : Fin 2048 → BitVec 8) (s : EReal) (hs : IsReal s) : IsReal (acc x w s) :=
  ((IsReal.sum _ _ fun k => (code_real _ _).mul ⟨_, rfl⟩).mul (xScale_real x)).mul hs
/-- So is a rotated head. -/
theorem turn_real (a : Fin 128 → EReal) (cos sin : Fin 64 → EReal) (ha : ∀ d, IsReal (a d)) (hc : ∀ d, IsReal (cos d)) (hs : ∀ d, IsReal (sin d))
    (d : Fin 128) : IsReal (turn a cos sin d) := by
  unfold turn
  split
  · exact ((ha _).mul (hc _)).sub ((ha _).mul (hs _))
  · exact ((ha _).mul (hc _)).add ((ha _).mul (hs _))

end Cert.QkvSpec
end
end
-- ==== Proof.Qkv.Rows.lean ====
/- The kernel call QkvIdeal over the extended reals: its formulas at one index, as functions of a row. -/
module

public import proofs.«01_k».proof.Proof.Qkv.Tile
public import proofs.«01_k».proof.Proof.Qkv.Spec
public import Idealize.ShloMosaic.Lib.Pointwise
public import Idealize.ShloMosaic.Lib.KernelVsHost

@[expose] public section

set_option maxRecDepth 16384

noncomputable section

namespace Cert.QkvIdeal.Run

open Idealize.ShloMosaic Idealize.ShloMosaic.TcCoe Idealize.ShloMosaic.Tactic
open Cert.QkvIdeal Cert.QkvIdeal.Gen Cert.Quant Cert.OprojSpec Cert.QkvSpec

/-! ## The normalised row, its scale and its codes -/

variable (x : Vec Ideal S512x4096 .bf16)

theorem norm_apply (r : Fin 512) (l : Fin 4096) : k0_pay3 x (ix2 r l) = normRow (fun k => x (ix2 r k)) l := by
  pointwise [k0_pay3]
  rfl
/-- The largest absolute values of normalised rows. -/
def xMax (o : FVec Ideal S512x4096 .f32) : FVec Ideal S512x1 .f32 :=
  shapeCast S512x1 (multiReduction .maximumf [1] S512 (absf o) 0xFF800000#32 reduces_S512x4096_S512 (.inl rfl) rfl) shapeCasts_S512_S512x1
/-- The scales of normalised rows, from their largest absolute values. -/
def xScales (a : FVec Ideal S512x1 .f32) : FVec Ideal S512x1 .f32 :=
  select (cmpf .oeq a (broadcast S512x1 (Scalar.ofBits .f32 0x00000000#32))) (broadcast S512x1 (Scalar.ofBits .f32 0x3F800000#32)) (divf (mulf a (broadcast S512x1 (Scalar.ofBits .f32 0x3F6674CD#32))) (broadcast S512x1 (Scalar.ofBits .f32 0x40E00000#32)))
/-- The codes of normalised rows, from the rows and their scales. -/
def xCodes (o : FVec Ideal S512x4096 .f32) (s : FVec Ideal S512x1 .f32) : FVec Ideal S512x4096 .f32 :=
  minimumf (broadcast S512x4096 (Scalar.sitofp .f32 7#32)) (maximumf (broadcast S512x4096 (Scalar.sitofp .f32 4294967289#32)) (roundeven (divf o (broadcastTo S512x4096 s broadcasts_S512x1_S512x4096))))
theorem xMax_apply (o : FVec Ideal S512x4096 .f32) (r : Fin 512) : xMax o (ix2 r 0) = amax fun l => o (ix2 r l) := by
  unfold xMax
  generalize hy : absf o = y
  unfold amax
  pointwise []
  subst hy
  rfl
theorem xScales_apply (a : FVec Ideal S512x1 .f32) (r : Fin 512) : xScales a (ix2 r 0) = scaleOf (a (ix2 r 0)) := by
  pointwise [xScales]
  rfl
theorem xCodes_apply (o : FVec Ideal S512x4096 .f32) (s : FVec Ideal S512x1 .f32) (r : Fin 512) (l : Fin 4096) :
    xCodes o s (ix2 r l) = codeR (o (ix2 r l)) (s (ix2 r 0)) := by
  pointwise [xCodes]
  rw [show (7#32 : BitVec 32).toInt = 7 from by decide, show (4294967289#32 : BitVec 32).toInt = -7 from by decide]
  unfold codeR
  push_cast
  rfl
theorem scale_apply (r : Fin 512) (z : Fin 1) : k0_pay4 x (ix2 r z) = xScale fun k => x (ix2 r k) := by
  obtain rfl : z = 0 := Subsingleton.elim _ _
  exact (xScales_apply (xMax (k0_pay3 x)) r).trans ((congrArg scaleOf (xMax_apply (k0_pay3 x) r)).trans (congrArg (fun f => scaleOf (amax f)) (funext fun l => norm_apply x r l)))
theorem code_apply (r : Fin 512) (l : Fin 4096) : k0_pay5 x (ix2 r l) = xCode (fun k => x (ix2 r k)) l :=
  (xCodes_apply (k0_pay3 x) (k0_pay4 x) r l).trans (congrArg₂ codeR (norm_apply x r l) (scale_apply x r 0))
theorem stored_apply (r : Fin 512) (l : Fin 4096) : k0_pay6 x (ix2 r l) = xCode (fun k => x (ix2 r k)) l := by
  rw [← code_apply x r l]
  unfold k0_pay6
  rw [shapeCast_id]
  rfl
theorem byte_apply (r : Fin 512) (l : Fin 4096) : k0_pay7 x (ix2 r l) = xByte (fun k => x (ix2 r k)) l := by
  show Ideal.fptosi 8 (k0_pay5 x (ix2 r l)) = _
  rw [code_apply]
  rfl

/-! ## The product and its heads -/

theorem product_apply (w : Vec Ideal S2048x1024 .i8) (s : Vec Ideal S512x1 .f32) (ws : Vec Ideal S1x1024 .f32) (R : Fin 512) (l : Fin 1024) :
    k0_pay157 x w s ws (ix2 R l)
      = (∑ k : Fin (2 * 2048), (x (ix2 R k) : EReal) * ((nib (fun k => w (ix2 k l)) k : ℝ) : EReal)) * (s (ix2 R 0) : EReal) * (ws (ix2 0 l) : EReal) := by
  pointwise [k0_pay157]
  refine congrArg₂ (· * ·) (congrArg₂ (· * ·) (Finset.sum_congr rfl fun k _ => congrArg₂ (· * ·) rfl ?_) rfl) rfl
  unfold nib
  by_cases h : k.val % 2 < 1
  · rw [dif_pos h, if_pos h, ← lo_shift]
    rfl
  · rw [dif_neg h, if_neg h, ← hi_shift]
    rfl
/-- Column `d` of head `g` in a tile. -/
def colIn (g : Fin 8) (d : Fin 128) : Fin 1024 := ⟨128 * g.val + d.val, by have := g.isLt; have := d.isLt; omega⟩
theorem headOf_apply (A : FVec Ideal S512x1024 .f32) (g : Fin 8) (r : Fin 512) (d : Fin 128) :
    headOf A g (ix2 r d) = A (ix2 r (colIn g d)) := by
  unfold headOf
  refine extractStridedSlice_apply _ _ _ _ _ fun a => ?_
  match a with
  | ⟨0, _⟩ => exact (Nat.zero_add _).symm
  | ⟨1, _⟩ => rfl

/-! ## The rotation by position and the Hadamard transform -/

theorem roll_apply (v : FVec Ideal S512x128 .f32) (r : Fin 512) (d : Fin 128) :
    dynamicRotate (1 : Fin S512x128.rank) 64#32 none v rotates_S512x128_d1 (ix2 r d) = v (ix2 r ⟨(d.val + 64) % 128, Nat.mod_lt _ (by decide)⟩) :=
  dynamicRotate_apply 1 64#32 v rotates_S512x128_d1 (ix2 r d) _ fun b => match b with
    | ⟨0, _⟩ => rfl
    | ⟨1, _⟩ => show (d.val + 64) % 128 = (d.val + 128 - 64 % 128) % 128 by omega
theorem both_left (a b : FVec Ideal S512x64 .f32) (r : Fin 512) (d : Fin 128) (h : d.val < 64) :
    concatenate S512x128 1 [⟨S512x64, a⟩, ⟨S512x64, b⟩] concatenates_S512x64_S512x64_S512x128_d1 (ix2 r d) = a (ix2 r ⟨d.val, h⟩) := by
  pointwise []
  rw [dif_pos h]
theorem both_right (a b : FVec Ideal S512x64 .f32) (r : Fin 512) (d : Fin 128) (h : ¬ d.val < 64) :
    concatenate S512x128 1 [⟨S512x64, a⟩, ⟨S512x64, b⟩] concatenates_S512x64_S512x64_S512x128_d1 (ix2 r d) = b (ix2 r ⟨d.val - 64, by have := d.isLt; omega⟩) := by
  pointwise []
  rw [dif_neg h]
theorem turned_apply (v : FVec Ideal S512x128 .f32) (cos sin : FVec Ideal S512x64 .f32) (r : Fin 512) (d : Fin 128) :
    turned v cos sin (ix2 r d) = turn (fun d => v (ix2 r d)) (fun d => cos (ix2 r d)) (fun d => sin (ix2 r d)) d := by
  unfold turned
  refine (show _ = FloatOps.addf (F := Ideal) (φ := .f32) (FloatOps.mulf (F := Ideal) (φ := .f32) (v (ix2 r d)) (concatenate S512x128 1 [⟨S512x64, cos⟩, ⟨S512x64, cos⟩] concatenates_S512x64_S512x64_S512x128_d1 (ix2 r d)))
    (FloatOps.mulf (F := Ideal) (φ := .f32) (dynamicRotate (1 : Fin S512x128.rank) 64#32 none v rotates_S512x128_d1 (ix2 r d)) (concatenate S512x128 1 [⟨S512x64, subf (broadcast S512x64 (Scalar.ofBits .f32 0x00000000#32)) sin⟩, ⟨S512x64, sin⟩] concatenates_S512x64_S512x64_S512x128_d1 (ix2 r d))) from rfl).trans ?_
  rw [roll_apply]
  unfold turn
  by_cases h : d.val < 64
  · rw [both_left _ _ r d h, both_left _ _ r d h, dif_pos h]
    refine (show _ = (v (ix2 r d) : EReal) * (cos (ix2 r ⟨d.val, h⟩) : EReal) + (v (ix2 r ⟨(d.val + 64) % 128, _⟩) : EReal) * (Ideal.ofBits .f32 0x00000000#32 - (sin (ix2 r ⟨d.val, h⟩) : EReal)) from rfl).trans ?_
    rw [show (⟨(d.val + 64) % 128, Nat.mod_lt _ (by decide)⟩ : Fin 128) = ⟨d.val + 64, by omega⟩ from Fin.ext (Nat.mod_eq_of_lt (by omega)), Ideal.ofBits_zero_f32, zero_sub, mul_neg, sub_eq_add_neg]
  · rw [both_right _ _ r d h, both_right _ _ r d h, dif_neg h]
    have hd := d.isLt
    rw [show (⟨(d.val + 64) % 128, Nat.mod_lt _ (by decide)⟩ : Fin 128) = ⟨d.val - 64, by omega⟩ from Fin.ext (show (d.val + 64) % 128 = d.val - 64 by omega)]
    rfl
theorem signs_apply (y : FVec Ideal S512x128 .bf16) (H : FVec Ideal S128x128 .bf16) (r : Fin 512) (e : Fin 128) :
    signs y H (ix2 r e) = ∑ k : Fin 128, (y (ix2 r k) : EReal) * (H (ix2 k e) : EReal) := by
  pointwise [signs]
theorem rest_apply (t : FVec Ideal S512x128 .f32) (r : Fin 512) (d : Fin 128) (h : IsReal (t (ix2 r d))) : rest t (ix2 r d) = (0 : EReal) := by
  obtain ⟨a, ha⟩ := h
  refine (show _ = (t (ix2 r d) : EReal) - (t (ix2 r d) : EReal) from rfl).trans ?_
  rw [ha]
  norm_cast
  simp
/-- The transform in three parts is the transform, the numbers being real. -/
theorem spun_apply (t : FVec Ideal S512x128 .f32) (H : FVec Ideal S128x128 .bf16) (hH : ∀ k e, H (ix2 k e) = ((sgn k e : ℝ) : EReal))
    (r : Fin 512) (ht : ∀ d, IsReal (t (ix2 r d))) (e : Fin 128) : spun t H (ix2 r e) = spin (fun d => t (ix2 r d)) e := by
  have h1 (d : Fin 128) : rest t (ix2 r d) = (0 : EReal) := rest_apply t r d (ht d)
  have h2 (d : Fin 128) : rest (rest t) (ix2 r d) = (0 : EReal) := rest_apply _ r d ⟨0, h1 d⟩
  unfold spun
  refine (show _ = ((signs (truncf .bf16 (rest (rest t)) bitsLt_bf16_f32) H (ix2 r e) : EReal) + (signs (truncf .bf16 (rest t) bitsLt_bf16_f32) H (ix2 r e) : EReal) + (signs (truncf .bf16 t bitsLt_bf16_f32) H (ix2 r e) : EReal)) * Ideal.ofBits .f32 0x3DB504F3#32 from rfl).trans ?_
  rw [signs_apply, signs_apply, signs_apply]
  unfold spin
  refine congrArg₂ (· * ·) ?_ rfl
  rw [Finset.sum_eq_zero (fun k _ => (congrArg (· * _) (show (truncf .bf16 (rest (rest t)) bitsLt_bf16_f32 (ix2 r k) : EReal) = 0 from h2 k)).trans (zero_mul _)),
    Finset.sum_eq_zero (fun k _ => (congrArg (· * _) (show (truncf .bf16 (rest t) bitsLt_bf16_f32 (ix2 r k) : EReal) = 0 from h1 k)).trans (zero_mul _)), zero_add, zero_add]
  exact Finset.sum_congr rfl fun k _ => congrArg₂ (· * ·) rfl (hH k e)

/-! ## The quantiser of keys and values -/

variable (t : FVec Ideal S512x128 .f32)

theorem zeros_apply (r : Fin 512) (z : Fin 1) : zeros t (ix2 r z) = zeroOf fun d => t (ix2 r d) := by
  obtain rfl : z = 0 := Subsingleton.elim _ _
  pointwise [zeros]
  rfl
theorem tops_apply (r : Fin 512) (z : Fin 1) : tops t (ix2 r z) = topOf fun d => t (ix2 r d) := by
  obtain rfl : z = 0 := Subsingleton.elim _ _
  pointwise [tops]
  rfl
theorem steps_apply (r : Fin 512) (z : Fin 1) : steps t (ix2 r z) = kvScale fun d => t (ix2 r d) := by
  unfold kvScale
  rw [← zeros_apply t r z, ← tops_apply t r z, ← select_step]
  rfl
theorem kvCodes_apply (r : Fin 512) (d : Fin 128) : kvCodes t (ix2 r d) = kvCode (fun d => t (ix2 r d)) d := by
  unfold kvCode
  rw [← steps_apply t r 0, ← zeros_apply t r 0]
  unfold kvCodes
  generalize zeros t = a
  generalize steps t = b
  pointwise []
  unfold code4
  rw [show (15#32 : BitVec 32).toInt = 15 from by decide, show (0#32 : BitVec 32).toInt = 0 from by decide]
  push_cast
  rfl
theorem pairs_apply (y : FVec Ideal S512x128 .bf16) (P : FVec Ideal S128x64 .bf16) (r : Fin 512) (j : Fin 64) :
    pairs y P (ix2 r j) = ∑ k : Fin 128, (y (ix2 r k) : EReal) * (P (ix2 k j) : EReal) := by
  pointwise [pairs]
/-- Where a code goes in the bytes: into the low bits, into the high ones, or nowhere. -/
def place (k : Fin 128) (j : Fin 64) : ℝ := if k.val = 2 * j.val then 1 else if k.val = 1 + 2 * j.val then 16 else 0
theorem sum_place (f : Fin 128 → EReal) (j : Fin 64) : ∑ k : Fin 128, f k * ((place k j : ℝ) : EReal)
    = f ⟨2 * j.val, by have := j.isLt; omega⟩ * 1 + f ⟨1 + 2 * j.val, by have := j.isLt; omega⟩ * ((16 : ℝ) : EReal) := by
  have hj := j.isLt
  rw [Finset.sum_eq_add_of_mem (⟨2 * j.val, by omega⟩ : Fin 128) ⟨1 + 2 * j.val, by omega⟩ (Finset.mem_univ _) (Finset.mem_univ _)
    (fun h => absurd (congrArg Fin.val h) (show ¬ 2 * j.val = 1 + 2 * j.val by omega))
    (fun k _ hk => by
      unfold place
      rw [if_neg (fun h => hk.1 (Fin.ext h)), if_neg (fun h => hk.2 (Fin.ext h)), EReal.coe_zero, mul_zero])]
  unfold place
  rw [if_pos rfl, if_neg (show ¬ 1 + 2 * j.val = 2 * j.val by omega), if_pos rfl, EReal.coe_one]
theorem packed_apply (P : FVec Ideal S128x64 .bf16) (hP : ∀ k j, P (ix2 k j) = ((place k j : ℝ) : EReal)) (r : Fin 512) (j : Fin 64) :
    packed t P (ix2 r j) = kvByte (fun d => t (ix2 r d)) j := by
  refine (show _ = BitVec.setWidth 8 (Ideal.fptosi 32 (pairs (kvCodes t) P (ix2 r j))) from rfl).trans ?_
  rw [pairs_apply]
  simp only [hP, kvCodes_apply]
  rw [sum_place]
  exact pack_sum _ _ _ _
theorem lane_apply (h : Fin 8) (y : FVec Ideal S512x1 .f32) (prev : FVec Ideal S512x8 .f32) (r : Fin 512) (g : Fin 8) :
    lane h y prev (ix2 r g) = if g = h then y (ix2 r 0) else prev (ix2 r g) := by
  unfold lane
  rw [shapeCast_id]
  pointwise []
  revert g h
  intro h g
  by_cases e : g = h
  · subst e
    rw [if_pos rfl]
    simp [Scalar.select, IntOp.cmpi, Scalar.cmpi]
  · rw [if_neg e]
    have : BitVec.ofNat 32 g.val ≠ BitVec.ofNat 32 h.val := by revert g h; decide
    rw [show IntOp.cmpi .eq (BitVec.ofNat 32 g.val) (BitVec.ofNat 32 h.val) = 0#1 from congrArg BitVec.ofBool (beq_eq_false_iff_ne.2 this)]
    rfl
theorem lanes_apply (f : Fin 8 → FVec Ideal S512x1 .f32) (r : Fin 512) (g : Fin 8) : lanes f (ix2 r g) = f g (ix2 r 0) := by
  unfold lanes
  simp only [lane_apply]
  fin_cases g <;> rfl

end Cert.QkvIdeal.Run
end
end
-- ==== Proof.Qkv.Consts.lean ====
/- The kernel call QkvIdeal: the two matrices its program holds, at an index: the signs of the Hadamard transform, and
   where codes go in bytes. -/
module

public import proofs.«01_k».proof.Proof.Qkv.Rows
public import Idealize.ShloMosaic.Lib.IdealHost

@[expose] public section

set_option maxRecDepth 16384

noncomputable section

namespace Cert.QkvIdeal.Run

open Idealize.ShloMosaic Idealize.ShloMosaic.TcCoe Idealize.ShloMosaic.Tactic
open Cert.QkvIdeal Cert.QkvIdeal.Gen Cert.Quant Cert.OprojSpec Cert.QkvSpec

/-- The parity of the number of bits of a number below 256. -/
def par (n : ℕ) : ℕ :=
  ((n ^^^ (n >>> 4)) ^^^ ((n ^^^ (n >>> 4)) >>> 2) ^^^ (((n ^^^ (n >>> 4)) ^^^ ((n ^^^ (n >>> 4)) >>> 2)) >>> 1)) % 2
/-- The signs as stored. -/
theorem lit0_digits : ∀ k e : Fin 128, lit0 ⟨k.val * 128 + e.val, by have := k.isLt; have := e.isLt; omega⟩ = if par (k.val &&& e.val) = 0 then 0x3F80#16 else 0xBF80#16 := by
  decide +kernel
theorem sign_par : ∀ n : Fin 128, (IntOp.subi (1#32) (IntOp.muli (2#32) (IntOp.andi (IntOp.ctpop (BitVec.ofNat 32 n.val)) 1#32))).toInt = if par n.val = 0 then 1 else -1 := by
  decide +kernel
theorem sgn_par (k e : Fin 128) : sgn k e = if par (k.val &&& e.val) = 0 then 1 else -1 := by
  have h : k.val &&& e.val < 128 := lt_of_le_of_lt Nat.and_le_left k.isLt
  refine Eq.trans ?_ (sign_par ⟨k.val &&& e.val, h⟩)
  unfold sgn
  rw [show IntOp.andi (BitVec.ofNat 32 k.val) (BitVec.ofNat 32 e.val) = BitVec.ofNat 32 (k.val &&& e.val) from BitVec.ofNat_and.symm]
/-- The places as stored. -/
theorem lit1_digits : ∀ (k : Fin 128) (j : Fin 64), lit1 ⟨k.val * 64 + j.val, by have := k.isLt; have := j.isLt; omega⟩
    = if k.val = 2 * j.val then 0x3F80#16 else if k.val = 1 + 2 * j.val then 0x4180#16 else 0x0000#16 := by
  decide +kernel
theorem lit0_sgn (k e : Fin 128) : Ideal.ofBits .bf16 (lit0 (S128x128.rowMajor (ix2 k e))) = ((sgn k e : ℝ) : EReal) := by
  have hi : S128x128.rowMajor (ix2 k e) = (⟨k.val * 128 + e.val, by have := k.isLt; have := e.isLt; omega⟩ : Fin 16384) := Fin.ext (Shape.rowMajor_val_two _)
  rw [hi, lit0_digits, sgn_par]
  split
  · rw [Ideal.ofBits_one_bf16]
    norm_cast
  · rw [Ideal.ofBits_neg_one_bf16]
    norm_cast
theorem sixteen : Ideal.ofBits .bf16 0x4180#16 = ((16 : ℝ) : EReal) := by
  norm_num [Ideal.ofBits, Ideal.ieee, Nat.shiftRight_eq_div_pow, show BitVec.extractLsb' 15 1 0x4180#16 = 0#1 by decide]
theorem lit1_place (k : Fin 128) (j : Fin 64) : Ideal.ofBits .bf16 (lit1 (S128x64.rowMajor (ix2 k j))) = ((place k j : ℝ) : EReal) := by
  have hi : S128x64.rowMajor (ix2 k j) = (⟨k.val * 64 + j.val, by have := k.isLt; have := j.isLt; omega⟩ : Fin 8192) := Fin.ext (Shape.rowMajor_val_two _)
  rw [hi, lit1_digits]
  unfold place
  split
  · rw [Ideal.ofBits_one_bf16]
    norm_cast
  · split
    · exact sixteen
    · rw [Ideal.ofBits_zero_bf16]
      norm_cast

variable (m : (ℓ : Loc nD τ sig) → Buf (Elt Ideal) ℓ)

/-- The region finds the two matrices in place. -/
theorem V_signs (c : Dev nD) : V m c main_cst = fun i => Ideal.ofBits .bf16 (lit0 (S128x128.rowMajor i)) := by
  show StableHlo.after hostOps0 _ (Proc.devRef .tc main_cst) = _
  unfold hostOps0
  simp only [StableHlo.after_cons, StableHlo.after_nil]
  refine (StableHlo.nullary_result_ne (y := main_cst_0) (r := main_cst) _ _ _ (by decide)).trans ?_
  exact StableHlo.nullary_result _ _ _ _
theorem V_places (c : Dev nD) : V m c main_cst_0 = fun i => Ideal.ofBits .bf16 (lit1 (S128x64.rowMajor i)) := by
  show StableHlo.after hostOps0 _ (Proc.devRef .tc main_cst_0) = _
  unfold hostOps0
  simp only [StableHlo.after_cons, StableHlo.after_nil]
  rw [StableHlo.nullary_result]
  rfl

end Cert.QkvIdeal.Run
end
end
-- ==== Proof.Qkv.Stored.lean ====
/- The kernel call QkvIdeal over the extended reals: what its points store, as functions of its arguments. -/
module

public import proofs.«01_k».proof.Proof.Qkv.Block
public import proofs.«01_k».proof.Proof.Qkv.Consts

@[expose] public section

set_option maxRecDepth 16384

noncomputable section

namespace Cert.QkvIdeal.Run

open Idealize.ShloMosaic Idealize.ShloMosaic.TcCoe Idealize.ShloMosaic.Tactic
open Cert.QkvIdeal Cert.QkvIdeal.Gen Cert.Quant Cert.OprojSpec Cert.QkvSpec

/-! ## The windows' places -/

theorem ind0 : ∀ t : Fin cfg0.N, win0_0.index t = ![t.val / 6, 0] := (by decide +kernel : ∀ t : Fin grid0.N, win0_0.index t = ![t.val / 6, 0])
theorem ind3 : ∀ t : Fin cfg0.N, win0_3.index t = ![t.val / 6, 0] := (by decide +kernel : ∀ t : Fin grid0.N, win0_3.index t = ![t.val / 6, 0])
theorem ind4 : ∀ t : Fin cfg0.N, win0_4.index t = ![t.val / 6, 0] := (by decide +kernel : ∀ t : Fin grid0.N, win0_4.index t = ![t.val / 6, 0])
theorem ind7 : ∀ t : Fin cfg0.N, win0_7.index t = ![t.val / 6, 0] := (by decide +kernel : ∀ t : Fin grid0.N, win0_7.index t = ![t.val / 6, 0])
theorem ind8 : ∀ t : Fin cfg0.N, win0_8.index t = ![t.val / 6, 0] := (by decide +kernel : ∀ t : Fin grid0.N, win0_8.index t = ![t.val / 6, 0])
theorem ind10 : ∀ t : Fin cfg0.N, win0_10.index t = ![t.val / 6, 0] := (by decide +kernel : ∀ t : Fin grid0.N, win0_10.index t = ![t.val / 6, 0])
theorem ind11 : ∀ t : Fin cfg0.N, win0_11.index t = ![t.val / 6, 0] := (by decide +kernel : ∀ t : Fin grid0.N, win0_11.index t = ![t.val / 6, 0])
theorem ind12 : ∀ t : Fin cfg0.N, win0_12.index t = ![t.val / 6, 0] := (by decide +kernel : ∀ t : Fin grid0.N, win0_12.index t = ![t.val / 6, 0])
theorem ind13 : ∀ t : Fin cfg0.N, win0_13.index t = ![t.val / 6, 0] := (by decide +kernel : ∀ t : Fin grid0.N, win0_13.index t = ![t.val / 6, 0])
theorem ind14 : ∀ t : Fin cfg0.N, win0_14.index t = ![t.val / 6, 0] := (by decide +kernel : ∀ t : Fin grid0.N, win0_14.index t = ![t.val / 6, 0])
theorem ind15 : ∀ t : Fin cfg0.N, win0_15.index t = ![t.val / 6, 0] := (by decide +kernel : ∀ t : Fin grid0.N, win0_15.index t = ![t.val / 6, 0])
theorem ind16 : ∀ t : Fin cfg0.N, win0_16.index t = ![t.val / 6, 0] := (by decide +kernel : ∀ t : Fin grid0.N, win0_16.index t = ![t.val / 6, 0])
theorem ind17 : ∀ t : Fin cfg0.N, win0_17.index t = ![t.val / 6, 0] := (by decide +kernel : ∀ t : Fin grid0.N, win0_17.index t = ![t.val / 6, 0])
theorem ind1 : ∀ t : Fin cfg0.N, win0_1.index t = ![0, t.val % 6] := (by decide +kernel : ∀ t : Fin grid0.N, win0_1.index t = ![0, t.val % 6])
theorem ind2 : ∀ t : Fin cfg0.N, win0_2.index t = ![0, t.val % 6] := (by decide +kernel : ∀ t : Fin grid0.N, win0_2.index t = ![0, t.val % 6])
theorem ind5 : ∀ t : Fin cfg0.N, win0_5.index t = ![0, 0] := (by decide +kernel : ∀ t : Fin grid0.N, win0_5.index t = ![0, 0])
theorem ind6 : ∀ t : Fin cfg0.N, win0_6.index t = ![0, 0] := (by decide +kernel : ∀ t : Fin grid0.N, win0_6.index t = ![0, 0])
theorem ind9 : ∀ t : Fin cfg0.N, win0_9.index t = ![t.val / 6, min (t.val % 6) 3] := (by decide +kernel : ∀ t : Fin grid0.N, win0_9.index t = ![t.val / 6, min (t.val % 6) 3])

/-- The array row of row `R` of a point's row block, and the array column of column `l` of its column block. -/
def rowOf (t : Fin cfg0.N) (R : Fin 512) : Fin 6144 := ⟨t.val / 6 * 512 + R.val, by have h : t.val < 72 := lt_of_lt_of_eq t.isLt N_0; have := R.isLt; omega⟩
def tcol (t : Fin cfg0.N) (l : Fin 1024) : Fin 6144 := ⟨t.val % 6 * 1024 + l.val, by have := l.isLt; omega⟩
theorem rowOf_at (r : ℕ) (hr : r < 6) (t : Fin cfg0.N) (R : Fin 512) : rowOf (at_ r hr t) R = rowOf t R := by
  apply Fin.ext
  show (t.val / 6 * 6 + r) / 6 * 512 + R.val = t.val / 6 * 512 + R.val
  omega
/-- Head `h` of a point's tile among the 48 heads of a row. -/
def gOf (t : Fin cfg0.N) (h : Fin 8) : Fin 48 := ⟨8 * (t.val % 6) + h.val, by have := h.isLt; omega⟩
theorem tcol_in (t : Fin cfg0.N) (h : Fin 8) (d : Fin 128) : tcol t (colIn h d) = colOf (gOf t h) d := by
  apply Fin.ext
  show t.val % 6 * 1024 + (128 * h.val + d.val) = 128 * (8 * (t.val % 6) + h.val) + d.val
  omega

variable (m : (ℓ : Loc nD τ sig) → Buf (Elt Ideal) ℓ)

/-- The five arguments of core `c`. -/
abbrev in0 (c : Dev nD) : Vec Ideal S6144x4096 .bf16 := m ((c.tc : Thread nD τ).loc main_arg0)
abbrev in1 (c : Dev nD) : Vec Ideal S2048x6144 .i8 := m ((c.tc : Thread nD τ).loc main_arg1)
abbrev in2 (c : Dev nD) : Vec Ideal S1x6144 .f32 := m ((c.tc : Thread nD τ).loc main_arg2)
abbrev in3 (c : Dev nD) : Vec Ideal S6144x64 .f32 := m ((c.tc : Thread nD τ).loc main_arg3)
abbrev in4 (c : Dev nD) : Vec Ideal S6144x64 .f32 := m ((c.tc : Thread nD τ).loc main_arg4)

/-- A point's blocks of the arguments and of the two matrices. -/
def blk0 (c : Dev nD) (t : Fin cfg0.N) : Vec Ideal S512x4096 .bf16 := iblk m c 0 t
def blk1 (c : Dev nD) (t : Fin cfg0.N) : Vec Ideal S2048x1024 .i8 := iblk m c 1 t
def blk2 (c : Dev nD) (t : Fin cfg0.N) : Vec Ideal S1x1024 .f32 := iblk m c 2 t
def blk3 (c : Dev nD) (t : Fin cfg0.N) : Vec Ideal S512x64 .f32 := iblk m c 3 t
def blk4 (c : Dev nD) (t : Fin cfg0.N) : Vec Ideal S512x64 .f32 := iblk m c 4 t
def blk5 (c : Dev nD) (t : Fin cfg0.N) : Vec Ideal S128x128 .bf16 := iblk m c 5 t
def blk6 (c : Dev nD) (t : Fin cfg0.N) : Vec Ideal S128x64 .bf16 := iblk m c 6 t

theorem blk0_apply (c : Dev nD) (t : Fin cfg0.N) (R : Fin 512) (k : Fin 4096) : blk0 m c t (ix2 R k) = in0 m c (ix2 (rowOf t R) k) := by
  refine Eq.trans (b := (V m c main_arg0 : Vec Ideal S6144x4096 .bf16) (ix2 (rowOf t R) k)) ?_ (congrFun (V_main_arg0 m c) _)
  unfold blk0 rowOf
  blk_ext [iblk, ind0]
theorem blk1_apply (c : Dev nD) (t : Fin cfg0.N) (k : Fin 2048) (l : Fin 1024) : blk1 m c t (ix2 k l) = in1 m c (ix2 k (tcol t l)) := by
  refine Eq.trans (b := (V m c main_arg1 : Vec Ideal S2048x6144 .i8) (ix2 k (tcol t l))) ?_ (congrFun (V_main_arg1 m c) _)
  unfold blk1 tcol
  blk_ext [iblk, ind1]
theorem blk2_apply (c : Dev nD) (t : Fin cfg0.N) (l : Fin 1024) : blk2 m c t (ix2 0 l) = in2 m c (ix2 0 (tcol t l)) := by
  refine Eq.trans (b := (V m c main_arg2 : Vec Ideal S1x6144 .f32) (ix2 0 (tcol t l))) ?_ (congrFun (V_main_arg2 m c) _)
  unfold blk2 tcol
  blk_ext [iblk, ind2]
theorem blk3_apply (c : Dev nD) (t : Fin cfg0.N) (R : Fin 512) (d : Fin 64) : blk3 m c t (ix2 R d) = in3 m c (ix2 (rowOf t R) d) := by
  refine Eq.trans (b := (V m c main_arg3 : Vec Ideal S6144x64 .f32) (ix2 (rowOf t R) d)) ?_ (congrFun (V_main_arg3 m c) _)
  unfold blk3 rowOf
  blk_ext [iblk, ind3]
theorem blk4_apply (c : Dev nD) (t : Fin cfg0.N) (R : Fin 512) (d : Fin 64) : blk4 m c t (ix2 R d) = in4 m c (ix2 (rowOf t R) d) := by
  refine Eq.trans (b := (V m c main_arg4 : Vec Ideal S6144x64 .f32) (ix2 (rowOf t R) d)) ?_ (congrFun (V_main_arg4 m c) _)
  unfold blk4 rowOf
  blk_ext [iblk, ind4]
theorem blk5_apply (c : Dev nD) (t : Fin cfg0.N) (k : Fin 128) (j : Fin 128) : blk5 m c t (ix2 k j) = ((sgn k j : ℝ) : EReal) := by
  refine Eq.trans (b := (V m c main_cst : Vec Ideal S128x128 .bf16) (ix2 k j)) ?_ ((congrFun (V_signs m c) _).trans (lit0_sgn k j))
  unfold blk5
  blk_ext [iblk, ind5]
theorem blk6_apply (c : Dev nD) (t : Fin cfg0.N) (k : Fin 128) (j : Fin 64) : blk6 m c t (ix2 k j) = ((place k j : ℝ) : EReal) := by
  refine Eq.trans (b := (V m c main_cst_0 : Vec Ideal S128x64 .bf16) (ix2 k j)) ?_ ((congrFun (V_places m c) _).trans (lit1_place k j))
  unfold blk6
  blk_ext [iblk, ind6]

/-! ## What a row block's first point stores -/

/-- Row `r` of the input, the weights, their scales, and the row's cosines and sines. -/
def xr (c : Dev nD) (r : Fin 6144) (k : Fin 4096) : EReal := in0 m c (ix2 r k)
def wt (c : Dev nD) (k : Fin 2048) (l : Fin 6144) : BitVec 8 := in1 m c (ix2 k l)
def wsc (c : Dev nD) (l : Fin 6144) : EReal := in2 m c (ix2 0 l)
def cs (c : Dev nD) (r : Fin 6144) (d : Fin 64) : EReal := in3 m c (ix2 r d)
def sn (c : Dev nD) (r : Fin 6144) (d : Fin 64) : EReal := in4 m c (ix2 r d)
/-- A head of a row, and a head rotated and transformed. -/
def hd (c : Dev nD) (r : Fin 6144) (g : Fin 48) : Fin 128 → EReal := head (xr m c r) (wt m c) (wsc m c) g
def sh (c : Dev nD) (r : Fin 6144) (g : Fin 48) : Fin 128 → EReal := spunHead (xr m c r) (wt m c) (wsc m c) (cs m c r) (sn m c r) g

theorem row_at (c : Dev nD) (t : Fin cfg0.N) (R : Fin 512) : (fun k => blk0 m c (at_ 0 (by decide) t) (ix2 R k)) = xr m c (rowOf t R) :=
  funext fun k => (blk0_apply m c _ R k).trans (by rw [rowOf_at]; rfl)
theorem kept7_apply (c : Dev nD) (t : Fin cfg0.N) (R : Fin 512) (l : Fin 4096) : kept7 m c t (ix2 R l) = xByte (xr m c (rowOf t R)) l := by
  unfold kept7
  rw [outA7_eq]
  exact (byte_apply (blk0 m c _) R l).trans (congrArg (fun x => xByte x l) (row_at m c t R))
theorem kept8_apply (c : Dev nD) (t : Fin cfg0.N) (R : Fin 512) (z : Fin 1) : kept8 m c t (ix2 R z) = xScale (xr m c (rowOf t R)) := by
  unfold kept8
  rw [outA8_eq]
  exact (scale_apply (blk0 m c _) R z).trans (congrArg xScale (row_at m c t R))
theorem keptS_apply (c : Dev nD) (t : Fin cfg0.N) (R : Fin 512) (l : Fin 4096) : keptS m c t (ix2 R l) = xCode (xr m c (rowOf t R)) l := by
  unfold keptS
  rw [outAS_eq]
  exact (stored_apply (blk0 m c _) R l).trans (congrArg (fun x => xCode x l) (row_at m c t R))

/-! ## The tiles and their heads -/

theorem tile_eq (c : Dev nD) (t : Fin cfg0.N) : tile m c t = k0_pay157 (keptS m c t) (blk1 m c t) (kept8 m c t) (blk2 m c t) := by
  unfold tile
  rw [rdS_eq, rd1_eq, rd8_eq, rd2_eq]
  rfl
theorem tile_apply (c : Dev nD) (t : Fin cfg0.N) (R : Fin 512) (l : Fin 1024) :
    tile m c t (ix2 R l) = acc (xr m c (rowOf t R)) (fun k => wt m c k (tcol t l)) (wsc m c (tcol t l)) := by
  rw [tile_eq, product_apply, kept8_apply, blk2_apply]
  simp only [keptS_apply, blk1_apply]
  rfl
theorem head_apply (c : Dev nD) (t : Fin cfg0.N) (g : Fin 8) (R : Fin 512) (d : Fin 128) :
    headOf (tile m c t) g (ix2 R d) = hd m c (rowOf t R) (gOf t g) d := by
  rw [headOf_apply, tile_apply, tcol_in]
  rfl
theorem spunTile_eq (c : Dev nD) (t : Fin cfg0.N) (g : Fin 8) : tileSpun m c t g = spun (turned (headOf (tile m c t) g) (blk3 m c t) (blk4 m c t)) (blk5 m c t) := by
  unfold tileSpun spunOf
  rw [rd3_eq, rd4_eq, rd5_eq]
  rfl
/-- What the values need of the arguments: that the scales of q's and k's columns, the cosines and the sines are real numbers. -/
structure Reals (c : Dev nD) : Prop where
  scales : ∀ l : Fin 6144, l.val < 5120 → IsReal (wsc m c l)
  cosines : ∀ r d, IsReal (cs m c r d)
  sines : ∀ r d, IsReal (sn m c r d)

variable (c : Dev nD) (hr : Reals m c)
include hr
theorem hd_real (r : Fin 6144) (g : Fin 48) (hg : g.val < 40) (d : Fin 128) : IsReal (hd m c r g d) :=
  acc_real _ _ _ (hr.scales _ (by show 128 * g.val + d.val < 5120; omega))
theorem spun_tile_apply (t : Fin cfg0.N) (hk : t.val % 6 ≤ 4) (g : Fin 8) (R : Fin 512) (d : Fin 128) :
    tileSpun m c t g (ix2 R d) = sh m c (rowOf t R) (gOf t g) d := by
  have ht (d : Fin 128) : turned (headOf (tile m c t) g) (blk3 m c t) (blk4 m c t) (ix2 R d) = turn (hd m c (rowOf t R) (gOf t g)) (cs m c (rowOf t R)) (sn m c (rowOf t R)) d := by
    rw [turned_apply]
    simp only [head_apply, blk3_apply, blk4_apply]
    rfl
  rw [spunTile_eq, spun_apply _ _ (blk5_apply m c t) R (fun d => by
    rw [ht]
    exact turn_real _ _ _ (hd_real m c hr _ _ (by show 8 * (t.val % 6) + g.val < 40; omega)) (hr.cosines _) (hr.sines _) d)]
  exact congrArg (fun a => spin a d) (funext ht)
omit hr

/-! ## What the points store -/

theorem gOf_hd (t : Fin cfg0.N) (g : Fin 8) (R : Fin 512) : (fun d => headOf (tile m c t) g (ix2 R d)) = hd m c (rowOf t R) (gOf t g) := funext fun d => head_apply m c t g R d
theorem place6 (t : Fin cfg0.N) (k : Fin 128) (j : Fin 64) : rd6 t (iblk m c 6 t) (ix2 k j) = ((place k j : ℝ) : EReal) := by
  rw [rd6_eq]
  exact blk6_apply m c t k j
include hr in
theorem gOf_sh (t : Fin cfg0.N) (hk : t.val % 6 ≤ 4) (g : Fin 8) (R : Fin 512) : (fun d => tileSpun m c t g (ix2 R d)) = sh m c (rowOf t R) (gOf t g) := funext fun d => spun_tile_apply m c hr t hk g R d
include hr in
theorem stored9A (t : Fin cfg0.N) (h : t.val % 6 = 0) (R : Fin 512) (l : Fin 1024) : outA9 m c t h (ix2 R l) = sh m c (rowOf t R) (gOf t (hof l)) (dof l) := by
  rw [outA9_apply]
  exact spun_tile_apply m c hr t (by omega) (hof l) R (dof l)
include hr in
theorem stored9B (t : Fin cfg0.N) (h : t.val % 6 ≠ 0 ∧ t.val % 6 ≤ 3) (R : Fin 512) (l : Fin 1024) : outB9 m c t h (ix2 R l) = sh m c (rowOf t R) (gOf t (hof l)) (dof l) := by
  rw [outB9_apply]
  exact spun_tile_apply m c hr t (by omega) (hof l) R (dof l)
include hr in
theorem stored10 (t : Fin cfg0.N) (h : t.val % 6 = 4) (R : Fin 512) (l : Fin 1024) : outC10 m c t h (ix2 R l) = kvCode (sh m c (rowOf t R) (gOf t (hof l))) (dof l) := by
  rw [outC10_apply, kvCodes_apply, gOf_sh m c hr t (by omega) (hof l) R]
include hr in
theorem stored12 (t : Fin cfg0.N) (h : t.val % 6 = 4) (R : Fin 512) (l : Fin 512) : outC12 m c t h (ix2 R l) = kvByte (sh m c (rowOf t R) (gOf t (hofP l))) (dofP l) := by
  rw [outC12_apply, packed_apply _ _ (place6 m c t), gOf_sh m c hr t (by omega) (hofP l) R]
include hr in
theorem stored14 (t : Fin cfg0.N) (h : t.val % 6 = 4) (R : Fin 512) (g : Fin 8) : outC14 m c t h (ix2 R g) = kvScale (sh m c (rowOf t R) (gOf t g)) := by
  rw [outC14_eq, lanes_apply, steps_apply, gOf_sh m c hr t (by omega) g R]
include hr in
theorem stored15 (t : Fin cfg0.N) (h : t.val % 6 = 4) (R : Fin 512) (g : Fin 8) : outC15 m c t h (ix2 R g) = zeroOf (sh m c (rowOf t R) (gOf t g)) := by
  rw [outC15_eq, lanes_apply, zeros_apply, gOf_sh m c hr t (by omega) g R]
theorem stored11 (t : Fin cfg0.N) (h : t.val % 6 = 5) (R : Fin 512) (l : Fin 1024) : outD11 m c t h (ix2 R l) = kvCode (hd m c (rowOf t R) (gOf t (hof l))) (dof l) := by
  rw [outD11_apply, kvCodes_apply, gOf_hd m c t (hof l) R]
theorem stored13 (t : Fin cfg0.N) (h : t.val % 6 = 5) (R : Fin 512) (l : Fin 512) : outD13 m c t h (ix2 R l) = kvByte (hd m c (rowOf t R) (gOf t (hofP l))) (dofP l) := by
  rw [outD13_apply, packed_apply _ _ (place6 m c t), gOf_hd m c t (hofP l) R]
theorem stored16 (t : Fin cfg0.N) (h : t.val % 6 = 5) (R : Fin 512) (g : Fin 8) : outD16 m c t h (ix2 R g) = kvScale (hd m c (rowOf t R) (gOf t g)) := by
  rw [outD16_eq, lanes_apply, steps_apply, gOf_hd m c t g R]
theorem stored17 (t : Fin cfg0.N) (h : t.val % 6 = 5) (R : Fin 512) (g : Fin 8) : outD17 m c t h (ix2 R g) = zeroOf (hd m c (rowOf t R) (gOf t g)) := by
  rw [outD17_eq, lanes_apply, zeros_apply, gOf_hd m c t g R]

end Cert.QkvIdeal.Run
end
end
-- ==== Proof.Qkv.Ref.lean ====
/- The reference of the projections computes the row functions of `Spec`. -/
module

public import proofs.«01_k».proof.Proof.Gen.RefQIdeal.Read
public import proofs.«01_k».proof.Proof.Qkv.Spec

@[expose] public section

set_option maxRecDepth 16384

noncomputable section

namespace Cert.RefQIdeal.Rows

open Idealize.ShloMosaic Idealize.ShloMosaic.TcCoe Idealize.ShloMosaic.Tactic
open Cert.RefQIdeal Cert.RefQIdeal.Gen Cert.RefQIdeal.Read Cert.Quant Cert.OprojSpec Cert.QkvSpec

variable (x0 : Vec Ideal S6144x4096 .bf16) (x1 : Vec Ideal S2048x6144 .i8) (x2 : Vec Ideal S1x6144 .f32) (x3 x4 : Vec Ideal S6144x64 .f32)

/-! ## The rows and their codes -/

/-- The normalised rows. -/
theorem v10_eq (r : Fin 6144) (l : Fin 4096) : val_main_v10 (F := Ideal) x0 (ix2 r l) = normRow (fun k => x0 (ix2 r k)) l := by
  rw [val_main_v10_apply, val_main_v9_apply, val_main_v8_apply, val_main_v7_apply, val_main_v6_apply, val_main_v5_apply, val_main_v4_apply, val_main_v3_apply, val_main_v2_apply, val_main_cst_apply, val_main_cst_0_apply, val_main_cst_1_apply, val_main_v0_apply]
  have e (k : Fin 4096) : idx_main_v2 (idx_main_v3 (idx_main_v9 (ix2 r l))) k = ix2 r k := funext fun a => match a with | ⟨0, _⟩ => rfl | ⟨1, _⟩ => rfl
  simp only [e, val_main_v1_apply, val_main_v0_apply]
  rw [show FloatOps.ofBits (F := Ideal) .f32 0#32 = 0 from Ideal.ofBits_zero_f32, zero_add]
  rfl
/-- The largest magnitudes. -/
theorem v12_eq (r : Fin 6144) : val_main_v12 (F := Ideal) x0 (ix1 r) = amax (normRow fun k => x0 (ix2 r k)) := by
  pointwise [val_main_v12, val_main_cst_2, val_main_v11]
  simp only [v10_eq]
  rfl
/-- The scales. -/
theorem v20_eq (r : Fin 6144) : val_main_v20 (F := Ideal) x0 (ix1 r) = xScale fun k => x0 (ix2 r k) := by
  rw [val_main_v20_apply, val_main_v14_apply, val_main_v15_apply, val_main_v19_apply, val_main_v18_apply, val_main_v17_apply, val_main_v16_apply, val_main_v13_apply, val_main_cst_3_apply, val_main_cst_4_apply, val_main_cst_5_apply, val_main_cst_6_apply, v12_eq]
  unfold xScale
  generalize amax (normRow fun k => x0 (ix2 r k)) = a
  exact select_scale a
/-- The codes. -/
theorem v30_eq (r : Fin 6144) (l : Fin 4096) : val_main_v30 (F := Ideal) x0 (ix2 r l) = xByte (fun k => x0 (ix2 r k)) l := by
  rw [val_main_v30_apply, val_main_v29_apply, val_main_v28_apply, val_main_v27_apply, val_main_v26_apply, val_main_v25_apply, val_main_v24_apply, val_main_v23_apply, val_main_v22_apply, val_main_v21_apply, val_main_cst_7_apply, val_main_cst_8_apply]
  rw [show idx_main_v21 (idx_main_v22 (ix2 r l)) = ix1 r from funext fun a => match a with | ⟨0, _⟩ => rfl, v10_eq, v20_eq]
  exact host_code _ _
/-- The scales as a column. -/
theorem v181_eq (r : Fin 6144) (z : Fin 1) : val_main_v181 (F := Ideal) x0 (ix2 r z) = xScale fun k => x0 (ix2 r k) := by
  rw [val_main_v181_apply, show idx_main_v181 (ix2 r z) = ix1 r from funext fun a => match a with | ⟨0, _⟩ => rfl, v20_eq]

/-! ## The product -/

theorem v35_eq (r : Fin 6144) (k : Fin 2048) : val_main_v35 (F := Ideal) x0 (ix2 r k) = xCode (fun k => x0 (ix2 r k)) ⟨2 * k.val, by have := k.isLt; omega⟩ := by
  pointwise [val_main_v35, val_main_v33, val_main_v32, val_main_v31]
  rw [v30_eq]
  exact byte_float _ _
theorem v46_eq (r : Fin 6144) (k : Fin 2048) : val_main_v46 (F := Ideal) x0 (ix2 r k) = xCode (fun k => x0 (ix2 r k)) ⟨1 + 2 * k.val, by have := k.isLt; omega⟩ := by
  pointwise [val_main_v46, val_main_v33, val_main_v32, val_main_v31]
  rw [v30_eq]
  exact byte_float _ _
theorem v44_eq (k : Fin 2048) (l : Fin 6144) : val_main_v44 (F := Ideal) x1 (ix2 k l) = ((nibLo (x1 (ix2 k l)) : ℝ) : EReal) := by
  pointwise [val_main_v44, val_main_v43, val_main_v42, val_main_v41, val_main_v40, val_main_v39, val_main_v38, val_main_v37, val_main_v36, val_main_v34, val_main_c, val_main_c_9, val_main_c_10]
  rw [← lo_select]
  rfl
theorem v55_eq (k : Fin 2048) (l : Fin 6144) : val_main_v55 (F := Ideal) x1 (ix2 k l) = ((nibHi (x1 (ix2 k l)) : ℝ) : EReal) := by
  pointwise [val_main_v55, val_main_v54, val_main_v53, val_main_v52, val_main_v51, val_main_v50, val_main_v49, val_main_v48, val_main_v47, val_main_v34, val_main_c_11, val_main_c_12, val_main_c_13]
  rw [← hi_select]
  rfl
/-- The product with the weights. -/
theorem v62_eq (r : Fin 6144) (l : Fin 6144) : val_main_v62 (F := Ideal) x0 x1 x2 (ix2 r l)
    = acc (fun k => x0 (ix2 r k)) (fun k => x1 (ix2 k l)) (x2 (ix2 0 l)) := by
  rw [val_main_v62_apply, val_main_v61_apply, val_main_v60_apply, val_main_v59_apply, val_main_v58_apply, val_main_v57_apply, val_main_v56_apply, val_main_v45_apply]
  rw [show idx_main_v58 (idx_main_v59 (ix2 r l)) = ix1 r from funext fun a => match a with | ⟨0, _⟩ => rfl, v20_eq]
  rw [show idx_main_v61 (ix2 r l) = ix2 0 l from funext fun a => match a with | ⟨0, _⟩ => rfl | ⟨1, _⟩ => rfl]
  unfold acc
  rw [sum_nib]
  have e (k : Fin 2048) : lidx_main_v45 (ix2 r l) k = ix2 r k := funext fun a => match a with | ⟨0, _⟩ => rfl | ⟨1, _⟩ => rfl
  have e' (k : Fin 2048) : ridx_main_v45 (ix2 r l) k = ix2 k l := funext fun a => match a with | ⟨0, _⟩ => rfl | ⟨1, _⟩ => rfl
  have e2 (k : Fin 2048) : lidx_main_v56 (ix2 r l) k = ix2 r k := funext fun a => match a with | ⟨0, _⟩ => rfl | ⟨1, _⟩ => rfl
  have e2' (k : Fin 2048) : ridx_main_v56 (ix2 r l) k = ix2 k l := funext fun a => match a with | ⟨0, _⟩ => rfl | ⟨1, _⟩ => rfl
  simp only [e, e', e2, e2', v35_eq, v46_eq, v44_eq, v55_eq]
  rfl

/-! ## The heads -/

/-- Head `g` of row `r` of the product. -/
abbrev hd (r : Fin 6144) (g : Fin 48) : Fin 128 → EReal :=
  head (fun k => x0 (ix2 r k)) (fun k l => x1 (ix2 k l)) (fun l => x2 (ix2 0 l)) g
/-- Head `g` of row `r`, rotated and transformed. -/
abbrev sh (r : Fin 6144) (g : Fin 48) : Fin 128 → EReal :=
  spunHead (fun k => x0 (ix2 r k)) (fun k l => x1 (ix2 k l)) (fun l => x2 (ix2 0 l)) (fun d => x3 (ix2 r d)) (fun d => x4 (ix2 r d)) g

theorem v66_eq (r : Fin 6144) (h : Fin 32) (d : Fin 128) : val_main_v66 (F := Ideal) x0 x1 x2 (ix3 r h d) = hd x0 x1 x2 r (gq h) d := by
  have hr := r.isLt
  have hh := h.isLt
  have hd := d.isLt
  rw [val_main_v66_apply, val_main_v63_apply, show idx_main_v63 (idx_main_v66 (ix3 r h d)) = ix2 r (colOf (gq h) d) from funext fun a => match a with
    | ⟨0, _⟩ => Fin.ext (show ((r.val * 32 + h.val) * 128 + d.val) / 4096 = r.val by omega)
    | ⟨1, _⟩ => Fin.ext (show ((r.val * 32 + h.val) * 128 + d.val) % 4096 = 128 * (h.val) + d.val by omega), v62_eq]
  rfl
theorem v67_eq (r : Fin 6144) (h : Fin 8) (d : Fin 128) : val_main_v67 (F := Ideal) x0 x1 x2 (ix3 r h d) = hd x0 x1 x2 r (gk h) d := by
  have hr := r.isLt
  have hh := h.isLt
  have hd := d.isLt
  rw [val_main_v67_apply, val_main_v64_apply, show idx_main_v64 (idx_main_v67 (ix3 r h d)) = ix2 r (colOf (gk h) d) from funext fun a => match a with
    | ⟨0, _⟩ => Fin.ext (show ((r.val * 8 + h.val) * 128 + d.val) / 1024 = r.val by omega)
    | ⟨1, _⟩ => Fin.ext (show 4096 + ((r.val * 8 + h.val) * 128 + d.val) % 1024 = 128 * (32 + h.val) + d.val by omega), v62_eq]
  rfl
theorem v68_eq (r : Fin 6144) (h : Fin 8) (d : Fin 128) : val_main_v68 (F := Ideal) x0 x1 x2 (ix3 r h d) = hd x0 x1 x2 r (gv h) d := by
  have hr := r.isLt
  have hh := h.isLt
  have hd := d.isLt
  rw [val_main_v68_apply, val_main_v65_apply, show idx_main_v65 (idx_main_v68 (ix3 r h d)) = ix2 r (colOf (gv h) d) from funext fun a => match a with
    | ⟨0, _⟩ => Fin.ext (show ((r.val * 8 + h.val) * 128 + d.val) / 1024 = r.val by omega)
    | ⟨1, _⟩ => Fin.ext (show 5120 + ((r.val * 8 + h.val) * 128 + d.val) % 1024 = 128 * (40 + h.val) + d.val by omega), v62_eq]
  rfl
/-- The matrix of signs. -/
theorem v84_eq (g h : Fin 128) : val_main_v84 (F := Ideal) (ix2 g h) = ((sgn g h : ℝ) : EReal) := by
  pointwise [val_main_v84, val_main_v83, val_main_v82, val_main_v81, val_main_v80, val_main_v79, val_main_v78, val_main_v77, val_main_v76, val_main_v75, val_main_v74, val_main_v73, val_main_v72, val_main_v71, val_main_c_14, val_main_c_15, val_main_c_16]
  rfl
/-- A rotated head of q. -/
theorem v97_eq (r : Fin 6144) (h : Fin 32) (d : Fin 128) : val_main_v97 (F := Ideal) x0 x1 x2 x3 x4 (ix3 r h d)
    = turn (hd x0 x1 x2 r (gq h)) (fun d => x3 (ix2 r d)) (fun d => x4 (ix2 r d)) d := by
  unfold val_main_v97
  generalize hA : val_main_v91 (F := Ideal) x0 x1 x2 x3 x4 = A
  generalize hB : val_main_v96 (F := Ideal) x0 x1 x2 x3 x4 = B
  pointwise []
  unfold turn
  by_cases hlt : d.val < 64
  · rw [dif_pos hlt, dif_pos hlt, ← hA]
    rw [val_main_v91_apply, val_main_v88_apply, val_main_v90_apply, val_main_v85_apply, val_main_v86_apply, val_main_v87_apply, val_main_v89_apply, val_main_v69_apply, val_main_v70_apply]
    have e1 : idx_main_v85 (ix3 r h ⟨d.val, hlt⟩) = ix3 r h d := funext fun a => match a with | ⟨0, _⟩ => rfl | ⟨1, _⟩ => rfl | ⟨2, _⟩ => rfl
    have e2 : idx_main_v86 (ix3 r h ⟨d.val, hlt⟩) = ix3 r h ⟨d.val + 64, by omega⟩ := funext fun a => match a with | ⟨0, _⟩ => rfl | ⟨1, _⟩ => rfl | ⟨2, _⟩ => Fin.ext (Nat.add_comm 64 d.val)
    have e3 : idx_main_v69 (idx_main_v87 (ix3 r h ⟨d.val, hlt⟩)) = ix2 r ⟨d.val, hlt⟩ := funext fun a => match a with | ⟨0, _⟩ => rfl | ⟨1, _⟩ => rfl
    have e4 : idx_main_v70 (idx_main_v89 (ix3 r h ⟨d.val, hlt⟩)) = ix2 r ⟨d.val, hlt⟩ := funext fun a => match a with | ⟨0, _⟩ => rfl | ⟨1, _⟩ => rfl
    rw [e1, e2, e3, e4, v66_eq, v66_eq]
    rfl
  · have hd := d.isLt
    rw [dif_neg hlt, dif_neg hlt, ← hB]
    rw [val_main_v96_apply, val_main_v93_apply, val_main_v95_apply, val_main_v85_apply, val_main_v86_apply, val_main_v92_apply, val_main_v94_apply, val_main_v69_apply, val_main_v70_apply]
    have e1 : idx_main_v85 (ix3 r h ⟨d.val - 64, by omega⟩) = ix3 r h ⟨d.val - 64, by omega⟩ := funext fun a => match a with | ⟨0, _⟩ => rfl | ⟨1, _⟩ => rfl | ⟨2, _⟩ => rfl
    have e2 : idx_main_v86 (ix3 r h ⟨d.val - 64, by omega⟩) = ix3 r h d := funext fun a => match a with | ⟨0, _⟩ => rfl | ⟨1, _⟩ => rfl | ⟨2, _⟩ => Fin.ext (show 64 + (d.val - 64) = d.val by omega)
    have e3 : idx_main_v69 (idx_main_v92 (ix3 r h ⟨d.val - 64, by omega⟩)) = ix2 r ⟨d.val - 64, by omega⟩ := funext fun a => match a with | ⟨0, _⟩ => rfl | ⟨1, _⟩ => rfl
    have e4 : idx_main_v70 (idx_main_v94 (ix3 r h ⟨d.val - 64, by omega⟩)) = ix2 r ⟨d.val - 64, by omega⟩ := funext fun a => match a with | ⟨0, _⟩ => rfl | ⟨1, _⟩ => rfl
    rw [e1, e2, e3, e4, v66_eq, v66_eq]
    rfl
/-- A head of q, rotated and transformed. -/
theorem v100_eq (r : Fin 6144) (h : Fin 32) (d : Fin 128) : val_main_v100 (F := Ideal) x0 x1 x2 x3 x4 (ix3 r h d) = sh x0 x1 x2 x3 x4 r (gq h) d := by
  rw [val_main_v100_apply, val_main_v99_apply, val_main_v98_apply, val_main_cst_17_apply]
  have e (k : Fin 128) : lidx_main_v98 (ix3 r h d) k = ix3 r h k := funext fun a => match a with | ⟨0, _⟩ => rfl | ⟨1, _⟩ => rfl | ⟨2, _⟩ => rfl
  have e' (k : Fin 128) : ridx_main_v98 (ix3 r h d) k = ix2 k d := funext fun a => match a with | ⟨0, _⟩ => rfl | ⟨1, _⟩ => rfl
  simp only [e, e', v97_eq, v84_eq]
  rfl
/-- A rotated head of k. -/
theorem v113_eq (r : Fin 6144) (h : Fin 8) (d : Fin 128) : val_main_v113 (F := Ideal) x0 x1 x2 x3 x4 (ix3 r h d)
    = turn (hd x0 x1 x2 r (gk h)) (fun d => x3 (ix2 r d)) (fun d => x4 (ix2 r d)) d := by
  unfold val_main_v113
  generalize hA : val_main_v107 (F := Ideal) x0 x1 x2 x3 x4 = A
  generalize hB : val_main_v112 (F := Ideal) x0 x1 x2 x3 x4 = B
  pointwise []
  unfold turn
  by_cases hlt : d.val < 64
  · rw [dif_pos hlt, dif_pos hlt, ← hA]
    rw [val_main_v107_apply, val_main_v104_apply, val_main_v106_apply, val_main_v101_apply, val_main_v102_apply, val_main_v103_apply, val_main_v105_apply, val_main_v69_apply, val_main_v70_apply]
    have e1 : idx_main_v101 (ix3 r h ⟨d.val, hlt⟩) = ix3 r h d := funext fun a => match a with | ⟨0, _⟩ => rfl | ⟨1, _⟩ => rfl | ⟨2, _⟩ => rfl
    have e2 : idx_main_v102 (ix3 r h ⟨d.val, hlt⟩) = ix3 r h ⟨d.val + 64, by omega⟩ := funext fun a => match a with | ⟨0, _⟩ => rfl | ⟨1, _⟩ => rfl | ⟨2, _⟩ => Fin.ext (Nat.add_comm 64 d.val)
    have e3 : idx_main_v69 (idx_main_v103 (ix3 r h ⟨d.val, hlt⟩)) = ix2 r ⟨d.val, hlt⟩ := funext fun a => match a with | ⟨0, _⟩ => rfl | ⟨1, _⟩ => rfl
    have e4 : idx_main_v70 (idx_main_v105 (ix3 r h ⟨d.val, hlt⟩)) = ix2 r ⟨d.val, hlt⟩ := funext fun a => match a with | ⟨0, _⟩ => rfl | ⟨1, _⟩ => rfl
    rw [e1, e2, e3, e4, v67_eq, v67_eq]
    rfl
  · have hd := d.isLt
    rw [dif_neg hlt, dif_neg hlt, ← hB]
    rw [val_main_v112_apply, val_main_v109_apply, val_main_v111_apply, val_main_v101_apply, val_main_v102_apply, val_main_v108_apply, val_main_v110_apply, val_main_v69_apply, val_main_v70_apply]
    have e1 : idx_main_v101 (ix3 r h ⟨d.val - 64, by omega⟩) = ix3 r h ⟨d.val - 64, by omega⟩ := funext fun a => match a with | ⟨0, _⟩ => rfl | ⟨1, _⟩ => rfl | ⟨2, _⟩ => rfl
    have e2 : idx_main_v102 (ix3 r h ⟨d.val - 64, by omega⟩) = ix3 r h d := funext fun a => match a with | ⟨0, _⟩ => rfl | ⟨1, _⟩ => rfl | ⟨2, _⟩ => Fin.ext (show 64 + (d.val - 64) = d.val by omega)
    have e3 : idx_main_v69 (idx_main_v108 (ix3 r h ⟨d.val - 64, by omega⟩)) = ix2 r ⟨d.val - 64, by omega⟩ := funext fun a => match a with | ⟨0, _⟩ => rfl | ⟨1, _⟩ => rfl
    have e4 : idx_main_v70 (idx_main_v110 (ix3 r h ⟨d.val - 64, by omega⟩)) = ix2 r ⟨d.val - 64, by omega⟩ := funext fun a => match a with | ⟨0, _⟩ => rfl | ⟨1, _⟩ => rfl
    rw [e1, e2, e3, e4, v67_eq, v67_eq]
    rfl
/-- A head of k, rotated and transformed. -/
theorem v116_eq (r : Fin 6144) (h : Fin 8) (d : Fin 128) : val_main_v116 (F := Ideal) x0 x1 x2 x3 x4 (ix3 r h d) = sh x0 x1 x2 x3 x4 r (gk h) d := by
  rw [val_main_v116_apply, val_main_v115_apply, val_main_v114_apply, val_main_cst_18_apply]
  have e (k : Fin 128) : lidx_main_v114 (ix3 r h d) k = ix3 r h k := funext fun a => match a with | ⟨0, _⟩ => rfl | ⟨1, _⟩ => rfl | ⟨2, _⟩ => rfl
  have e' (k : Fin 128) : ridx_main_v114 (ix3 r h d) k = ix2 k d := funext fun a => match a with | ⟨0, _⟩ => rfl | ⟨1, _⟩ => rfl
  simp only [e, e', v113_eq, v84_eq]
  rfl
/-- The heads of q side by side. -/
theorem v183_eq (r : Fin 6144) (l : Fin 4096) : val_main_v183 (F := Ideal) x0 x1 x2 x3 x4 (ix2 r l)
    = sh x0 x1 x2 x3 x4 r (gq ⟨l.val / 128, by have := l.isLt; omega⟩) ⟨l.val % 128, Nat.mod_lt _ (by decide)⟩ := by
  have hr := r.isLt
  have hl := l.isLt
  rw [val_main_v183_apply, val_main_v182_apply, show idx_main_v182 (ix2 r l) = ix3 r ⟨l.val / 128, by omega⟩ ⟨l.val % 128, Nat.mod_lt _ (by decide)⟩ from funext fun a => match a with
    | ⟨0, _⟩ => Fin.ext (show (r.val * 4096 + l.val) / 4096 = r.val by omega)
    | ⟨1, _⟩ => Fin.ext (show (r.val * 4096 + l.val) / 128 % 32 = l.val / 128 by omega)
    | ⟨2, _⟩ => Fin.ext (show (r.val * 4096 + l.val) % 128 = l.val % 128 by omega), v100_eq]
  rfl

/-! ## The quantiser of keys and values -/

theorem v117_eq (r : Fin 6144) (h : Fin 8) : val_main_v117 (F := Ideal) x0 x1 x2 x3 x4 (ix2 r h)
    = Finset.univ.fold min (Ideal.ofBits .f32 0x7F800000#32) fun d => val_main_v116 (F := Ideal) x0 x1 x2 x3 x4 (ix3 r h d) := by
  unfold val_main_v117
  generalize val_main_v116 (F := Ideal) x0 x1 x2 x3 x4 = y
  pointwise [val_main_cst_19]
theorem v119_eq (r : Fin 6144) (h : Fin 8) : val_main_v119 (F := Ideal) x0 x1 x2 x3 x4 (ix2 r h) = zeroOf (sh x0 x1 x2 x3 x4 r (gk h)) := by
  rw [val_main_v119_apply, val_main_v118_apply, v117_eq, val_main_cst_20_apply, funext (fun d => v116_eq x0 x1 x2 x3 x4 r h d)]
  rfl
theorem v120_eq (r : Fin 6144) (h : Fin 8) : val_main_v120 (F := Ideal) x0 x1 x2 x3 x4 (ix2 r h)
    = Finset.univ.fold max (Ideal.ofBits .f32 0xFF800000#32) fun d => val_main_v116 (F := Ideal) x0 x1 x2 x3 x4 (ix3 r h d) := by
  unfold val_main_v120
  generalize val_main_v116 (F := Ideal) x0 x1 x2 x3 x4 = y
  pointwise [val_main_cst_21]
theorem v122_eq (r : Fin 6144) (h : Fin 8) : val_main_v122 (F := Ideal) x0 x1 x2 x3 x4 (ix2 r h) = topOf (sh x0 x1 x2 x3 x4 r (gk h)) := by
  rw [val_main_v122_apply, val_main_v121_apply, v120_eq, val_main_cst_22_apply, funext (fun d => v116_eq x0 x1 x2 x3 x4 r h d)]
  rfl
theorem v128_eq (r : Fin 6144) (h : Fin 8) : val_main_v128 (F := Ideal) x0 x1 x2 x3 x4 (ix2 r h) = kvScale (sh x0 x1 x2 x3 x4 r (gk h)) := by
  rw [val_main_v128_apply, val_main_v127_apply, val_main_v126_apply, val_main_v125_apply, val_main_v124_apply, val_main_v123_apply, val_main_cst_23_apply, val_main_cst_24_apply, v119_eq, v122_eq]
  exact select_step _ _
theorem v140_eq (r : Fin 6144) (h : Fin 8) (d : Fin 128) : val_main_v140 (F := Ideal) x0 x1 x2 x3 x4 (ix3 r h d) = Ideal.fptosi 32 (kvCode (sh x0 x1 x2 x3 x4 r (gk h)) d) := by
  rw [val_main_v140_apply, val_main_v139_apply, val_main_v138_apply, val_main_v137_apply, val_main_v136_apply, val_main_v135_apply, val_main_v134_apply, val_main_v133_apply, val_main_v132_apply, val_main_v131_apply, val_main_v130_apply, val_main_v129_apply, val_main_cst_25_apply, val_main_cst_26_apply]
  rw [show idx_main_v129 (idx_main_v130 (ix3 r h d)) = ix2 r h from funext fun a => match a with | ⟨0, _⟩ => rfl | ⟨1, _⟩ => rfl,
    show idx_main_v132 (idx_main_v133 (ix3 r h d)) = ix2 r h from funext fun a => match a with | ⟨0, _⟩ => rfl | ⟨1, _⟩ => rfl, v119_eq, v128_eq, v116_eq]
  exact host_code4 _ _
theorem v184_eq (r : Fin 6144) (l : Fin 1024) : val_main_v184 (F := Ideal) x0 x1 x2 x3 x4 (ix2 r l)
    = kvCode (sh x0 x1 x2 x3 x4 r (gk ⟨l.val / 128, by have := l.isLt; omega⟩)) ⟨l.val % 128, Nat.mod_lt _ (by decide)⟩ := by
  have hr := r.isLt
  have hl := l.isLt
  rw [val_main_v184_apply, show idx_main_v184 (ix2 r l) = ix3 r ⟨l.val / 128, by omega⟩ ⟨l.val % 128, Nat.mod_lt _ (by decide)⟩ from funext fun a => match a with
    | ⟨0, _⟩ => Fin.ext (show (r.val * 1024 + l.val) / 1024 = r.val by omega)
    | ⟨1, _⟩ => Fin.ext (show (r.val * 1024 + l.val) / 128 % 8 = l.val / 128 by omega)
    | ⟨2, _⟩ => Fin.ext (show (r.val * 1024 + l.val) % 128 = l.val % 128 by omega), val_main_v148_apply, val_main_v147_apply, v140_eq]
  exact code4_back _ _
theorem v186_eq (r : Fin 6144) (l : Fin 512) : val_main_v186 (F := Ideal) x0 x1 x2 x3 x4 (ix2 r l)
    = kvByte (sh x0 x1 x2 x3 x4 r (gk ⟨l.val / 64, by have := l.isLt; omega⟩)) ⟨l.val % 64, Nat.mod_lt _ (by decide)⟩ := by
  have hr := r.isLt
  have hl := l.isLt
  rw [val_main_v186_apply, show idx_main_v186 (ix2 r l) = ix3 r ⟨l.val / 64, by omega⟩ ⟨l.val % 64, Nat.mod_lt _ (by decide)⟩ from funext fun a => match a with
    | ⟨0, _⟩ => Fin.ext (show (r.val * 512 + l.val) / 512 = r.val by omega)
    | ⟨1, _⟩ => Fin.ext (show (r.val * 512 + l.val) / 64 % 8 = l.val / 64 by omega)
    | ⟨2, _⟩ => Fin.ext (show (r.val * 512 + l.val) % 64 = l.val % 64 by omega)]
  generalize (⟨l.val / 64, by omega⟩ : Fin 8) = h
  generalize (⟨l.val % 64, Nat.mod_lt _ (by decide)⟩ : Fin 64) = j
  pointwise [val_main_v146, val_main_v145, val_main_v144, val_main_v143, val_main_v142, val_main_v141, val_main_c_27]
  rw [v140_eq, v140_eq]
  rfl
theorem v149_eq (r : Fin 6144) (h : Fin 8) : val_main_v149 (F := Ideal) x0 x1 x2 (ix2 r h)
    = Finset.univ.fold min (Ideal.ofBits .f32 0x7F800000#32) fun d => val_main_v68 (F := Ideal) x0 x1 x2 (ix3 r h d) := by
  unfold val_main_v149
  generalize val_main_v68 (F := Ideal) x0 x1 x2 = y
  pointwise [val_main_cst_28]
theorem v151_eq (r : Fin 6144) (h : Fin 8) : val_main_v151 (F := Ideal) x0 x1 x2 (ix2 r h) = zeroOf (hd x0 x1 x2 r (gv h)) := by
  rw [val_main_v151_apply, val_main_v150_apply, v149_eq, val_main_cst_29_apply, funext (fun d => v68_eq x0 x1 x2 r h d)]
  rfl
theorem v152_eq (r : Fin 6144) (h : Fin 8) : val_main_v152 (F := Ideal) x0 x1 x2 (ix2 r h)
    = Finset.univ.fold max (Ideal.ofBits .f32 0xFF800000#32) fun d => val_main_v68 (F := Ideal) x0 x1 x2 (ix3 r h d) := by
  unfold val_main_v152
  generalize val_main_v68 (F := Ideal) x0 x1 x2 = y
  pointwise [val_main_cst_30]
theorem v154_eq (r : Fin 6144) (h : Fin 8) : val_main_v154 (F := Ideal) x0 x1 x2 (ix2 r h) = topOf (hd x0 x1 x2 r (gv h)) := by
  rw [val_main_v154_apply, val_main_v153_apply, v152_eq, val_main_cst_31_apply, funext (fun d => v68_eq x0 x1 x2 r h d)]
  rfl
theorem v160_eq (r : Fin 6144) (h : Fin 8) : val_main_v160 (F := Ideal) x0 x1 x2 (ix2 r h) = kvScale (hd x0 x1 x2 r (gv h)) := by
  rw [val_main_v160_apply, val_main_v159_apply, val_main_v158_apply, val_main_v157_apply, val_main_v156_apply, val_main_v155_apply, val_main_cst_32_apply, val_main_cst_33_apply, v151_eq, v154_eq]
  exact select_step _ _
theorem v172_eq (r : Fin 6144) (h : Fin 8) (d : Fin 128) : val_main_v172 (F := Ideal) x0 x1 x2 (ix3 r h d) = Ideal.fptosi 32 (kvCode (hd x0 x1 x2 r (gv h)) d) := by
  rw [val_main_v172_apply, val_main_v171_apply, val_main_v170_apply, val_main_v169_apply, val_main_v168_apply, val_main_v167_apply, val_main_v166_apply, val_main_v165_apply, val_main_v164_apply, val_main_v163_apply, val_main_v162_apply, val_main_v161_apply, val_main_cst_34_apply, val_main_cst_35_apply]
  rw [show idx_main_v161 (idx_main_v162 (ix3 r h d)) = ix2 r h from funext fun a => match a with | ⟨0, _⟩ => rfl | ⟨1, _⟩ => rfl,
    show idx_main_v164 (idx_main_v165 (ix3 r h d)) = ix2 r h from funext fun a => match a with | ⟨0, _⟩ => rfl | ⟨1, _⟩ => rfl, v151_eq, v160_eq, v68_eq]
  exact host_code4 _ _
theorem v185_eq (r : Fin 6144) (l : Fin 1024) : val_main_v185 (F := Ideal) x0 x1 x2 (ix2 r l)
    = kvCode (hd x0 x1 x2 r (gv ⟨l.val / 128, by have := l.isLt; omega⟩)) ⟨l.val % 128, Nat.mod_lt _ (by decide)⟩ := by
  have hr := r.isLt
  have hl := l.isLt
  rw [val_main_v185_apply, show idx_main_v185 (ix2 r l) = ix3 r ⟨l.val / 128, by omega⟩ ⟨l.val % 128, Nat.mod_lt _ (by decide)⟩ from funext fun a => match a with
    | ⟨0, _⟩ => Fin.ext (show (r.val * 1024 + l.val) / 1024 = r.val by omega)
    | ⟨1, _⟩ => Fin.ext (show (r.val * 1024 + l.val) / 128 % 8 = l.val / 128 by omega)
    | ⟨2, _⟩ => Fin.ext (show (r.val * 1024 + l.val) % 128 = l.val % 128 by omega), val_main_v180_apply, val_main_v179_apply, v172_eq]
  exact code4_back _ _
theorem v187_eq (r : Fin 6144) (l : Fin 512) : val_main_v187 (F := Ideal) x0 x1 x2 (ix2 r l)
    = kvByte (hd x0 x1 x2 r (gv ⟨l.val / 64, by have := l.isLt; omega⟩)) ⟨l.val % 64, Nat.mod_lt _ (by decide)⟩ := by
  have hr := r.isLt
  have hl := l.isLt
  rw [val_main_v187_apply, show idx_main_v187 (ix2 r l) = ix3 r ⟨l.val / 64, by omega⟩ ⟨l.val % 64, Nat.mod_lt _ (by decide)⟩ from funext fun a => match a with
    | ⟨0, _⟩ => Fin.ext (show (r.val * 512 + l.val) / 512 = r.val by omega)
    | ⟨1, _⟩ => Fin.ext (show (r.val * 512 + l.val) / 64 % 8 = l.val / 64 by omega)
    | ⟨2, _⟩ => Fin.ext (show (r.val * 512 + l.val) % 64 = l.val % 64 by omega)]
  generalize (⟨l.val / 64, by omega⟩ : Fin 8) = h
  generalize (⟨l.val % 64, Nat.mod_lt _ (by decide)⟩ : Fin 64) = j
  pointwise [val_main_v178, val_main_v177, val_main_v176, val_main_v175, val_main_v174, val_main_v173, val_main_c_36]
  rw [v172_eq, v172_eq]
  rfl

end Cert.RefQIdeal.Rows
end
end
-- ==== Proof.Qkv.Value.lean ====
/- The kernel call QkvIdeal over the extended reals: its eleven result arrays are the reference's. -/
module

public import proofs.«01_k».proof.Proof.Qkv.Stored
public import proofs.«01_k».proof.Proof.Qkv.Ref
public import proofs.«01_k».proof.Defs
public import proofs.«01_k».proof.Proof.Gen.Pre_finite_rows
public import proofs.«01_k».proof.Proof.Gen.RefQIdeal.Run
public import Idealize.ShloMosaic.Lib.Quiescent

@[expose] public section

set_option maxRecDepth 16384

noncomputable section

namespace Cert.QkvIdeal.Run

open Idealize.ShloMosaic Idealize.ShloMosaic.TcCoe Idealize.ShloMosaic.Tactic Idealize.SL.Sem
open Cert.QkvIdeal Cert.QkvIdeal.Gen Cert.Quant Cert.OprojSpec Cert.QkvSpec

/-! ## The result arrays, each as a function of the arguments -/

variable (m : (ℓ : Loc nD τ sig) → Buf (Elt Ideal) ℓ)

def out7 (c : Dev nD) : Vec Ideal S6144x4096 .i8 := fun i => xByte (xr m c (i 0)) (i 1)
def out8 (c : Dev nD) : Vec Ideal S6144x1 .f32 := fun i => xScale (xr m c (i 0))
def out9 (c : Dev nD) : Vec Ideal S6144x4096 .bf16 := fun i => sh m c (i 0) (gq ⟨(i 1).val / 128, by have h : (i 1).val < 4096 := (i 1).isLt; omega⟩) ⟨(i 1).val % 128, Nat.mod_lt _ (by decide)⟩
def out10 (c : Dev nD) : Vec Ideal S6144x1024 .bf16 := fun i => kvCode (sh m c (i 0) (gk (hof (i 1)))) (dof (i 1))
def out11 (c : Dev nD) : Vec Ideal S6144x1024 .bf16 := fun i => kvCode (hd m c (i 0) (gv (hof (i 1)))) (dof (i 1))
def out12 (c : Dev nD) : Vec Ideal S6144x512 .i8 := fun i => kvByte (sh m c (i 0) (gk (hofP (i 1)))) (dofP (i 1))
def out13 (c : Dev nD) : Vec Ideal S6144x512 .i8 := fun i => kvByte (hd m c (i 0) (gv (hofP (i 1)))) (dofP (i 1))
def out14 (c : Dev nD) : Vec Ideal S6144x8 .f32 := fun i => kvScale (sh m c (i 0) (gk (i 1)))
def out15 (c : Dev nD) : Vec Ideal S6144x8 .f32 := fun i => zeroOf (sh m c (i 0) (gk (i 1)))
def out16 (c : Dev nD) : Vec Ideal S6144x8 .f32 := fun i => kvScale (hd m c (i 0) (gv (i 1)))
def out17 (c : Dev nD) : Vec Ideal S6144x8 .f32 := fun i => zeroOf (hd m c (i 0) (gv (i 1)))

theorem gOf_k (t : Fin cfg0.N) (h : t.val % 6 = 4) (g : Fin 8) : gOf t g = gk g := Fin.ext (by show 8 * (t.val % 6) + g.val = 32 + g.val; omega)
theorem gOf_v (t : Fin cfg0.N) (h : t.val % 6 = 5) (g : Fin 8) : gOf t g = gv g := Fin.ext (by show 8 * (t.val % 6) + g.val = 40 + g.val; omega)
/-- Column `l` of a q tile among the 4096 columns of q. -/
def qcol (t : Fin cfg0.N) (l : Fin 1024) : Fin 4096 := ⟨min (t.val % 6) 3 * 1024 + l.val, by have := l.isLt; omega⟩
theorem gOf_q (t : Fin cfg0.N) (h : t.val % 6 ≤ 3) (l : Fin 1024) : gOf t (hof l) = gq ⟨(qcol t l).val / 128, by have h : (qcol t l).val < 4096 := (qcol t l).isLt; omega⟩ := by
  have hl := l.isLt
  apply Fin.ext
  show 8 * (t.val % 6) + l.val / 128 = (min (t.val % 6) 3 * 1024 + l.val) / 128
  rw [min_eq_left h]
  omega
theorem dof_q (t : Fin cfg0.N) (l : Fin 1024) : dof l = ⟨(qcol t l).val % 128, Nat.mod_lt _ (by decide)⟩ := by
  apply Fin.ext
  show l.val % 128 = (min (t.val % 6) 3 * 1024 + l.val) % 128
  omega
theorem qcol_at (t : Fin cfg0.N) (h : ¬ t.val % 6 ≤ 3) (l : Fin 1024) : qcol (at_ 3 (by decide) t) l = qcol t l := by
  apply Fin.ext
  show min ((t.val / 6 * 6 + 3) % 6) 3 * 1024 + l.val = min (t.val % 6) 3 * 1024 + l.val
  omega

variable (c : Dev nD)

theorem final7 : (dats m 0 c).arrAt 7 cfg0.N = out7 m c := by
  refine (dats m 0 c).arrAt_eq_of_covers 7 _ (by decide +kernel) fun t hf y => ?_
  blk_simp
  rw [after_7]
  revert y
  suffices H : ∀ y : S512x4096.Idx, kept7 m c t y = out7 m c ((win0_7.blk t).view.emb y) from H
  intro y
  obtain ⟨r, l, rfl⟩ : ∃ (r : Fin 512) (l : Fin 4096), y = ix2 r l := by
    idx_vars y
    exact ⟨_, _, rfl⟩
  rw [kept7_apply]
  refine (show _ = out7 m c (ix2 (rowOf t r) l) from rfl).trans ?_
  unfold rowOf
  blk_ext [ind7]
theorem final8 : (dats m 0 c).arrAt 8 cfg0.N = out8 m c := by
  refine (dats m 0 c).arrAt_eq_of_covers 8 _ (by decide +kernel) fun t hf y => ?_
  blk_simp
  rw [after_8]
  revert y
  suffices H : ∀ y : S512x1.Idx, kept8 m c t y = out8 m c ((win0_8.blk t).view.emb y) from H
  intro y
  obtain ⟨r, l, rfl⟩ : ∃ (r : Fin 512) (l : Fin 1), y = ix2 r l := by
    idx_vars y
    exact ⟨_, _, rfl⟩
  rw [kept8_apply]
  refine (show _ = out8 m c (ix2 (rowOf t r) l) from rfl).trans ?_
  unfold rowOf
  blk_ext [ind8]
/-- What a point leaves in the window of q. -/
theorem after9 (hr : Reals m c) (t : Fin cfg0.N) (R : Fin 512) (l : Fin 1024) :
    (if h : t.val % 6 = 0 then outA9 m c t h else if h : t.val % 6 ≠ 0 ∧ t.val % 6 ≤ 3 then outB9 m c t h else outB9 m c (at_ 3 (by decide) t) (at9 t)) (ix2 R l)
      = out9 m c (ix2 (rowOf t R) (qcol t l)) := by
  by_cases h : t.val % 6 = 0
  · rw [dif_pos h, stored9A m c hr, gOf_q t (by omega), dof_q t]
    rfl
  · rw [dif_neg h]
    by_cases h' : t.val % 6 ≠ 0 ∧ t.val % 6 ≤ 3
    · rw [dif_pos h', stored9B m c hr, gOf_q t h'.2, dof_q t]
      rfl
    · rw [dif_neg h', stored9B m c hr, gOf_q _ (at9 t).2, dof_q (at_ 3 (by decide) t), rowOf_at]
      simp only [qcol_at t (by omega)]
      rfl
theorem final9 (hr : Reals m c) : (dats m 0 c).arrAt 9 cfg0.N = out9 m c := by
  refine (dats m 0 c).arrAt_eq_of_covers 9 _ (by decide +kernel) fun t hf y => ?_
  blk_simp
  rw [after_9]
  revert y
  suffices H : ∀ y : S512x1024.Idx, (if h : t.val % 6 = 0 then outA9 m c t h else if h : t.val % 6 ≠ 0 ∧ t.val % 6 ≤ 3 then outB9 m c t h else outB9 m c (at_ 3 (by decide) t) (at9 t)) y = out9 m c ((win0_9.blk t).view.emb y) from H
  intro y
  obtain ⟨r, l, rfl⟩ : ∃ (r : Fin 512) (l : Fin 1024), y = ix2 r l := by
    idx_vars y
    exact ⟨_, _, rfl⟩
  rw [after9 m c hr]
  unfold rowOf qcol
  blk_ext [ind9]
theorem final10 (hr : Reals m c) : (dats m 0 c).arrAt 10 cfg0.N = out10 m c := by
  refine (dats m 0 c).arrAt_eq_of_covers 10 _ (by decide +kernel) fun t hf y => ?_
  blk_simp
  rw [after_10]
  revert y
  suffices H : ∀ y : S512x1024.Idx, outC10 m c (at_ 4 (by decide) t) (at_mod 4 _ t) y = out10 m c ((win0_10.blk t).view.emb y) from H
  intro y
  obtain ⟨r, l, rfl⟩ : ∃ (r : Fin 512) (l : Fin 1024), y = ix2 r l := by
    idx_vars y
    exact ⟨_, _, rfl⟩
  rw [stored10 m c hr, rowOf_at, gOf_k _ (at_mod 4 _ t)]
  refine (show _ = out10 m c (ix2 (rowOf t r) l) from rfl).trans ?_
  unfold rowOf
  blk_ext [ind10]
theorem final11 : (dats m 0 c).arrAt 11 cfg0.N = out11 m c := by
  refine (dats m 0 c).arrAt_eq_of_covers 11 _ (by decide +kernel) fun t hf y => ?_
  blk_simp
  rw [after_11]
  revert y
  suffices H : ∀ y : S512x1024.Idx, outD11 m c (at_ 5 (by decide) t) (at_mod 5 _ t) y = out11 m c ((win0_11.blk t).view.emb y) from H
  intro y
  obtain ⟨r, l, rfl⟩ : ∃ (r : Fin 512) (l : Fin 1024), y = ix2 r l := by
    idx_vars y
    exact ⟨_, _, rfl⟩
  rw [stored11 m c, rowOf_at, gOf_v _ (at_mod 5 _ t)]
  refine (show _ = out11 m c (ix2 (rowOf t r) l) from rfl).trans ?_
  unfold rowOf
  blk_ext [ind11]
theorem final12 (hr : Reals m c) : (dats m 0 c).arrAt 12 cfg0.N = out12 m c := by
  refine (dats m 0 c).arrAt_eq_of_covers 12 _ (by decide +kernel) fun t hf y => ?_
  blk_simp
  rw [after_12]
  revert y
  suffices H : ∀ y : S512x512.Idx, outC12 m c (at_ 4 (by decide) t) (at_mod 4 _ t) y = out12 m c ((win0_12.blk t).view.emb y) from H
  intro y
  obtain ⟨r, l, rfl⟩ : ∃ (r : Fin 512) (l : Fin 512), y = ix2 r l := by
    idx_vars y
    exact ⟨_, _, rfl⟩
  rw [stored12 m c hr, rowOf_at, gOf_k _ (at_mod 4 _ t)]
  refine (show _ = out12 m c (ix2 (rowOf t r) l) from rfl).trans ?_
  unfold rowOf
  blk_ext [ind12]
theorem final13 : (dats m 0 c).arrAt 13 cfg0.N = out13 m c := by
  refine (dats m 0 c).arrAt_eq_of_covers 13 _ (by decide +kernel) fun t hf y => ?_
  blk_simp
  rw [after_13]
  revert y
  suffices H : ∀ y : S512x512.Idx, outD13 m c (at_ 5 (by decide) t) (at_mod 5 _ t) y = out13 m c ((win0_13.blk t).view.emb y) from H
  intro y
  obtain ⟨r, l, rfl⟩ : ∃ (r : Fin 512) (l : Fin 512), y = ix2 r l := by
    idx_vars y
    exact ⟨_, _, rfl⟩
  rw [stored13 m c, rowOf_at, gOf_v _ (at_mod 5 _ t)]
  refine (show _ = out13 m c (ix2 (rowOf t r) l) from rfl).trans ?_
  unfold rowOf
  blk_ext [ind13]
theorem final14 (hr : Reals m c) : (dats m 0 c).arrAt 14 cfg0.N = out14 m c := by
  refine (dats m 0 c).arrAt_eq_of_covers 14 _ (by decide +kernel) fun t hf y => ?_
  blk_simp
  rw [after_14]
  revert y
  suffices H : ∀ y : S512x8.Idx, outC14 m c (at_ 4 (by decide) t) (at_mod 4 _ t) y = out14 m c ((win0_14.blk t).view.emb y) from H
  intro y
  obtain ⟨r, l, rfl⟩ : ∃ (r : Fin 512) (l : Fin 8), y = ix2 r l := by
    idx_vars y
    exact ⟨_, _, rfl⟩
  rw [stored14 m c hr, rowOf_at, gOf_k _ (at_mod 4 _ t)]
  refine (show _ = out14 m c (ix2 (rowOf t r) l) from rfl).trans ?_
  unfold rowOf
  blk_ext [ind14]
theorem final15 (hr : Reals m c) : (dats m 0 c).arrAt 15 cfg0.N = out15 m c := by
  refine (dats m 0 c).arrAt_eq_of_covers 15 _ (by decide +kernel) fun t hf y => ?_
  blk_simp
  rw [after_15]
  revert y
  suffices H : ∀ y : S512x8.Idx, outC15 m c (at_ 4 (by decide) t) (at_mod 4 _ t) y = out15 m c ((win0_15.blk t).view.emb y) from H
  intro y
  obtain ⟨r, l, rfl⟩ : ∃ (r : Fin 512) (l : Fin 8), y = ix2 r l := by
    idx_vars y
    exact ⟨_, _, rfl⟩
  rw [stored15 m c hr, rowOf_at, gOf_k _ (at_mod 4 _ t)]
  refine (show _ = out15 m c (ix2 (rowOf t r) l) from rfl).trans ?_
  unfold rowOf
  blk_ext [ind15]
theorem final16 : (dats m 0 c).arrAt 16 cfg0.N = out16 m c := by
  refine (dats m 0 c).arrAt_eq_of_covers 16 _ (by decide +kernel) fun t hf y => ?_
  blk_simp
  rw [after_16]
  revert y
  suffices H : ∀ y : S512x8.Idx, outD16 m c (at_ 5 (by decide) t) (at_mod 5 _ t) y = out16 m c ((win0_16.blk t).view.emb y) from H
  intro y
  obtain ⟨r, l, rfl⟩ : ∃ (r : Fin 512) (l : Fin 8), y = ix2 r l := by
    idx_vars y
    exact ⟨_, _, rfl⟩
  rw [stored16 m c, rowOf_at, gOf_v _ (at_mod 5 _ t)]
  refine (show _ = out16 m c (ix2 (rowOf t r) l) from rfl).trans ?_
  unfold rowOf
  blk_ext [ind16]
theorem final17 : (dats m 0 c).arrAt 17 cfg0.N = out17 m c := by
  refine (dats m 0 c).arrAt_eq_of_covers 17 _ (by decide +kernel) fun t hf y => ?_
  blk_simp
  rw [after_17]
  revert y
  suffices H : ∀ y : S512x8.Idx, outD17 m c (at_ 5 (by decide) t) (at_mod 5 _ t) y = out17 m c ((win0_17.blk t).view.emb y) from H
  intro y
  obtain ⟨r, l, rfl⟩ : ∃ (r : Fin 512) (l : Fin 8), y = ix2 r l := by
    idx_vars y
    exact ⟨_, _, rfl⟩
  rw [stored17 m c, rowOf_at, gOf_v _ (at_mod 5 _ t)]
  refine (show _ = out17 m c (ix2 (rowOf t r) l) from rfl).trans ?_
  unfold rowOf
  blk_ext [ind17]

end Cert.QkvIdeal.Run

namespace Cert.Proof

open Idealize.ShloMosaic Idealize.ShloMosaic.Tactic Idealize.SL.Sem Cert.QkvIdeal.Run Cert.Quant Cert.QkvSpec

theorem both_ones : ∀ a b : BitVec 1, IntOp.andi a b = 1#1 → a = 1#1 ∧ b = 1#1 := by decide

/-- Whether a number is finite, as the precondition tests it. -/
def finiteBit (x : EReal) : BitVec 1 := Ideal.cmp .olt (max x (-x)) (Ideal.ofBits .f32 0x7F800000#32)

/-- The precondition at one place: the scale of a column of q or k, a cosine and a sine are finite. -/
theorem pre_apply (a0 : FVec Ideal Cert.Pre_finite_rows.S6144x4096 .bf16) (a1 : IVec Cert.Pre_finite_rows.S2048x6144 8)
    (a2 : FVec Ideal Cert.Pre_finite_rows.S1x6144 .f32) (a3 a4 : FVec Ideal Cert.Pre_finite_rows.S6144x64 .f32)
    (g : Fin 80) (r : Fin 6144) (d : Fin 64) :
    Cert.Pre_finite_rows.fn a0 a1 a2 a3 a4 (ix3 g r d)
      = IntOp.andi (IntOp.andi (finiteBit (a2 (ix2 0 ⟨g.val * 64 + d.val, by omega⟩))) (finiteBit (a3 (ix2 r d)))) (finiteBit (a4 (ix2 r d))) := by
  pointwise [Cert.Pre_finite_rows.fn]
  rfl

/-- The precondition says that the scales of q's and k's columns, the cosines and the sines are finite. -/
theorem finite_rows_apply (m : (ℓ : Loc Cert.QkvIdeal.nD Cert.QkvIdeal.τ Cert.QkvIdeal.sig) → Buf (Elt Ideal) ℓ)
    (h : Cert.Pre_QkvIdeal_finite_rows (hPre_finite_rows := Cert.Pre_finite_rows.Gen.facts) m) (c : Dev Cert.QkvIdeal.nD) : Reals m c := by
  have key (g : Fin 80) (r : Fin 6144) (d : Fin 64) : (IsReal (wsc m c ⟨g.val * 64 + d.val, by omega⟩) ∧ IsReal (cs m c r d)) ∧ IsReal (sn m c r d) := by
    have e := (pre_apply (in0 m c) (in1 m c) (in2 m c) (in3 m c) (in4 m c) g r d).symm.trans (congrFun (h c) (ix3 g r d))
    obtain ⟨e1, e2⟩ := both_ones _ _ e
    obtain ⟨e3, e4⟩ := both_ones _ _ e1
    exact ⟨⟨real_of_abs_lt _ e3, real_of_abs_lt _ e4⟩, real_of_abs_lt _ e2⟩
  refine ⟨fun l hl' => ?_, fun r d => (key 0 r d).1.2, fun r d => (key 0 r d).2⟩
  have hl : (⟨l.val / 64 * 64 + l.val % 64, by omega⟩ : Fin 6144) = l := Fin.ext (by show l.val / 64 * 64 + l.val % 64 = l.val; omega)
  exact hl ▸ (key ⟨l.val / 64, by omega⟩ 0 ⟨l.val % 64, by omega⟩).1.1

/-- Under the precondition the kernel call and the reference leave the same eleven results. -/
theorem qkv_algebraic : Cert.algebraic_QkvIdeal_RefQIdeal_pre_finite_rows (hQkvIdeal := Cert.QkvIdeal.Gen.facts) (hRefQIdeal := Cert.RefQIdeal.Gen.facts) (hPre_finite_rows := Cert.Pre_finite_rows.Gen.facts) := by
  intro m g m' g' hpre hagree
  have hr := finite_rows_apply m hpre
  refine ⟨out7 m, out8 m, out9 m, out10 m, out11 m, out12 m, out13 m, out14 m, out15 m, out16 m, out17 m, ?_, ?_⟩
  · exact (θ_run Cert.QkvIdeal.defs _ _).mono (fun r h c => ⟨((h c).1 7).trans (final7 m c), ((h c).1 8).trans (final8 m c), ((h c).1 9).trans (final9 m c (hr c)),
      ((h c).1 10).trans (final10 m c (hr c)), ((h c).1 11).trans (final11 m c), ((h c).1 12).trans (final12 m c (hr c)), ((h c).1 13).trans (final13 m c),
      ((h c).1 14).trans (final14 m c (hr c)), ((h c).1 15).trans (final15 m c (hr c)), ((h c).1 16).trans (final16 m c), ((h c).1 17).trans (final17 m c),
      ((h c).1 0).trans (((dats m 0 c).arrAt_in 0 rfl _).trans ((A_eq m c 0).trans (Cert.QkvIdeal.Gen.V_main_arg0 m c))),
      ((h c).1 1).trans (((dats m 0 c).arrAt_in 1 rfl _).trans ((A_eq m c 1).trans (Cert.QkvIdeal.Gen.V_main_arg1 m c))),
      ((h c).1 2).trans (((dats m 0 c).arrAt_in 2 rfl _).trans ((A_eq m c 2).trans (Cert.QkvIdeal.Gen.V_main_arg2 m c))),
      ((h c).1 3).trans (((dats m 0 c).arrAt_in 3 rfl _).trans ((A_eq m c 3).trans (Cert.QkvIdeal.Gen.V_main_arg3 m c))),
      ((h c).1 4).trans (((dats m 0 c).arrAt_in 4 rfl _).trans ((A_eq m c 4).trans (Cert.QkvIdeal.Gen.V_main_arg4 m c)))⟩) (run_main m g)
  · refine (θ_run Cert.RefQIdeal.defs _ _).mono (fun r h c => ?_) (Cert.RefQIdeal.Value.run (F := Ideal) m' g')
    obtain ⟨h0, h1, h2, h3, h4, h5, h6, h7, h8, h9, h10, ha⟩ := h c
    obtain ⟨g0, g1, g2, g3, g4⟩ := hagree c
    have e0 : StableHlo.launchContents m' c (Proc.devRef .tc Cert.RefQIdeal.main_arg0) = in0 m c := g0
    have e1 : StableHlo.launchContents m' c (Proc.devRef .tc Cert.RefQIdeal.main_arg1) = in1 m c := g1
    have e2 : StableHlo.launchContents m' c (Proc.devRef .tc Cert.RefQIdeal.main_arg2) = in2 m c := g2
    have e3 : StableHlo.launchContents m' c (Proc.devRef .tc Cert.RefQIdeal.main_arg3) = in3 m c := g3
    have e4 : StableHlo.launchContents m' c (Proc.devRef .tc Cert.RefQIdeal.main_arg4) = in4 m c := g4
    refine ⟨h0.trans ((Cert.RefQIdeal.Read.val_main_v30_eq _).trans ?_),
      h1.trans ((Cert.RefQIdeal.Read.val_main_v181_eq _).trans ?_),
      h2.trans ((Cert.RefQIdeal.Read.val_main_v183_eq _).trans ?_),
      h3.trans ((Cert.RefQIdeal.Read.val_main_v184_eq _).trans ?_),
      h4.trans ((Cert.RefQIdeal.Read.val_main_v185_eq _).trans ?_),
      h5.trans ((Cert.RefQIdeal.Read.val_main_v186_eq _).trans ?_),
      h6.trans ((Cert.RefQIdeal.Read.val_main_v187_eq _).trans ?_),
      h7.trans ((Cert.RefQIdeal.Read.val_main_v128_eq _).trans ?_),
      h8.trans ((Cert.RefQIdeal.Read.val_main_v119_eq _).trans ?_),
      h9.trans ((Cert.RefQIdeal.Read.val_main_v160_eq _).trans ?_),
      h10.trans ((Cert.RefQIdeal.Read.val_main_v151_eq _).trans ?_), ha⟩
    · rw [e0]
      funext i
      obtain ⟨r, l, rfl⟩ : ∃ (r : Fin 6144) (l : Fin 4096), i = ix2 r l := by
        idx_vars i
        exact ⟨_, _, rfl⟩
      exact Cert.RefQIdeal.Rows.v30_eq _ r l
    · rw [e0]
      funext i
      obtain ⟨r, l, rfl⟩ : ∃ (r : Fin 6144) (l : Fin 1), i = ix2 r l := by
        idx_vars i
        exact ⟨_, _, rfl⟩
      exact Cert.RefQIdeal.Rows.v181_eq _ r l
    · rw [e0, e1, e2, e3, e4]
      funext i
      obtain ⟨r, l, rfl⟩ : ∃ (r : Fin 6144) (l : Fin 4096), i = ix2 r l := by
        idx_vars i
        exact ⟨_, _, rfl⟩
      exact Cert.RefQIdeal.Rows.v183_eq _ _ _ _ _ r l
    · rw [e0, e1, e2, e3, e4]
      funext i
      obtain ⟨r, l, rfl⟩ : ∃ (r : Fin 6144) (l : Fin 1024), i = ix2 r l := by
        idx_vars i
        exact ⟨_, _, rfl⟩
      exact Cert.RefQIdeal.Rows.v184_eq _ _ _ _ _ r l
    · rw [e0, e1, e2]
      funext i
      obtain ⟨r, l, rfl⟩ : ∃ (r : Fin 6144) (l : Fin 1024), i = ix2 r l := by
        idx_vars i
        exact ⟨_, _, rfl⟩
      exact Cert.RefQIdeal.Rows.v185_eq _ _ _ r l
    · rw [e0, e1, e2, e3, e4]
      funext i
      obtain ⟨r, l, rfl⟩ : ∃ (r : Fin 6144) (l : Fin 512), i = ix2 r l := by
        idx_vars i
        exact ⟨_, _, rfl⟩
      exact Cert.RefQIdeal.Rows.v186_eq _ _ _ _ _ r l
    · rw [e0, e1, e2]
      funext i
      obtain ⟨r, l, rfl⟩ : ∃ (r : Fin 6144) (l : Fin 512), i = ix2 r l := by
        idx_vars i
        exact ⟨_, _, rfl⟩
      exact Cert.RefQIdeal.Rows.v187_eq _ _ _ r l
    · rw [e0, e1, e2, e3, e4]
      funext i
      obtain ⟨r, l, rfl⟩ : ∃ (r : Fin 6144) (l : Fin 8), i = ix2 r l := by
        idx_vars i
        exact ⟨_, _, rfl⟩
      exact Cert.RefQIdeal.Rows.v128_eq _ _ _ _ _ r l
    · rw [e0, e1, e2, e3, e4]
      funext i
      obtain ⟨r, l, rfl⟩ : ∃ (r : Fin 6144) (l : Fin 8), i = ix2 r l := by
        idx_vars i
        exact ⟨_, _, rfl⟩
      exact Cert.RefQIdeal.Rows.v119_eq _ _ _ _ _ r l
    · rw [e0, e1, e2]
      funext i
      obtain ⟨r, l, rfl⟩ : ∃ (r : Fin 6144) (l : Fin 8), i = ix2 r l := by
        idx_vars i
        exact ⟨_, _, rfl⟩
      exact Cert.RefQIdeal.Rows.v160_eq _ _ _ r l
    · rw [e0, e1, e2]
      funext i
      obtain ⟨r, l, rfl⟩ : ∃ (r : Fin 6144) (l : Fin 8), i = ix2 r l := by
        idx_vars i
        exact ⟨_, _, rfl⟩
      exact Cert.RefQIdeal.Rows.v151_eq _ _ _ r l

end Cert.Proof
end
end
-- ==== Proof.lean ====
/- The claims, each from the module that proves it: the frames of the three calls and of their references, what the ideal
   pass names, and the values of the two projections' calls. -/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.RefQIdeal.Run
public import proofs.«01_k».proof.Proof.Gen.RefAIdeal.Run
public import proofs.«01_k».proof.Proof.Gen.RefOIdeal.Run
public import proofs.«01_k».proof.Proof.Gen.RefQIdeal.Read
public import proofs.«01_k».proof.Proof.Gen.RefAIdeal.Read
public import proofs.«01_k».proof.Proof.Gen.RefOIdeal.Read
public import proofs.«01_k».proof.Proof.Qkv.Same
public import proofs.«01_k».proof.Proof.Oproj.Same
public import proofs.«01_k».proof.Proof.Oproj.Value
public import proofs.«01_k».proof.Proof.Qkv.Value
public import Idealize.ShloMosaic.Adequacy
public import Idealize.ShloMosaic.Init

@[expose] public section

noncomputable section

namespace Cert.Proof

open Idealize.ShloMosaic Idealize.SL.Sem

/-- The references end with their arguments unchanged: each is a run of host operations. -/
theorem frame_refq : Cert.quiescent_RefQIdeal (hRefQIdeal := Cert.RefQIdeal.Gen.facts) := fun m ρ _ =>
  (θ_run Cert.RefQIdeal.defs _ _).mono (fun r h => ⟨fun c => (h c).2.2.2.2.2.2.2.2.2.2.2, sem_eq_zero_of_no_sems (by decide) r.2⟩)
    (Cert.RefQIdeal.Value.run (F := Ideal) m ρ)
theorem frame_refa : Cert.quiescent_RefAIdeal (hRefAIdeal := Cert.RefAIdeal.Gen.facts) := fun m ρ _ =>
  (θ_run Cert.RefAIdeal.defs _ _).mono (fun r h => ⟨fun c => (h c).2, sem_eq_zero_of_no_sems (by decide) r.2⟩)
    (Cert.RefAIdeal.Value.run (F := Ideal) m ρ)
theorem frame_refo : Cert.quiescent_RefOIdeal (hRefOIdeal := Cert.RefOIdeal.Gen.facts) := fun m ρ _ =>
  (θ_run Cert.RefOIdeal.defs _ _).mono (fun r h => ⟨fun c => (h c).2.2.2, sem_eq_zero_of_no_sems (by decide) r.2⟩)
    (Cert.RefOIdeal.Value.run (F := Ideal) m ρ)

theorem claim : Cert.Claim := ⟨Cert.Qkv.Gen.facts, Cert.QkvIdeal.Gen.facts, Cert.RefQIdeal.Gen.facts, Cert.Attn.Gen.facts, Cert.AttnIdeal.Gen.facts, Cert.RefAIdeal.Gen.facts, Cert.Oproj.Gen.facts, Cert.OprojIdeal.Gen.facts, Cert.RefOIdeal.Gen.facts, Cert.Pre_finite_rows.Gen.facts, Cert.Pre_finite_attn.Gen.facts,
  fun m ρ _ => Cert.Qkv.Same.frame _ m ρ,
  fun m ρ _ => Cert.QkvIdeal.Run.frame m ρ,
  fun m ρ _ => Cert.QkvIdeal.Run.frame m ρ,
  frame_refq,
  fun m ρ _ => frame_refq m ρ trivial,
  fun m ρ _ => Cert.Attn.Gen.frame m ρ,
  fun m ρ _ => Cert.AttnIdeal.Gen.frame m ρ,
  frame_refa,
  fun m ρ _ => Cert.Oproj.Same.frame _ m ρ,
  fun m ρ _ => Cert.OprojIdeal.Run.frame m ρ,
  fun m ρ _ => Cert.OprojIdeal.Run.frame m ρ,
  frame_refo,
  fun m ρ _ => frame_refo m ρ trivial,
  trivial,
  qkv_algebraic,
  IdealRules.named_const.statement _ _ _ _ _ rfl,
  trivial,
  oproj_algebraic⟩

end Cert.Proof

end
